-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 256]⟩ ⟨2, ![8192, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 4096]⟩ ⟨2, ![8192, 4096]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.block ⟨2, ![256, 4096]⟩ ⟨2, ![8192, 4096]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_on_within_clip [hKernelIdeal : Cert.KernelIdeal.Facts] [hClippedIdeal : Cert.ClippedIdeal.Facts] [hOn_within_clip : Cert.On_within_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 256]⟩ ⟨2, ![8192, 8192]⟩ 1 32 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![256, 4096]⟩ ⟨2, ![8192, 4096]⟩ 0 32 c (m' (((0 : Dev Cert.ClippedIdeal.nD).tc : Thread Cert.ClippedIdeal.nD Cert.ClippedIdeal.τ).loc Cert.ClippedIdeal.main_arg1))) →
    ∃ (v0 : Buf (Elt Ideal) (((0 : Dev Cert.ClippedIdeal.nD).tc : Thread Cert.ClippedIdeal.nD Cert.ClippedIdeal.τ).loc Cert.ClippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 4096]⟩ : Shape).Idx, (Layout.block ⟨2, ![256, 4096]⟩ ⟨2, ![8192, 4096]⟩ 0 32 c ((Cert.On_within_clip.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)))) : (⟨2, ![256, 4096]⟩ : Shape).Idx → _) i = 1#1 → r.2.mem ((c.tc : Thread Cert.KernelIdeal.nD Cert.KernelIdeal.τ).loc Cert.KernelIdeal.main_v12) i = (Layout.block ⟨2, ![256, 4096]⟩ ⟨2, ![8192, 4096]⟩ 0 32 c v0 : (⟨2, ![256, 4096]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![8192, 4096]⟩ : Shape).Idx, (Cert.On_within_clip.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1))) i = 1#1 → r.2.mem (((0 : Dev Cert.ClippedIdeal.nD).tc : Thread Cert.ClippedIdeal.nD Cert.ClippedIdeal.τ).loc Cert.ClippedIdeal.main_v6) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hOn_within_clip : Cert.On_within_clip.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_within_clip (hKernelIdeal := hKernelIdeal) (hClippedIdeal := hClippedIdeal) (hOn_within_clip := hOn_within_clip)
-- ==== On_within_clip.lean ====
abbrev S8192x8192 : Shape := ⟨2, ![8192, 8192]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .f32) (main_arg1 : FVec F S8192x4096 .f32) : IVec S8192x4096 1 :=
  let main_v0 : FVec F S8192x4096 .f32 := (fun l r => Host.dotGeneral dot_S8192x8192_S8192x4096_S8192x4096_1_0_0_1_n_n none l r) main_arg0 main_arg1
  let main_v1 : FVec F S8192x4096 .f32 := Host.absf main_v0
  let main_cst : FVec F S_ .f32 := constant S_ .f32 0x42700000#32
  let main_v2 : FVec F S8192x4096 .f32 := broadcastInDim S8192x4096 ![] bcast_S_S8192x4096 main_cst
  let main_v3 : IVec S8192x4096 1 := cmpf .ole main_v1 main_v2
  main_v3
-- ==== Kernel.lean ====
abbrev S8192x256 : Shape := ⟨2, ![8192, 256]⟩
abbrev S256x4096 : Shape := ⟨2, ![256, 4096]⟩
abbrev S32 : Shape := ⟨1, ![32]⟩
abbrev S32x32 : Shape := ⟨2, ![32, 32]⟩
abbrev S_ : Shape := ⟨0, ![]⟩
abbrev S1 : Shape := ⟨1, ![1]⟩
abbrev S66 : Shape := ⟨1, ![66]⟩
abbrev S2x256x2048 : Shape := ⟨3, ![2, 256, 2048]⟩
abbrev S2x2 : Shape := ⟨2, ![2, 2]⟩
abbrev S256x256 : Shape := ⟨2, ![256, 256]⟩
abbrev S256x2048 : Shape := ⟨2, ![256, 2048]⟩
abbrev S256x1024 : Shape := ⟨2, ![256, 1024]⟩
abbrev S1x256x1024 : Shape := ⟨3, ![1, 256, 1024]⟩
abbrev S1x1 : Shape := ⟨2, ![1, 1]⟩

abbrev nBuf : Space → Nat
  | .hbm => 88
  | .vmem => 7
  | .smem => 1
  | _ => 0

abbrev bufTy : (tb : Table) → Fin (tcTables nBuf tb) → BufTy
  | .hbm, ⟨0, _⟩ => ⟨S8192x256, .f32⟩
  | .hbm, ⟨1, _⟩ => ⟨S256x4096, .f32⟩
  | .hbm, ⟨2, _⟩ => ⟨S32, .i32⟩
  | .hbm, ⟨3, _⟩ => ⟨S32, .i32⟩
  | .hbm, ⟨4, _⟩ => ⟨S32x32, .i32⟩
  | .hbm, ⟨5, _⟩ => ⟨S32x32, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S1, .i1⟩
  | .hbm, ⟨22, _⟩ => ⟨S1, .i1⟩
  | .hbm, ⟨23, _⟩ => ⟨S1, .i1⟩
  | .hbm, ⟨24, _⟩ => ⟨S_, .i1⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S1, .i1⟩
  | .hbm, ⟨40, _⟩ => ⟨S1, .i1⟩
  | .hbm, ⟨41, _⟩ => ⟨S1, .i1⟩
  | .hbm, ⟨42, _⟩ => ⟨S_, .i1⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S1, .i1⟩
  | .hbm, ⟨58, _⟩ => ⟨S1, .i1⟩
  | .hbm, ⟨59, _⟩ => ⟨S1, .i1⟩
  | .hbm, ⟨60, _⟩ => ⟨S_, .i1⟩
  | .hbm, ⟨61, _⟩ => ⟨S_, .i1⟩
  | .hbm, ⟨62, _⟩ => ⟨S32, .i32⟩
  | .hbm, ⟨63, _⟩ => ⟨S32, .i1⟩
  | .hbm, ⟨64, _⟩ => ⟨S_, .i32⟩
  | .hbm, ⟨65, _⟩ => ⟨S32, .i32⟩
  | .hbm, ⟨66, _⟩ => ⟨S32, .i32⟩
  | .hbm, ⟨67, _⟩ => ⟨S_, .i32⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1, .i32⟩
  | .hbm, ⟨73, _⟩ => ⟨S1, .i32⟩
  | .hbm, ⟨74, _⟩ => ⟨S_, .i32⟩
  | .hbm, ⟨75, _⟩ => ⟨S1, .i32⟩
  | .hbm, ⟨76, _⟩ => ⟨S1, .i1⟩
  | .hbm, ⟨77, _⟩ => ⟨S1, .i1⟩
  | .hbm, ⟨78, _⟩ => ⟨S1, .i1⟩
  | .hbm, ⟨79, _⟩ => ⟨S_, .i1⟩
  | .hbm, ⟨80, _⟩ => ⟨S_, .i1⟩
  | .hbm, ⟨81, _⟩ => ⟨S32, .i32⟩
  | .hbm, ⟨82, _⟩ => ⟨S32, .i1⟩
  | .hbm, ⟨83, _⟩ => ⟨S_, .i32⟩
  | .hbm, ⟨84, _⟩ => ⟨S32, .i32⟩
  | .hbm, ⟨85, _⟩ => ⟨S32, .i32⟩
  | .hbm, ⟨86, _⟩ => ⟨S66, .i32⟩
  | .hbm, ⟨87, _⟩ => ⟨S256x4096, .f32⟩
  | .local _ .vmem, ⟨0, _⟩ => ⟨S8192x256, .f32⟩
  | .local _ .vmem, ⟨1, _⟩ => ⟨S256x4096, .f32⟩
  | .local _ .vmem, ⟨2, _⟩ => ⟨S256x4096, .f32⟩
  | .local _ .vmem, ⟨3, _⟩ => ⟨S2x256x2048, .f32⟩
  | .local _ .vmem, ⟨4, _⟩ => ⟨S2x256x2048, .f32⟩
  | .local _ .vmem, ⟨5, _⟩ => ⟨S2x256x2048, .f32⟩
  | .local _ .vmem, ⟨6, _⟩ => ⟨S2x256x2048, .f32⟩
  | .local _ .smem, ⟨0, _⟩ => ⟨S66, .i32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 3 20 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_c_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_c_1 : Ref sig .tc := ⟨.hbm, 18, rfl⟩
abbrev main_call0_c_2 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_c_3 : Ref sig .tc := ⟨.hbm, 24, rfl⟩
abbrev main_call0_v8 : Ref sig .tc := ⟨.hbm, 25, rfl⟩
abbrev main_call0_v9 : Ref sig .tc := ⟨.hbm, 26, rfl⟩
abbrev main_call0_c_4 : Ref sig .tc := ⟨.hbm, 27, rfl⟩
abbrev main_v5 : Ref sig .tc := ⟨.hbm, 28, rfl⟩
abbrev main_v6 : Ref sig .tc := ⟨.hbm, 29, rfl⟩
abbrev main_call1_c : Ref sig .tc := ⟨.hbm, 30, rfl⟩
abbrev main_call1_v0 : Ref sig .tc := ⟨.hbm, 31, rfl⟩
abbrev main_call1_c_0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_c_1 : Ref sig .tc := ⟨.hbm, 36, rfl⟩
abbrev main_call1_c_2 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_c_3 : Ref sig .tc := ⟨.hbm, 42, rfl⟩
abbrev main_call1_v8 : Ref sig .tc := ⟨.hbm, 43, rfl⟩
abbrev main_call1_v9 : Ref sig .tc := ⟨.hbm, 44, rfl⟩
abbrev main_call1_c_4 : Ref sig .tc := ⟨.hbm, 45, rfl⟩
abbrev main_v7 : Ref sig .tc := ⟨.hbm, 46, rfl⟩
abbrev main_v8 : Ref sig .tc := ⟨.hbm, 47, rfl⟩
abbrev main_call2_c : Ref sig .tc := ⟨.hbm, 48, rfl⟩
abbrev main_call2_v0 : Ref sig .tc := ⟨.hbm, 49, rfl⟩
abbrev main_call2_c_0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_c_1 : Ref sig .tc := ⟨.hbm, 54, rfl⟩
abbrev main_call2_c_2 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_c_3 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_c_4 : Ref sig .tc := ⟨.hbm, 64, rfl⟩
abbrev main_call2_v11 : Ref sig .tc := ⟨.hbm, 65, rfl⟩
abbrev main_v9 : Ref sig .tc := ⟨.hbm, 66, rfl⟩
abbrev main_call3_c : Ref sig .tc := ⟨.hbm, 67, rfl⟩
abbrev main_call3_v0 : Ref sig .tc := ⟨.hbm, 68, rfl⟩
abbrev main_call3_c_0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_c_1 : Ref sig .tc := ⟨.hbm, 73, rfl⟩
abbrev main_call3_c_2 : Ref sig .tc := ⟨.hbm, 74, rfl⟩
abbrev main_call3_v4 : Ref sig .tc := ⟨.hbm, 75, rfl⟩
abbrev main_call3_v5 : Ref sig .tc := ⟨.hbm, 76, rfl⟩
abbrev main_call3_v6 : Ref sig .tc := ⟨.hbm, 77, rfl⟩
abbrev main_call3_v7 : Ref sig .tc := ⟨.hbm, 78, rfl⟩
abbrev main_call3_c_3 : Ref sig .tc := ⟨.hbm, 79, rfl⟩
abbrev main_call3_v8 : Ref sig .tc := ⟨.hbm, 80, rfl⟩
abbrev main_call3_v9 : Ref sig .tc := ⟨.hbm, 81, rfl⟩
abbrev main_call3_v10 : Ref sig .tc := ⟨.hbm, 82, rfl⟩
abbrev main_call3_c_4 : Ref sig .tc := ⟨.hbm, 83, rfl⟩
abbrev main_call3_v11 : Ref sig .tc := ⟨.hbm, 84, rfl⟩
abbrev main_v10 : Ref sig .tc := ⟨.hbm, 85, rfl⟩
abbrev main_v11 : Ref sig .tc := ⟨.hbm, 86, rfl⟩
abbrev main_v12 : Ref sig .tc := ⟨.hbm, 87, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v3 : BitVec 32 := Scalar.muli v1 c1_i32_0
  let v4 : BitVec 32 := Scalar.addi c0_i32 v3
  v4.toNat

def k0_dev2 (v0 : BitVec 32) : Nat :=
  let c0_i32_3 : BitVec 32 := 0#32
  let c1_i32_2 : BitVec 32 := 1#32
  let v5 : BitVec 32 := Scalar.muli v0 c1_i32_2
  let v6 : BitVec 32 := Scalar.addi c0_i32_3 v5
  v6.toNat

def k0_off1 (v7 : BitVec 32) : Fin 2 → Nat :=
  let c256_i32 : BitVec 32 := 256#32
  let v8 : BitVec 32 := Scalar.muli v7 c256_i32
  let v9 : Index := Scalar.indexCast v8
  let c0_4 : Index := 0#32
  ![v9.toNat, 0]

def k0_chk3 (v7 : BitVec 32) : Prop :=
  (∀ a, (k0_off1 v7) a + S256x256.size a ≤ S8192x256.size a)
theorem k0_off1_inb : ∀ (v7 : BitVec 32) (k0_hw3 : k0_chk3 v7), ∀ a, (k0_off1 v7) a + S256x256.size a ≤ S8192x256.size a := fun v7 k0_hw3 => k0_hw3

def k0_off2 (v15 : BitVec 32) : Fin 2 → Nat :=
  let c256_i32_7 : BitVec 32 := 256#32
  let v16 : BitVec 32 := Scalar.muli v15 c256_i32_7
  let v17 : Index := Scalar.indexCast v16
  let c0_8 : Index := 0#32
  ![v17.toNat, 0]

def k0_chk4 (v15 : BitVec 32) : Prop :=
  (∀ a, (k0_off2 v15) a + S256x256.size a ≤ S8192x256.size a)
theorem k0_off2_inb : ∀ (v15 : BitVec 32) (k0_hw4 : k0_chk4 v15), ∀ a, (k0_off2 v15) a + S256x256.size a ≤ S8192x256.size a := fun v15 k0_hw4 => k0_hw4

def k0_dev3 (v0 : BitVec 32) : Nat :=
  let c0_i32_21 : BitVec 32 := 0#32
  let c1_i32_20 : BitVec 32 := 1#32
  let v27 : BitVec 32 := Scalar.muli v0 c1_i32_20
  let v28 : BitVec 32 := Scalar.addi c0_i32_21 v27
  v28.toNat
def k0_dev4 (v1 : BitVec 32) : Nat :=
  let c0_i32_36 : BitVec 32 := 0#32
  let c1_i32_35 : BitVec 32 := 1#32
  let v41 : BitVec 32 := Scalar.muli v1 c1_i32_35
  let v42 : BitVec 32 := Scalar.addi c0_i32_36 v41
  v42.toNat
def k0_dev5 (v0 : BitVec 32) : Nat :=
  let c0_i32_50 : BitVec 32 := 0#32
  let c1_i32_49 : BitVec 32 := 1#32
  let v55 : BitVec 32 := Scalar.muli v0 c1_i32_49
  let v56 : BitVec 32 := Scalar.addi c0_i32_50 v55
  v56.toNat
def k0_dev6 (v1 : BitVec 32) : Nat :=
  let c0_i32_64 : BitVec 32 := 0#32
  let c1_i32_63 : BitVec 32 := 1#32
  let v69 : BitVec 32 := Scalar.muli v1 c1_i32_63
  let v70 : BitVec 32 := Scalar.addi c0_i32_64 v69
  v70.toNat
def k0_off3 (v79 : BitVec 32) : Fin 2 → Nat :=
  let c256_i32_69 : BitVec 32 := 256#32
  let v80 : BitVec 32 := Scalar.muli v79 c256_i32_69
  let v81 : Index := Scalar.indexCast v80
  let c0_70 : Index := 0#32
  ![v81.toNat, 0]

def k0_chk5 (v79 : BitVec 32) : Prop :=
  (∀ a, (k0_off3 v79) a + S256x256.size a ≤ S8192x256.size a)
theorem k0_off3_inb : ∀ (v79 : BitVec 32) (k0_hw5 : k0_chk5 v79), ∀ a, (k0_off3 v79) a + S256x256.size a ≤ S8192x256.size a := fun v79 k0_hw5 => k0_hw5

def k0_off4 (v87 : BitVec 32) : Fin 2 → Nat :=
  let c256_i32_74 : BitVec 32 := 256#32
  let v88 : BitVec 32 := Scalar.muli v87 c256_i32_74
  let v89 : Index := Scalar.indexCast v88
  let c0_75 : Index := 0#32
  ![v89.toNat, 0]

def k0_chk6 (v87 : BitVec 32) : Prop :=
  (∀ a, (k0_off4 v87) a + S256x256.size a ≤ S8192x256.size a)
theorem k0_off4_inb : ∀ (v87 : BitVec 32) (k0_hw6 : k0_chk6 v87), ∀ a, (k0_off4 v87) a + S256x256.size a ≤ S8192x256.size a := fun v87 k0_hw6 => k0_hw6

def k0_dev7 (v0 : BitVec 32) : Nat :=
  let c0_i32_115 : BitVec 32 := 0#32
  let c1_i32_114 : BitVec 32 := 1#32
  let v116 : BitVec 32 := Scalar.muli v0 c1_i32_114
  let v117 : BitVec 32 := Scalar.addi c0_i32_115 v116
  v117.toNat
def k0_dev8 (v1 : BitVec 32) : Nat :=
  let c0_i32_156 : BitVec 32 := 0#32
  let c1_i32_155 : BitVec 32 := 1#32
  let v147 : BitVec 32 := Scalar.muli v1 c1_i32_155
  let v148 : BitVec 32 := Scalar.addi c0_i32_156 v147
  v148.toNat
def k0_dev9 (v0 : BitVec 32) : Nat :=
  let c0_i32_197 : BitVec 32 := 0#32
  let c1_i32_196 : BitVec 32 := 1#32
  let v178 : BitVec 32 := Scalar.muli v0 c1_i32_196
  let v179 : BitVec 32 := Scalar.addi c0_i32_197 v178
  v179.toNat
def k0_dev10 (v1 : BitVec 32) : Nat :=
  let c0_i32_238 : BitVec 32 := 0#32
  let c1_i32_237 : BitVec 32 := 1#32
  let v209 : BitVec 32 := Scalar.muli v1 c1_i32_237
  let v210 : BitVec 32 := Scalar.addi c0_i32_238 v209
  v210.toNat
def k0_dev11 (v1 : BitVec 32) : Nat :=
  let c0_i32_245 : BitVec 32 := 0#32
  let c1_i32_244 : BitVec 32 := 1#32
  let v219 : BitVec 32 := Scalar.muli v1 c1_i32_244
  let v220 : BitVec 32 := Scalar.addi c0_i32_245 v219
  v220.toNat
def k0_dev12 (v0 : BitVec 32) : Nat :=
  let c0_i32_248 : BitVec 32 := 0#32
  let c1_i32_247 : BitVec 32 := 1#32
  let v221 : BitVec 32 := Scalar.muli v0 c1_i32_247
  let v222 : BitVec 32 := Scalar.addi c0_i32_248 v221
  v222.toNat
def k0_off5 (v223 : BitVec 32) : Fin 2 → Nat :=
  let c256_i32_249 : BitVec 32 := 256#32
  let v224 : BitVec 32 := Scalar.muli v223 c256_i32_249
  let v225 : Index := Scalar.indexCast v224
  let c0_250 : Index := 0#32
  ![v225.toNat, 0]

def k0_chk7 (v223 : BitVec 32) : Prop :=
  (∀ a, (k0_off5 v223) a + S256x256.size a ≤ S8192x256.size a)
theorem k0_off5_inb : ∀ (v223 : BitVec 32) (k0_hw7 : k0_chk7 v223), ∀ a, (k0_off5 v223) a + S256x256.size a ≤ S8192x256.size a := fun v223 k0_hw7 => k0_hw7

def k0_off6 (v231 : BitVec 32) : Fin 2 → Nat :=
  let c256_i32_254 : BitVec 32 := 256#32
  let v232 : BitVec 32 := Scalar.muli v231 c256_i32_254
  let v233 : Index := Scalar.indexCast v232
  let c0_255 : Index := 0#32
  ![v233.toNat, 0]

def k0_chk8 (v231 : BitVec 32) : Prop :=
  (∀ a, (k0_off6 v231) a + S256x256.size a ≤ S8192x256.size a)
theorem k0_off6_inb : ∀ (v231 : BitVec 32) (k0_hw8 : k0_chk8 v231), ∀ a, (k0_off6 v231) a + S256x256.size a ≤ S8192x256.size a := fun v231 k0_hw8 => k0_hw8

def k0_dev13 (v0 : BitVec 32) : Nat :=
  let c0_i32_297 : BitVec 32 := 0#32
  let c1_i32_296 : BitVec 32 := 1#32
  let v260 : BitVec 32 := Scalar.muli v0 c1_i32_296
  let v261 : BitVec 32 := Scalar.addi c0_i32_297 v260
  v261.toNat
def k0_dev14 (v1 : BitVec 32) : Nat :=
  let c0_i32_340 : BitVec 32 := 0#32
  let c1_i32_339 : BitVec 32 := 1#32
  let v291 : BitVec 32 := Scalar.muli v1 c1_i32_339
  let v292 : BitVec 32 := Scalar.addi c0_i32_340 v291
  v292.toNat
def k0_dev15 (v0 : BitVec 32) : Nat :=
  let c0_i32_381 : BitVec 32 := 0#32
  let c1_i32_380 : BitVec 32 := 1#32
  let v322 : BitVec 32 := Scalar.muli v0 c1_i32_380
  let v323 : BitVec 32 := Scalar.addi c0_i32_381 v322
  v323.toNat
def k0_dev16 (v1 : BitVec 32) : Nat :=
  let c0_i32_422 : BitVec 32 := 0#32
  let c1_i32_421 : BitVec 32 := 1#32
  let v353 : BitVec 32 := Scalar.muli v1 c1_i32_421
  let v354 : BitVec 32 := Scalar.addi c0_i32_422 v353
  v354.toNat
def k0_dev17 (v1 : BitVec 32) : Nat :=
  let c0_i32_429 : BitVec 32 := 0#32
  let c1_i32_428 : BitVec 32 := 1#32
  let v363 : BitVec 32 := Scalar.muli v1 c1_i32_428
  let v364 : BitVec 32 := Scalar.addi c0_i32_429 v363
  v364.toNat
def k0_dev18 (v0 : BitVec 32) : Nat :=
  let c0_i32_432 : BitVec 32 := 0#32
  let c1_i32_431 : BitVec 32 := 1#32
  let v365 : BitVec 32 := Scalar.muli v0 c1_i32_431
  let v366 : BitVec 32 := Scalar.addi c0_i32_432 v365
  v366.toNat
def k0_off7 (v367 : BitVec 32) : Fin 2 → Nat :=
  let c256_i32_433 : BitVec 32 := 256#32
  let v368 : BitVec 32 := Scalar.muli v367 c256_i32_433
  let v369 : Index := Scalar.indexCast v368
  let c0_434 : Index := 0#32
  ![v369.toNat, 0]

def k0_chk9 (v367 : BitVec 32) : Prop :=
  (∀ a, (k0_off7 v367) a + S256x256.size a ≤ S8192x256.size a)
theorem k0_off7_inb : ∀ (v367 : BitVec 32) (k0_hw9 : k0_chk9 v367), ∀ a, (k0_off7 v367) a + S256x256.size a ≤ S8192x256.size a := fun v367 k0_hw9 => k0_hw9

def k0_off8 (v375 : BitVec 32) : Fin 2 → Nat :=
  let c256_i32_438 : BitVec 32 := 256#32
  let v376 : BitVec 32 := Scalar.muli v375 c256_i32_438
  let v377 : Index := Scalar.indexCast v376
  let c0_439 : Index := 0#32
  ![v377.toNat, 0]

def k0_chk10 (v375 : BitVec 32) : Prop :=
  (∀ a, (k0_off8 v375) a + S256x256.size a ≤ S8192x256.size a)
theorem k0_off8_inb : ∀ (v375 : BitVec 32) (k0_hw10 : k0_chk10 v375), ∀ a, (k0_off8 v375) a + S256x256.size a ≤ S8192x256.size a := fun v375 k0_hw10 => k0_hw10

def k0_dev19 (v0 : BitVec 32) : Nat :=
  let c0_i32_481 : BitVec 32 := 0#32
  let c1_i32_480 : BitVec 32 := 1#32
  let v404 : BitVec 32 := Scalar.muli v0 c1_i32_480
  let v405 : BitVec 32 := Scalar.addi c0_i32_481 v404
  v405.toNat
def k0_dev20 (v1 : BitVec 32) : Nat :=
  let c0_i32_524 : BitVec 32 := 0#32
  let c1_i32_523 : BitVec 32 := 1#32
  let v435 : BitVec 32 := Scalar.muli v1 c1_i32_523
  let v436 : BitVec 32 := Scalar.addi c0_i32_524 v435
  v436.toNat
def k0_dev21 (v0 : BitVec 32) : Nat :=
  let c0_i32_565 : BitVec 32 := 0#32
  let c1_i32_564 : BitVec 32 := 1#32
  let v466 : BitVec 32 := Scalar.muli v0 c1_i32_564
  let v467 : BitVec 32 := Scalar.addi c0_i32_565 v466
  v467.toNat
def k0_dev22 (v1 : BitVec 32) : Nat :=
  let c0_i32_606 : BitVec 32 := 0#32
  let c1_i32_605 : BitVec 32 := 1#32
  let v497 : BitVec 32 := Scalar.muli v1 c1_i32_605
  let v498 : BitVec 32 := Scalar.addi c0_i32_606 v497
  v498.toNat
def k0_dev23 (v1 : BitVec 32) : Nat :=
  let c0_i32_613 : BitVec 32 := 0#32
  let c1_i32_612 : BitVec 32 := 1#32
  let v507 : BitVec 32 := Scalar.muli v1 c1_i32_612
  let v508 : BitVec 32 := Scalar.addi c0_i32_613 v507
  v508.toNat
def k0_dev24 (v0 : BitVec 32) : Nat :=
  let c0_i32_616 : BitVec 32 := 0#32
  let c1_i32_615 : BitVec 32 := 1#32
  let v509 : BitVec 32 := Scalar.muli v0 c1_i32_615
  let v510 : BitVec 32 := Scalar.addi c0_i32_616 v509
  v510.toNat
def k0_off9 (v511 : BitVec 32) : Fin 2 → Nat :=
  let c256_i32_617 : BitVec 32 := 256#32
  let v512 : BitVec 32 := Scalar.muli v511 c256_i32_617
  let v513 : Index := Scalar.indexCast v512
  let c0_618 : Index := 0#32
  ![v513.toNat, 0]

def k0_chk11 (v511 : BitVec 32) : Prop :=
  (∀ a, (k0_off9 v511) a + S256x256.size a ≤ S8192x256.size a)
theorem k0_off9_inb : ∀ (v511 : BitVec 32) (k0_hw11 : k0_chk11 v511), ∀ a, (k0_off9 v511) a + S256x256.size a ≤ S8192x256.size a := fun v511 k0_hw11 => k0_hw11

def k0_off10 (v519 : BitVec 32) : Fin 2 → Nat :=
  let c256_i32_622 : BitVec 32 := 256#32
  let v520 : BitVec 32 := Scalar.muli v519 c256_i32_622
  let v521 : Index := Scalar.indexCast v520
  let c0_623 : Index := 0#32
  ![v521.toNat, 0]

def k0_chk12 (v519 : BitVec 32) : Prop :=
  (∀ a, (k0_off10 v519) a + S256x256.size a ≤ S8192x256.size a)
theorem k0_off10_inb : ∀ (v519 : BitVec 32) (k0_hw12 : k0_chk12 v519), ∀ a, (k0_off10 v519) a + S256x256.size a ≤ S8192x256.size a := fun v519 k0_hw12 => k0_hw12

def k0_dev25 (v0 : BitVec 32) : Nat :=
  let c0_i32_665 : BitVec 32 := 0#32
  let c1_i32_664 : BitVec 32 := 1#32
  let v548 : BitVec 32 := Scalar.muli v0 c1_i32_664
  let v549 : BitVec 32 := Scalar.addi c0_i32_665 v548
  v549.toNat
def k0_dev26 (v1 : BitVec 32) : Nat :=
  let c0_i32_708 : BitVec 32 := 0#32
  let c1_i32_707 : BitVec 32 := 1#32
  let v579 : BitVec 32 := Scalar.muli v1 c1_i32_707
  let v580 : BitVec 32 := Scalar.addi c0_i32_708 v579
  v580.toNat
def k0_dev27 (v0 : BitVec 32) : Nat :=
  let c0_i32_749 : BitVec 32 := 0#32
  let c1_i32_748 : BitVec 32 := 1#32
  let v610 : BitVec 32 := Scalar.muli v0 c1_i32_748
  let v611 : BitVec 32 := Scalar.addi c0_i32_749 v610
  v611.toNat
def k0_dev28 (v1 : BitVec 32) : Nat :=
  let c0_i32_790 : BitVec 32 := 0#32
  let c1_i32_789 : BitVec 32 := 1#32
  let v641 : BitVec 32 := Scalar.muli v1 c1_i32_789
  let v642 : BitVec 32 := Scalar.addi c0_i32_790 v641
  v642.toNat
def k0_dev29 (v1 : BitVec 32) : Nat :=
  let c0_i32_797 : BitVec 32 := 0#32
  let c1_i32_796 : BitVec 32 := 1#32
  let v651 : BitVec 32 := Scalar.muli v1 c1_i32_796
  let v652 : BitVec 32 := Scalar.addi c0_i32_797 v651
  v652.toNat
def k0_dev30 (v0 : BitVec 32) : Nat :=
  let c0_i32_800 : BitVec 32 := 0#32
  let c1_i32_799 : BitVec 32 := 1#32
  let v653 : BitVec 32 := Scalar.muli v0 c1_i32_799
  let v654 : BitVec 32 := Scalar.addi c0_i32_800 v653
  v654.toNat
def k0_off11 (v655 : BitVec 32) : Fin 2 → Nat :=
  let c256_i32_801 : BitVec 32 := 256#32
  let v656 : BitVec 32 := Scalar.muli v655 c256_i32_801
  let v657 : Index := Scalar.indexCast v656
  let c0_802 : Index := 0#32
  ![v657.toNat, 0]

def k0_chk13 (v655 : BitVec 32) : Prop :=
  (∀ a, (k0_off11 v655) a + S256x256.size a ≤ S8192x256.size a)
theorem k0_off11_inb : ∀ (v655 : BitVec 32) (k0_hw13 : k0_chk13 v655), ∀ a, (k0_off11 v655) a + S256x256.size a ≤ S8192x256.size a := fun v655 k0_hw13 => k0_hw13

def k0_off12 (v663 : BitVec 32) : Fin 2 → Nat :=
  let c256_i32_806 : BitVec 32 := 256#32
  let v664 : BitVec 32 := Scalar.muli v663 c256_i32_806
  let v665 : Index := Scalar.indexCast v664
  let c0_807 : Index := 0#32
  ![v665.toNat, 0]

def k0_chk14 (v663 : BitVec 32) : Prop :=
  (∀ a, (k0_off12 v663) a + S256x256.size a ≤ S8192x256.size a)
theorem k0_off12_inb : ∀ (v663 : BitVec 32) (k0_hw14 : k0_chk14 v663), ∀ a, (k0_off12 v663) a + S256x256.size a ≤ S8192x256.size a := fun v663 k0_hw14 => k0_hw14

def k0_dev31 (v0 : BitVec 32) : Nat :=
  let c0_i32_849 : BitVec 32 := 0#32
  let c1_i32_848 : BitVec 32 := 1#32
  let v692 : BitVec 32 := Scalar.muli v0 c1_i32_848
  let v693 : BitVec 32 := Scalar.addi c0_i32_849 v692
  v693.toNat
def k0_dev32 (v1 : BitVec 32) : Nat :=
  let c0_i32_892 : BitVec 32 := 0#32
  let c1_i32_891 : BitVec 32 := 1#32
  let v723 : BitVec 32 := Scalar.muli v1 c1_i32_891
  let v724 : BitVec 32 := Scalar.addi c0_i32_892 v723
  v724.toNat
def k0_dev33 (v0 : BitVec 32) : Nat :=
  let c0_i32_933 : BitVec 32 := 0#32
  let c1_i32_932 : BitVec 32 := 1#32
  let v754 : BitVec 32 := Scalar.muli v0 c1_i32_932
  let v755 : BitVec 32 := Scalar.addi c0_i32_933 v754
  v755.toNat
def k0_dev34 (v1 : BitVec 32) : Nat :=
  let c0_i32_974 : BitVec 32 := 0#32
  let c1_i32_973 : BitVec 32 := 1#32
  let v785 : BitVec 32 := Scalar.muli v1 c1_i32_973
  let v786 : BitVec 32 := Scalar.addi c0_i32_974 v785
  v786.toNat
def k0_dev35 (v1 : BitVec 32) : Nat :=
  let c0_i32_981 : BitVec 32 := 0#32
  let c1_i32_980 : BitVec 32 := 1#32
  let v795 : BitVec 32 := Scalar.muli v1 c1_i32_980
  let v796 : BitVec 32 := Scalar.addi c0_i32_981 v795
  v796.toNat
def k0_dev36 (v0 : BitVec 32) : Nat :=
  let c0_i32_984 : BitVec 32 := 0#32
  let c1_i32_983 : BitVec 32 := 1#32
  let v797 : BitVec 32 := Scalar.muli v0 c1_i32_983
  let v798 : BitVec 32 := Scalar.addi c0_i32_984 v797
  v798.toNat
def k0_off13 (v799 : BitVec 32) : Fin 2 → Nat :=
  let c256_i32_985 : BitVec 32 := 256#32
  let v800 : BitVec 32 := Scalar.muli v799 c256_i32_985
  let v801 : Index := Scalar.indexCast v800
  let c0_986 : Index := 0#32
  ![v801.toNat, 0]

def k0_chk15 (v799 : BitVec 32) : Prop :=
  (∀ a, (k0_off13 v799) a + S256x256.size a ≤ S8192x256.size a)
theorem k0_off13_inb : ∀ (v799 : BitVec 32) (k0_hw15 : k0_chk15 v799), ∀ a, (k0_off13 v799) a + S256x256.size a ≤ S8192x256.size a := fun v799 k0_hw15 => k0_hw15

def k0_off14 (v807 : BitVec 32) : Fin 2 → Nat :=
  let c256_i32_990 : BitVec 32 := 256#32
  let v808 : BitVec 32 := Scalar.muli v807 c256_i32_990
  let v809 : Index := Scalar.indexCast v808
  let c0_991 : Index := 0#32
  ![v809.toNat, 0]

def k0_chk16 (v807 : BitVec 32) : Prop :=
  (∀ a, (k0_off14 v807) a + S256x256.size a ≤ S8192x256.size a)
theorem k0_off14_inb : ∀ (v807 : BitVec 32) (k0_hw16 : k0_chk16 v807), ∀ a, (k0_off14 v807) a + S256x256.size a ≤ S8192x256.size a := fun v807 k0_hw16 => k0_hw16

def k0_dev37 (v0 : BitVec 32) : Nat :=
  let c0_i32_1033 : BitVec 32 := 0#32
  let c1_i32_1032 : BitVec 32 := 1#32
  let v836 : BitVec 32 := Scalar.muli v0 c1_i32_1032
  let v837 : BitVec 32 := Scalar.addi c0_i32_1033 v836
  v837.toNat
def k0_dev38 (v1 : BitVec 32) : Nat :=
  let c0_i32_1076 : BitVec 32 := 0#32
  let c1_i32_1075 : BitVec 32 := 1#32
  let v867 : BitVec 32 := Scalar.muli v1 c1_i32_1075
  let v868 : BitVec 32 := Scalar.addi c0_i32_1076 v867
  v868.toNat
def k0_dev39 (v0 : BitVec 32) : Nat :=
  let c0_i32_1117 : BitVec 32 := 0#32
  let c1_i32_1116 : BitVec 32 := 1#32
  let v898 : BitVec 32 := Scalar.muli v0 c1_i32_1116
  let v899 : BitVec 32 := Scalar.addi c0_i32_1117 v898
  v899.toNat
def k0_dev40 (v1 : BitVec 32) : Nat :=
  let c0_i32_1158 : BitVec 32 := 0#32
  let c1_i32_1157 : BitVec 32 := 1#32
  let v929 : BitVec 32 := Scalar.muli v1 c1_i32_1157
  let v930 : BitVec 32 := Scalar.addi c0_i32_1158 v929
  v930.toNat
def k0_dev41 (v1 : BitVec 32) : Nat :=
  let c0_i32_1165 : BitVec 32 := 0#32
  let c1_i32_1164 : BitVec 32 := 1#32
  let v939 : BitVec 32 := Scalar.muli v1 c1_i32_1164
  let v940 : BitVec 32 := Scalar.addi c0_i32_1165 v939
  v940.toNat
def k0_dev42 (v0 : BitVec 32) : Nat :=
  let c0_i32_1168 : BitVec 32 := 0#32
  let c1_i32_1167 : BitVec 32 := 1#32
  let v941 : BitVec 32 := Scalar.muli v0 c1_i32_1167
  let v942 : BitVec 32 := Scalar.addi c0_i32_1168 v941
  v942.toNat
def k0_off15 (v943 : BitVec 32) : Fin 2 → Nat :=
  let c256_i32_1169 : BitVec 32 := 256#32
  let v944 : BitVec 32 := Scalar.muli v943 c256_i32_1169
  let v945 : Index := Scalar.indexCast v944
  let c0_1170 : Index := 0#32
  ![v945.toNat, 0]

def k0_chk17 (v943 : BitVec 32) : Prop :=
  (∀ a, (k0_off15 v943) a + S256x256.size a ≤ S8192x256.size a)
theorem k0_off15_inb : ∀ (v943 : BitVec 32) (k0_hw17 : k0_chk17 v943), ∀ a, (k0_off15 v943) a + S256x256.size a ≤ S8192x256.size a := fun v943 k0_hw17 => k0_hw17

def k0_off16 (v951 : BitVec 32) : Fin 2 → Nat :=
  let c256_i32_1174 : BitVec 32 := 256#32
  let v952 : BitVec 32 := Scalar.muli v951 c256_i32_1174
  let v953 : Index := Scalar.indexCast v952
  let c0_1175 : Index := 0#32
  ![v953.toNat, 0]

def k0_chk18 (v951 : BitVec 32) : Prop :=
  (∀ a, (k0_off16 v951) a + S256x256.size a ≤ S8192x256.size a)
theorem k0_off16_inb : ∀ (v951 : BitVec 32) (k0_hw18 : k0_chk18 v951), ∀ a, (k0_off16 v951) a + S256x256.size a ≤ S8192x256.size a := fun v951 k0_hw18 => k0_hw18

def k0_dev43 (v0 : BitVec 32) : Nat :=
  let c0_i32_1217 : BitVec 32 := 0#32
  let c1_i32_1216 : BitVec 32 := 1#32
  let v980 : BitVec 32 := Scalar.muli v0 c1_i32_1216
  let v981 : BitVec 32 := Scalar.addi c0_i32_1217 v980
  v981.toNat
def k0_dev44 (v1 : BitVec 32) : Nat :=
  let c0_i32_1260 : BitVec 32 := 0#32
  let c1_i32_1259 : BitVec 32 := 1#32
  let v1011 : BitVec 32 := Scalar.muli v1 c1_i32_1259
  let v1012 : BitVec 32 := Scalar.addi c0_i32_1260 v1011
  v1012.toNat
def k0_dev45 (v0 : BitVec 32) : Nat :=
  let c0_i32_1301 : BitVec 32 := 0#32
  let c1_i32_1300 : BitVec 32 := 1#32
  let v1042 : BitVec 32 := Scalar.muli v0 c1_i32_1300
  let v1043 : BitVec 32 := Scalar.addi c0_i32_1301 v1042
  v1043.toNat
def k0_dev46 (v1 : BitVec 32) : Nat :=
  let c0_i32_1342 : BitVec 32 := 0#32
  let c1_i32_1341 : BitVec 32 := 1#32
  let v1073 : BitVec 32 := Scalar.muli v1 c1_i32_1341
  let v1074 : BitVec 32 := Scalar.addi c0_i32_1342 v1073
  v1074.toNat
def k0_dev47 (v1 : BitVec 32) : Nat :=
  let c0_i32_1349 : BitVec 32 := 0#32
  let c1_i32_1348 : BitVec 32 := 1#32
  let v1083 : BitVec 32 := Scalar.muli v1 c1_i32_1348
  let v1084 : BitVec 32 := Scalar.addi c0_i32_1349 v1083
  v1084.toNat
def k0_dev48 (v0 : BitVec 32) : Nat :=
  let c0_i32_1352 : BitVec 32 := 0#32
  let c1_i32_1351 : BitVec 32 := 1#32
  let v1085 : BitVec 32 := Scalar.muli v0 c1_i32_1351
  let v1086 : BitVec 32 := Scalar.addi c0_i32_1352 v1085
  v1086.toNat
def k0_off17 (v1087 : BitVec 32) : Fin 2 → Nat :=
  let c256_i32_1353 : BitVec 32 := 256#32
  let v1088 : BitVec 32 := Scalar.muli v1087 c256_i32_1353
  let v1089 : Index := Scalar.indexCast v1088
  let c0_1354 : Index := 0#32
  ![v1089.toNat, 0]

def k0_chk19 (v1087 : BitVec 32) : Prop :=
  (∀ a, (k0_off17 v1087) a + S256x256.size a ≤ S8192x256.size a)
theorem k0_off17_inb : ∀ (v1087 : BitVec 32) (k0_hw19 : k0_chk19 v1087), ∀ a, (k0_off17 v1087) a + S256x256.size a ≤ S8192x256.size a := fun v1087 k0_hw19 => k0_hw19

def k0_off18 (v1095 : BitVec 32) : Fin 2 → Nat :=
  let c256_i32_1358 : BitVec 32 := 256#32
  let v1096 : BitVec 32 := Scalar.muli v1095 c256_i32_1358
  let v1097 : Index := Scalar.indexCast v1096
  let c0_1359 : Index := 0#32
  ![v1097.toNat, 0]

def k0_chk20 (v1095 : BitVec 32) : Prop :=
  (∀ a, (k0_off18 v1095) a + S256x256.size a ≤ S8192x256.size a)
theorem k0_off18_inb : ∀ (v1095 : BitVec 32) (k0_hw20 : k0_chk20 v1095), ∀ a, (k0_off18 v1095) a + S256x256.size a ≤ S8192x256.size a := fun v1095 k0_hw20 => k0_hw20

def k0_dev49 (v0 : BitVec 32) : Nat :=
  let c0_i32_1401 : BitVec 32 := 0#32
  let c1_i32_1400 : BitVec 32 := 1#32
  let v1124 : BitVec 32 := Scalar.muli v0 c1_i32_1400
  let v1125 : BitVec 32 := Scalar.addi c0_i32_1401 v1124
  v1125.toNat
def k0_dev50 (v1 : BitVec 32) : Nat :=
  let c0_i32_1444 : BitVec 32 := 0#32
  let c1_i32_1443 : BitVec 32 := 1#32
  let v1155 : BitVec 32 := Scalar.muli v1 c1_i32_1443
  let v1156 : BitVec 32 := Scalar.addi c0_i32_1444 v1155
  v1156.toNat
def k0_dev51 (v0 : BitVec 32) : Nat :=
  let c0_i32_1485 : BitVec 32 := 0#32
  let c1_i32_1484 : BitVec 32 := 1#32
  let v1186 : BitVec 32 := Scalar.muli v0 c1_i32_1484
  let v1187 : BitVec 32 := Scalar.addi c0_i32_1485 v1186
  v1187.toNat
def k0_dev52 (v1 : BitVec 32) : Nat :=
  let c0_i32_1526 : BitVec 32 := 0#32
  let c1_i32_1525 : BitVec 32 := 1#32
  let v1217 : BitVec 32 := Scalar.muli v1 c1_i32_1525
  let v1218 : BitVec 32 := Scalar.addi c0_i32_1526 v1217
  v1218.toNat
def k0_dev53 (v1 : BitVec 32) : Nat :=
  let c0_i32_1533 : BitVec 32 := 0#32
  let c1_i32_1532 : BitVec 32 := 1#32
  let v1227 : BitVec 32 := Scalar.muli v1 c1_i32_1532
  let v1228 : BitVec 32 := Scalar.addi c0_i32_1533 v1227
  v1228.toNat
def k0_dev54 (v0 : BitVec 32) : Nat :=
  let c0_i32_1536 : BitVec 32 := 0#32
  let c1_i32_1535 : BitVec 32 := 1#32
  let v1229 : BitVec 32 := Scalar.muli v0 c1_i32_1535
  let v1230 : BitVec 32 := Scalar.addi c0_i32_1536 v1229
  v1230.toNat
def k0_off19 (v1231 : BitVec 32) : Fin 2 → Nat :=
  let c256_i32_1537 : BitVec 32 := 256#32
  let v1232 : BitVec 32 := Scalar.muli v1231 c256_i32_1537
  let v1233 : Index := Scalar.indexCast v1232
  let c0_1538 : Index := 0#32
  ![v1233.toNat, 0]

def k0_chk21 (v1231 : BitVec 32) : Prop :=
  (∀ a, (k0_off19 v1231) a + S256x256.size a ≤ S8192x256.size a)
theorem k0_off19_inb : ∀ (v1231 : BitVec 32) (k0_hw21 : k0_chk21 v1231), ∀ a, (k0_off19 v1231) a + S256x256.size a ≤ S8192x256.size a := fun v1231 k0_hw21 => k0_hw21

def k0_off20 (v1239 : BitVec 32) : Fin 2 → Nat :=
  let c256_i32_1542 : BitVec 32 := 256#32
  let v1240 : BitVec 32 := Scalar.muli v1239 c256_i32_1542
  let v1241 : Index := Scalar.indexCast v1240
  let c0_1543 : Index := 0#32
  ![v1241.toNat, 0]

def k0_chk22 (v1239 : BitVec 32) : Prop :=
  (∀ a, (k0_off20 v1239) a + S256x256.size a ≤ S8192x256.size a)
theorem k0_off20_inb : ∀ (v1239 : BitVec 32) (k0_hw22 : k0_chk22 v1239), ∀ a, (k0_off20 v1239) a + S256x256.size a ≤ S8192x256.size a := fun v1239 k0_hw22 => k0_hw22

def k0_dev55 (v0 : BitVec 32) : Nat :=
  let c0_i32_1585 : BitVec 32 := 0#32
  let c1_i32_1584 : BitVec 32 := 1#32
  let v1268 : BitVec 32 := Scalar.muli v0 c1_i32_1584
  let v1269 : BitVec 32 := Scalar.addi c0_i32_1585 v1268
  v1269.toNat
def k0_dev56 (v1 : BitVec 32) : Nat :=
  let c0_i32_1628 : BitVec 32 := 0#32
  let c1_i32_1627 : BitVec 32 := 1#32
  let v1299 : BitVec 32 := Scalar.muli v1 c1_i32_1627
  let v1300 : BitVec 32 := Scalar.addi c0_i32_1628 v1299
  v1300.toNat
def k0_dev57 (v0 : BitVec 32) : Nat :=
  let c0_i32_1669 : BitVec 32 := 0#32
  let c1_i32_1668 : BitVec 32 := 1#32
  let v1330 : BitVec 32 := Scalar.muli v0 c1_i32_1668
  let v1331 : BitVec 32 := Scalar.addi c0_i32_1669 v1330
  v1331.toNat
def k0_dev58 (v1 : BitVec 32) : Nat :=
  let c0_i32_1710 : BitVec 32 := 0#32
  let c1_i32_1709 : BitVec 32 := 1#32
  let v1361 : BitVec 32 := Scalar.muli v1 c1_i32_1709
  let v1362 : BitVec 32 := Scalar.addi c0_i32_1710 v1361
  v1362.toNat
def k0_dev59 (v1 : BitVec 32) : Nat :=
  let c0_i32_1717 : BitVec 32 := 0#32
  let c1_i32_1716 : BitVec 32 := 1#32
  let v1371 : BitVec 32 := Scalar.muli v1 c1_i32_1716
  let v1372 : BitVec 32 := Scalar.addi c0_i32_1717 v1371
  v1372.toNat
def k0_dev60 (v0 : BitVec 32) : Nat :=
  let c0_i32_1720 : BitVec 32 := 0#32
  let c1_i32_1719 : BitVec 32 := 1#32
  let v1373 : BitVec 32 := Scalar.muli v0 c1_i32_1719
  let v1374 : BitVec 32 := Scalar.addi c0_i32_1720 v1373
  v1374.toNat
def k0_off21 (v1375 : BitVec 32) : Fin 2 → Nat :=
  let c256_i32_1721 : BitVec 32 := 256#32
  let v1376 : BitVec 32 := Scalar.muli v1375 c256_i32_1721
  let v1377 : Index := Scalar.indexCast v1376
  let c0_1722 : Index := 0#32
  ![v1377.toNat, 0]

def k0_chk23 (v1375 : BitVec 32) : Prop :=
  (∀ a, (k0_off21 v1375) a + S256x256.size a ≤ S8192x256.size a)
theorem k0_off21_inb : ∀ (v1375 : BitVec 32) (k0_hw23 : k0_chk23 v1375), ∀ a, (k0_off21 v1375) a + S256x256.size a ≤ S8192x256.size a := fun v1375 k0_hw23 => k0_hw23

def k0_off22 (v1383 : BitVec 32) : Fin 2 → Nat :=
  let c256_i32_1726 : BitVec 32 := 256#32
  let v1384 : BitVec 32 := Scalar.muli v1383 c256_i32_1726
  let v1385 : Index := Scalar.indexCast v1384
  let c0_1727 : Index := 0#32
  ![v1385.toNat, 0]

def k0_chk24 (v1383 : BitVec 32) : Prop :=
  (∀ a, (k0_off22 v1383) a + S256x256.size a ≤ S8192x256.size a)
theorem k0_off22_inb : ∀ (v1383 : BitVec 32) (k0_hw24 : k0_chk24 v1383), ∀ a, (k0_off22 v1383) a + S256x256.size a ≤ S8192x256.size a := fun v1383 k0_hw24 => k0_hw24

def k0_dev61 (v0 : BitVec 32) : Nat :=
  let c0_i32_1769 : BitVec 32 := 0#32
  let c1_i32_1768 : BitVec 32 := 1#32
  let v1412 : BitVec 32 := Scalar.muli v0 c1_i32_1768
  let v1413 : BitVec 32 := Scalar.addi c0_i32_1769 v1412
  v1413.toNat
def k0_dev62 (v1 : BitVec 32) : Nat :=
  let c0_i32_1812 : BitVec 32 := 0#32
  let c1_i32_1811 : BitVec 32 := 1#32
  let v1443 : BitVec 32 := Scalar.muli v1 c1_i32_1811
  let v1444 : BitVec 32 := Scalar.addi c0_i32_1812 v1443
  v1444.toNat
def k0_dev63 (v0 : BitVec 32) : Nat :=
  let c0_i32_1853 : BitVec 32 := 0#32
  let c1_i32_1852 : BitVec 32 := 1#32
  let v1474 : BitVec 32 := Scalar.muli v0 c1_i32_1852
  let v1475 : BitVec 32 := Scalar.addi c0_i32_1853 v1474
  v1475.toNat
def k0_dev64 (v1 : BitVec 32) : Nat :=
  let c0_i32_1894 : BitVec 32 := 0#32
  let c1_i32_1893 : BitVec 32 := 1#32
  let v1505 : BitVec 32 := Scalar.muli v1 c1_i32_1893
  let v1506 : BitVec 32 := Scalar.addi c0_i32_1894 v1505
  v1506.toNat
def k0_dev65 (v1 : BitVec 32) : Nat :=
  let c0_i32_1901 : BitVec 32 := 0#32
  let c1_i32_1900 : BitVec 32 := 1#32
  let v1515 : BitVec 32 := Scalar.muli v1 c1_i32_1900
  let v1516 : BitVec 32 := Scalar.addi c0_i32_1901 v1515
  v1516.toNat
def k0_dev66 (v0 : BitVec 32) : Nat :=
  let c0_i32_1904 : BitVec 32 := 0#32
  let c1_i32_1903 : BitVec 32 := 1#32
  let v1517 : BitVec 32 := Scalar.muli v0 c1_i32_1903
  let v1518 : BitVec 32 := Scalar.addi c0_i32_1904 v1517
  v1518.toNat
def k0_off23 (v1519 : BitVec 32) : Fin 2 → Nat :=
  let c256_i32_1905 : BitVec 32 := 256#32
  let v1520 : BitVec 32 := Scalar.muli v1519 c256_i32_1905
  let v1521 : Index := Scalar.indexCast v1520
  let c0_1906 : Index := 0#32
  ![v1521.toNat, 0]

def k0_chk25 (v1519 : BitVec 32) : Prop :=
  (∀ a, (k0_off23 v1519) a + S256x256.size a ≤ S8192x256.size a)
theorem k0_off23_inb : ∀ (v1519 : BitVec 32) (k0_hw25 : k0_chk25 v1519), ∀ a, (k0_off23 v1519) a + S256x256.size a ≤ S8192x256.size a := fun v1519 k0_hw25 => k0_hw25

def k0_off24 (v1527 : BitVec 32) : Fin 2 → Nat :=
  let c256_i32_1910 : BitVec 32 := 256#32
  let v1528 : BitVec 32 := Scalar.muli v1527 c256_i32_1910
  let v1529 : Index := Scalar.indexCast v1528
  let c0_1911 : Index := 0#32
  ![v1529.toNat, 0]

def k0_chk26 (v1527 : BitVec 32) : Prop :=
  (∀ a, (k0_off24 v1527) a + S256x256.size a ≤ S8192x256.size a)
theorem k0_off24_inb : ∀ (v1527 : BitVec 32) (k0_hw26 : k0_chk26 v1527), ∀ a, (k0_off24 v1527) a + S256x256.size a ≤ S8192x256.size a := fun v1527 k0_hw26 => k0_hw26

def k0_dev67 (v0 : BitVec 32) : Nat :=
  let c0_i32_1953 : BitVec 32 := 0#32
  let c1_i32_1952 : BitVec 32 := 1#32
  let v1556 : BitVec 32 := Scalar.muli v0 c1_i32_1952
  let v1557 : BitVec 32 := Scalar.addi c0_i32_1953 v1556
  v1557.toNat
def k0_dev68 (v1 : BitVec 32) : Nat :=
  let c0_i32_1996 : BitVec 32 := 0#32
  let c1_i32_1995 : BitVec 32 := 1#32
  let v1587 : BitVec 32 := Scalar.muli v1 c1_i32_1995
  let v1588 : BitVec 32 := Scalar.addi c0_i32_1996 v1587
  v1588.toNat
def k0_dev69 (v0 : BitVec 32) : Nat :=
  let c0_i32_2037 : BitVec 32 := 0#32
  let c1_i32_2036 : BitVec 32 := 1#32
  let v1618 : BitVec 32 := Scalar.muli v0 c1_i32_2036
  let v1619 : BitVec 32 := Scalar.addi c0_i32_2037 v1618
  v1619.toNat
def k0_dev70 (v1 : BitVec 32) : Nat :=
  let c0_i32_2078 : BitVec 32 := 0#32
  let c1_i32_2077 : BitVec 32 := 1#32
  let v1649 : BitVec 32 := Scalar.muli v1 c1_i32_2077
  let v1650 : BitVec 32 := Scalar.addi c0_i32_2078 v1649
  v1650.toNat
def k0_dev71 (v1 : BitVec 32) : Nat :=
  let c0_i32_2085 : BitVec 32 := 0#32
  let c1_i32_2084 : BitVec 32 := 1#32
  let v1659 : BitVec 32 := Scalar.muli v1 c1_i32_2084
  let v1660 : BitVec 32 := Scalar.addi c0_i32_2085 v1659
  v1660.toNat
def k0_dev72 (v0 : BitVec 32) : Nat :=
  let c0_i32_2088 : BitVec 32 := 0#32
  let c1_i32_2087 : BitVec 32 := 1#32
  let v1661 : BitVec 32 := Scalar.muli v0 c1_i32_2087
  let v1662 : BitVec 32 := Scalar.addi c0_i32_2088 v1661
  v1662.toNat
def k0_off25 (v1663 : BitVec 32) : Fin 2 → Nat :=
  let c256_i32_2089 : BitVec 32 := 256#32
  let v1664 : BitVec 32 := Scalar.muli v1663 c256_i32_2089
  let v1665 : Index := Scalar.indexCast v1664
  let c0_2090 : Index := 0#32
  ![v1665.toNat, 0]

def k0_chk27 (v1663 : BitVec 32) : Prop :=
  (∀ a, (k0_off25 v1663) a + S256x256.size a ≤ S8192x256.size a)
theorem k0_off25_inb : ∀ (v1663 : BitVec 32) (k0_hw27 : k0_chk27 v1663), ∀ a, (k0_off25 v1663) a + S256x256.size a ≤ S8192x256.size a := fun v1663 k0_hw27 => k0_hw27

def k0_off26 (v1671 : BitVec 32) : Fin 2 → Nat :=
  let c256_i32_2094 : BitVec 32 := 256#32
  let v1672 : BitVec 32 := Scalar.muli v1671 c256_i32_2094
  let v1673 : Index := Scalar.indexCast v1672
  let c0_2095 : Index := 0#32
  ![v1673.toNat, 0]

def k0_chk28 (v1671 : BitVec 32) : Prop :=
  (∀ a, (k0_off26 v1671) a + S256x256.size a ≤ S8192x256.size a)
theorem k0_off26_inb : ∀ (v1671 : BitVec 32) (k0_hw28 : k0_chk28 v1671), ∀ a, (k0_off26 v1671) a + S256x256.size a ≤ S8192x256.size a := fun v1671 k0_hw28 => k0_hw28

def k0_dev73 (v0 : BitVec 32) : Nat :=
  let c0_i32_2137 : BitVec 32 := 0#32
  let c1_i32_2136 : BitVec 32 := 1#32
  let v1700 : BitVec 32 := Scalar.muli v0 c1_i32_2136
  let v1701 : BitVec 32 := Scalar.addi c0_i32_2137 v1700
  v1701.toNat
def k0_dev74 (v1 : BitVec 32) : Nat :=
  let c0_i32_2180 : BitVec 32 := 0#32
  let c1_i32_2179 : BitVec 32 := 1#32
  let v1731 : BitVec 32 := Scalar.muli v1 c1_i32_2179
  let v1732 : BitVec 32 := Scalar.addi c0_i32_2180 v1731
  v1732.toNat
def k0_dev75 (v0 : BitVec 32) : Nat :=
  let c0_i32_2221 : BitVec 32 := 0#32
  let c1_i32_2220 : BitVec 32 := 1#32
  let v1762 : BitVec 32 := Scalar.muli v0 c1_i32_2220
  let v1763 : BitVec 32 := Scalar.addi c0_i32_2221 v1762
  v1763.toNat
def k0_dev76 (v1 : BitVec 32) : Nat :=
  let c0_i32_2262 : BitVec 32 := 0#32
  let c1_i32_2261 : BitVec 32 := 1#32
  let v1793 : BitVec 32 := Scalar.muli v1 c1_i32_2261
  let v1794 : BitVec 32 := Scalar.addi c0_i32_2262 v1793
  v1794.toNat
def k0_dev77 (v1 : BitVec 32) : Nat :=
  let c0_i32_2269 : BitVec 32 := 0#32
  let c1_i32_2268 : BitVec 32 := 1#32
  let v1803 : BitVec 32 := Scalar.muli v1 c1_i32_2268
  let v1804 : BitVec 32 := Scalar.addi c0_i32_2269 v1803
  v1804.toNat
def k0_dev78 (v0 : BitVec 32) : Nat :=
  let c0_i32_2272 : BitVec 32 := 0#32
  let c1_i32_2271 : BitVec 32 := 1#32
  let v1805 : BitVec 32 := Scalar.muli v0 c1_i32_2271
  let v1806 : BitVec 32 := Scalar.addi c0_i32_2272 v1805
  v1806.toNat
def k0_off27 (v1807 : BitVec 32) : Fin 2 → Nat :=
  let c256_i32_2273 : BitVec 32 := 256#32
  let v1808 : BitVec 32 := Scalar.muli v1807 c256_i32_2273
  let v1809 : Index := Scalar.indexCast v1808
  let c0_2274 : Index := 0#32
  ![v1809.toNat, 0]

def k0_chk29 (v1807 : BitVec 32) : Prop :=
  (∀ a, (k0_off27 v1807) a + S256x256.size a ≤ S8192x256.size a)
theorem k0_off27_inb : ∀ (v1807 : BitVec 32) (k0_hw29 : k0_chk29 v1807), ∀ a, (k0_off27 v1807) a + S256x256.size a ≤ S8192x256.size a := fun v1807 k0_hw29 => k0_hw29

def k0_off28 (v1815 : BitVec 32) : Fin 2 → Nat :=
  let c256_i32_2278 : BitVec 32 := 256#32
  let v1816 : BitVec 32 := Scalar.muli v1815 c256_i32_2278
  let v1817 : Index := Scalar.indexCast v1816
  let c0_2279 : Index := 0#32
  ![v1817.toNat, 0]

def k0_chk30 (v1815 : BitVec 32) : Prop :=
  (∀ a, (k0_off28 v1815) a + S256x256.size a ≤ S8192x256.size a)
theorem k0_off28_inb : ∀ (v1815 : BitVec 32) (k0_hw30 : k0_chk30 v1815), ∀ a, (k0_off28 v1815) a + S256x256.size a ≤ S8192x256.size a := fun v1815 k0_hw30 => k0_hw30

def k0_dev79 (v0 : BitVec 32) : Nat :=
  let c0_i32_2321 : BitVec 32 := 0#32
  let c1_i32_2320 : BitVec 32 := 1#32
  let v1844 : BitVec 32 := Scalar.muli v0 c1_i32_2320
  let v1845 : BitVec 32 := Scalar.addi c0_i32_2321 v1844
  v1845.toNat
def k0_dev80 (v1 : BitVec 32) : Nat :=
  let c0_i32_2364 : BitVec 32 := 0#32
  let c1_i32_2363 : BitVec 32 := 1#32
  let v1875 : BitVec 32 := Scalar.muli v1 c1_i32_2363
  let v1876 : BitVec 32 := Scalar.addi c0_i32_2364 v1875
  v1876.toNat
def k0_dev81 (v0 : BitVec 32) : Nat :=
  let c0_i32_2405 : BitVec 32 := 0#32
  let c1_i32_2404 : BitVec 32 := 1#32
  let v1906 : BitVec 32 := Scalar.muli v0 c1_i32_2404
  let v1907 : BitVec 32 := Scalar.addi c0_i32_2405 v1906
  v1907.toNat
def k0_dev82 (v1 : BitVec 32) : Nat :=
  let c0_i32_2446 : BitVec 32 := 0#32
  let c1_i32_2445 : BitVec 32 := 1#32
  let v1937 : BitVec 32 := Scalar.muli v1 c1_i32_2445
  let v1938 : BitVec 32 := Scalar.addi c0_i32_2446 v1937
  v1938.toNat
def k0_dev83 (v1 : BitVec 32) : Nat :=
  let c0_i32_2453 : BitVec 32 := 0#32
  let c1_i32_2452 : BitVec 32 := 1#32
  let v1947 : BitVec 32 := Scalar.muli v1 c1_i32_2452
  let v1948 : BitVec 32 := Scalar.addi c0_i32_2453 v1947
  v1948.toNat
def k0_dev84 (v0 : BitVec 32) : Nat :=
  let c0_i32_2456 : BitVec 32 := 0#32
  let c1_i32_2455 : BitVec 32 := 1#32
  let v1949 : BitVec 32 := Scalar.muli v0 c1_i32_2455
  let v1950 : BitVec 32 := Scalar.addi c0_i32_2456 v1949
  v1950.toNat
def k0_off29 (v1951 : BitVec 32) : Fin 2 → Nat :=
  let c256_i32_2457 : BitVec 32 := 256#32
  let v1952 : BitVec 32 := Scalar.muli v1951 c256_i32_2457
  let v1953 : Index := Scalar.indexCast v1952
  let c0_2458 : Index := 0#32
  ![v1953.toNat, 0]

def k0_chk31 (v1951 : BitVec 32) : Prop :=
  (∀ a, (k0_off29 v1951) a + S256x256.size a ≤ S8192x256.size a)
theorem k0_off29_inb : ∀ (v1951 : BitVec 32) (k0_hw31 : k0_chk31 v1951), ∀ a, (k0_off29 v1951) a + S256x256.size a ≤ S8192x256.size a := fun v1951 k0_hw31 => k0_hw31

def k0_off30 (v1959 : BitVec 32) : Fin 2 → Nat :=
  let c256_i32_2462 : BitVec 32 := 256#32
  let v1960 : BitVec 32 := Scalar.muli v1959 c256_i32_2462
  let v1961 : Index := Scalar.indexCast v1960
  let c0_2463 : Index := 0#32
  ![v1961.toNat, 0]

def k0_chk32 (v1959 : BitVec 32) : Prop :=
  (∀ a, (k0_off30 v1959) a + S256x256.size a ≤ S8192x256.size a)
theorem k0_off30_inb : ∀ (v1959 : BitVec 32) (k0_hw32 : k0_chk32 v1959), ∀ a, (k0_off30 v1959) a + S256x256.size a ≤ S8192x256.size a := fun v1959 k0_hw32 => k0_hw32

def k0_dev85 (v0 : BitVec 32) : Nat :=
  let c0_i32_2505 : BitVec 32 := 0#32
  let c1_i32_2504 : BitVec 32 := 1#32
  let v1988 : BitVec 32 := Scalar.muli v0 c1_i32_2504
  let v1989 : BitVec 32 := Scalar.addi c0_i32_2505 v1988
  v1989.toNat
def k0_dev86 (v1 : BitVec 32) : Nat :=
  let c0_i32_2548 : BitVec 32 := 0#32
  let c1_i32_2547 : BitVec 32 := 1#32
  let v2019 : BitVec 32 := Scalar.muli v1 c1_i32_2547
  let v2020 : BitVec 32 := Scalar.addi c0_i32_2548 v2019
  v2020.toNat
def k0_dev87 (v0 : BitVec 32) : Nat :=
  let c0_i32_2589 : BitVec 32 := 0#32
  let c1_i32_2588 : BitVec 32 := 1#32
  let v2050 : BitVec 32 := Scalar.muli v0 c1_i32_2588
  let v2051 : BitVec 32 := Scalar.addi c0_i32_2589 v2050
  v2051.toNat
def k0_dev88 (v1 : BitVec 32) : Nat :=
  let c0_i32_2630 : BitVec 32 := 0#32
  let c1_i32_2629 : BitVec 32 := 1#32
  let v2081 : BitVec 32 := Scalar.muli v1 c1_i32_2629
  let v2082 : BitVec 32 := Scalar.addi c0_i32_2630 v2081
  v2082.toNat
def k0_dev89 (v1 : BitVec 32) : Nat :=
  let c0_i32_2637 : BitVec 32 := 0#32
  let c1_i32_2636 : BitVec 32 := 1#32
  let v2091 : BitVec 32 := Scalar.muli v1 c1_i32_2636
  let v2092 : BitVec 32 := Scalar.addi c0_i32_2637 v2091
  v2092.toNat
def k0_dev90 (v0 : BitVec 32) : Nat :=
  let c0_i32_2640 : BitVec 32 := 0#32
  let c1_i32_2639 : BitVec 32 := 1#32
  let v2093 : BitVec 32 := Scalar.muli v0 c1_i32_2639
  let v2094 : BitVec 32 := Scalar.addi c0_i32_2640 v2093
  v2094.toNat
def k0_off31 (v2095 : BitVec 32) : Fin 2 → Nat :=
  let c256_i32_2641 : BitVec 32 := 256#32
  let v2096 : BitVec 32 := Scalar.muli v2095 c256_i32_2641
  let v2097 : Index := Scalar.indexCast v2096
  let c0_2642 : Index := 0#32
  ![v2097.toNat, 0]

def k0_chk33 (v2095 : BitVec 32) : Prop :=
  (∀ a, (k0_off31 v2095) a + S256x256.size a ≤ S8192x256.size a)
theorem k0_off31_inb : ∀ (v2095 : BitVec 32) (k0_hw33 : k0_chk33 v2095), ∀ a, (k0_off31 v2095) a + S256x256.size a ≤ S8192x256.size a := fun v2095 k0_hw33 => k0_hw33

def k0_off32 (v2103 : BitVec 32) : Fin 2 → Nat :=
  let c256_i32_2646 : BitVec 32 := 256#32
  let v2104 : BitVec 32 := Scalar.muli v2103 c256_i32_2646
  let v2105 : Index := Scalar.indexCast v2104
  let c0_2647 : Index := 0#32
  ![v2105.toNat, 0]

def k0_chk34 (v2103 : BitVec 32) : Prop :=
  (∀ a, (k0_off32 v2103) a + S256x256.size a ≤ S8192x256.size a)
theorem k0_off32_inb : ∀ (v2103 : BitVec 32) (k0_hw34 : k0_chk34 v2103), ∀ a, (k0_off32 v2103) a + S256x256.size a ≤ S8192x256.size a := fun v2103 k0_hw34 => k0_hw34

def k0_dev91 (v0 : BitVec 32) : Nat :=
  let c0_i32_2689 : BitVec 32 := 0#32
  let c1_i32_2688 : BitVec 32 := 1#32
  let v2132 : BitVec 32 := Scalar.muli v0 c1_i32_2688
  let v2133 : BitVec 32 := Scalar.addi c0_i32_2689 v2132
  v2133.toNat
def k0_dev92 (v1 : BitVec 32) : Nat :=
  let c0_i32_2732 : BitVec 32 := 0#32
  let c1_i32_2731 : BitVec 32 := 1#32
  let v2163 : BitVec 32 := Scalar.muli v1 c1_i32_2731
  let v2164 : BitVec 32 := Scalar.addi c0_i32_2732 v2163
  v2164.toNat
def k0_dev93 (v0 : BitVec 32) : Nat :=
  let c0_i32_2773 : BitVec 32 := 0#32
  let c1_i32_2772 : BitVec 32 := 1#32
  let v2194 : BitVec 32 := Scalar.muli v0 c1_i32_2772
  let v2195 : BitVec 32 := Scalar.addi c0_i32_2773 v2194
  v2195.toNat
def k0_dev94 (v1 : BitVec 32) : Nat :=
  let c0_i32_2814 : BitVec 32 := 0#32
  let c1_i32_2813 : BitVec 32 := 1#32
  let v2225 : BitVec 32 := Scalar.muli v1 c1_i32_2813
  let v2226 : BitVec 32 := Scalar.addi c0_i32_2814 v2225
  v2226.toNat
def k0_dev95 (v1 : BitVec 32) : Nat :=
  let c0_i32_2821 : BitVec 32 := 0#32
  let c1_i32_2820 : BitVec 32 := 1#32
  let v2235 : BitVec 32 := Scalar.muli v1 c1_i32_2820
  let v2236 : BitVec 32 := Scalar.addi c0_i32_2821 v2235
  v2236.toNat
def k0_dev96 (v0 : BitVec 32) : Nat :=
  let c0_i32_2824 : BitVec 32 := 0#32
  let c1_i32_2823 : BitVec 32 := 1#32
  let v2237 : BitVec 32 := Scalar.muli v0 c1_i32_2823
  let v2238 : BitVec 32 := Scalar.addi c0_i32_2824 v2237
  v2238.toNat
def k0_off33 (v2239 : BitVec 32) : Fin 2 → Nat :=
  let c256_i32_2825 : BitVec 32 := 256#32
  let v2240 : BitVec 32 := Scalar.muli v2239 c256_i32_2825
  let v2241 : Index := Scalar.indexCast v2240
  let c0_2826 : Index := 0#32
  ![v2241.toNat, 0]

def k0_chk35 (v2239 : BitVec 32) : Prop :=
  (∀ a, (k0_off33 v2239) a + S256x256.size a ≤ S8192x256.size a)
theorem k0_off33_inb : ∀ (v2239 : BitVec 32) (k0_hw35 : k0_chk35 v2239), ∀ a, (k0_off33 v2239) a + S256x256.size a ≤ S8192x256.size a := fun v2239 k0_hw35 => k0_hw35

def k0_off34 (v2247 : BitVec 32) : Fin 2 → Nat :=
  let c256_i32_2830 : BitVec 32 := 256#32
  let v2248 : BitVec 32 := Scalar.muli v2247 c256_i32_2830
  let v2249 : Index := Scalar.indexCast v2248
  let c0_2831 : Index := 0#32
  ![v2249.toNat, 0]

def k0_chk36 (v2247 : BitVec 32) : Prop :=
  (∀ a, (k0_off34 v2247) a + S256x256.size a ≤ S8192x256.size a)
theorem k0_off34_inb : ∀ (v2247 : BitVec 32) (k0_hw36 : k0_chk36 v2247), ∀ a, (k0_off34 v2247) a + S256x256.size a ≤ S8192x256.size a := fun v2247 k0_hw36 => k0_hw36

def k0_dev97 (v0 : BitVec 32) : Nat :=
  let c0_i32_2873 : BitVec 32 := 0#32
  let c1_i32_2872 : BitVec 32 := 1#32
  let v2276 : BitVec 32 := Scalar.muli v0 c1_i32_2872
  let v2277 : BitVec 32 := Scalar.addi c0_i32_2873 v2276
  v2277.toNat
def k0_dev98 (v1 : BitVec 32) : Nat :=
  let c0_i32_2916 : BitVec 32 := 0#32
  let c1_i32_2915 : BitVec 32 := 1#32
  let v2307 : BitVec 32 := Scalar.muli v1 c1_i32_2915
  let v2308 : BitVec 32 := Scalar.addi c0_i32_2916 v2307
  v2308.toNat
def k0_dev99 (v0 : BitVec 32) : Nat :=
  let c0_i32_2957 : BitVec 32 := 0#32
  let c1_i32_2956 : BitVec 32 := 1#32
  let v2338 : BitVec 32 := Scalar.muli v0 c1_i32_2956
  let v2339 : BitVec 32 := Scalar.addi c0_i32_2957 v2338
  v2339.toNat
def k0_dev100 (v1 : BitVec 32) : Nat :=
  let c0_i32_2998 : BitVec 32 := 0#32
  let c1_i32_2997 : BitVec 32 := 1#32
  let v2369 : BitVec 32 := Scalar.muli v1 c1_i32_2997
  let v2370 : BitVec 32 := Scalar.addi c0_i32_2998 v2369
  v2370.toNat
def k0_dev101 (v1 : BitVec 32) : Nat :=
  let c0_i32_3005 : BitVec 32 := 0#32
  let c1_i32_3004 : BitVec 32 := 1#32
  let v2379 : BitVec 32 := Scalar.muli v1 c1_i32_3004
  let v2380 : BitVec 32 := Scalar.addi c0_i32_3005 v2379
  v2380.toNat
def k0_dev102 (v0 : BitVec 32) : Nat :=
  let c0_i32_3008 : BitVec 32 := 0#32
  let c1_i32_3007 : BitVec 32 := 1#32
  let v2381 : BitVec 32 := Scalar.muli v0 c1_i32_3007
  let v2382 : BitVec 32 := Scalar.addi c0_i32_3008 v2381
  v2382.toNat
def k0_off35 (v2383 : BitVec 32) : Fin 2 → Nat :=
  let c256_i32_3009 : BitVec 32 := 256#32
  let v2384 : BitVec 32 := Scalar.muli v2383 c256_i32_3009
  let v2385 : Index := Scalar.indexCast v2384
  let c0_3010 : Index := 0#32
  ![v2385.toNat, 0]

def k0_chk37 (v2383 : BitVec 32) : Prop :=
  (∀ a, (k0_off35 v2383) a + S256x256.size a ≤ S8192x256.size a)
theorem k0_off35_inb : ∀ (v2383 : BitVec 32) (k0_hw37 : k0_chk37 v2383), ∀ a, (k0_off35 v2383) a + S256x256.size a ≤ S8192x256.size a := fun v2383 k0_hw37 => k0_hw37

def k0_off36 (v2391 : BitVec 32) : Fin 2 → Nat :=
  let c256_i32_3014 : BitVec 32 := 256#32
  let v2392 : BitVec 32 := Scalar.muli v2391 c256_i32_3014
  let v2393 : Index := Scalar.indexCast v2392
  let c0_3015 : Index := 0#32
  ![v2393.toNat, 0]

def k0_chk38 (v2391 : BitVec 32) : Prop :=
  (∀ a, (k0_off36 v2391) a + S256x256.size a ≤ S8192x256.size a)
theorem k0_off36_inb : ∀ (v2391 : BitVec 32) (k0_hw38 : k0_chk38 v2391), ∀ a, (k0_off36 v2391) a + S256x256.size a ≤ S8192x256.size a := fun v2391 k0_hw38 => k0_hw38

def k0_dev103 (v0 : BitVec 32) : Nat :=
  let c0_i32_3057 : BitVec 32 := 0#32
  let c1_i32_3056 : BitVec 32 := 1#32
  let v2420 : BitVec 32 := Scalar.muli v0 c1_i32_3056
  let v2421 : BitVec 32 := Scalar.addi c0_i32_3057 v2420
  v2421.toNat
def k0_dev104 (v1 : BitVec 32) : Nat :=
  let c0_i32_3100 : BitVec 32 := 0#32
  let c1_i32_3099 : BitVec 32 := 1#32
  let v2451 : BitVec 32 := Scalar.muli v1 c1_i32_3099
  let v2452 : BitVec 32 := Scalar.addi c0_i32_3100 v2451
  v2452.toNat
def k0_dev105 (v0 : BitVec 32) : Nat :=
  let c0_i32_3141 : BitVec 32 := 0#32
  let c1_i32_3140 : BitVec 32 := 1#32
  let v2482 : BitVec 32 := Scalar.muli v0 c1_i32_3140
  let v2483 : BitVec 32 := Scalar.addi c0_i32_3141 v2482
  v2483.toNat
def k0_dev106 (v1 : BitVec 32) : Nat :=
  let c0_i32_3182 : BitVec 32 := 0#32
  let c1_i32_3181 : BitVec 32 := 1#32
  let v2513 : BitVec 32 := Scalar.muli v1 c1_i32_3181
  let v2514 : BitVec 32 := Scalar.addi c0_i32_3182 v2513
  v2514.toNat
def k0_dev107 (v1 : BitVec 32) : Nat :=
  let c0_i32_3189 : BitVec 32 := 0#32
  let c1_i32_3188 : BitVec 32 := 1#32
  let v2523 : BitVec 32 := Scalar.muli v1 c1_i32_3188
  let v2524 : BitVec 32 := Scalar.addi c0_i32_3189 v2523
  v2524.toNat
def k0_dev108 (v0 : BitVec 32) : Nat :=
  let c0_i32_3192 : BitVec 32 := 0#32
  let c1_i32_3191 : BitVec 32 := 1#32
  let v2525 : BitVec 32 := Scalar.muli v0 c1_i32_3191
  let v2526 : BitVec 32 := Scalar.addi c0_i32_3192 v2525
  v2526.toNat
def k0_off37 (v2527 : BitVec 32) : Fin 2 → Nat :=
  let c256_i32_3193 : BitVec 32 := 256#32
  let v2528 : BitVec 32 := Scalar.muli v2527 c256_i32_3193
  let v2529 : Index := Scalar.indexCast v2528
  let c0_3194 : Index := 0#32
  ![v2529.toNat, 0]

def k0_chk39 (v2527 : BitVec 32) : Prop :=
  (∀ a, (k0_off37 v2527) a + S256x256.size a ≤ S8192x256.size a)
theorem k0_off37_inb : ∀ (v2527 : BitVec 32) (k0_hw39 : k0_chk39 v2527), ∀ a, (k0_off37 v2527) a + S256x256.size a ≤ S8192x256.size a := fun v2527 k0_hw39 => k0_hw39

def k0_off38 (v2535 : BitVec 32) : Fin 2 → Nat :=
  let c256_i32_3198 : BitVec 32 := 256#32
  let v2536 : BitVec 32 := Scalar.muli v2535 c256_i32_3198
  let v2537 : Index := Scalar.indexCast v2536
  let c0_3199 : Index := 0#32
  ![v2537.toNat, 0]

def k0_chk40 (v2535 : BitVec 32) : Prop :=
  (∀ a, (k0_off38 v2535) a + S256x256.size a ≤ S8192x256.size a)
theorem k0_off38_inb : ∀ (v2535 : BitVec 32) (k0_hw40 : k0_chk40 v2535), ∀ a, (k0_off38 v2535) a + S256x256.size a ≤ S8192x256.size a := fun v2535 k0_hw40 => k0_hw40

def k0_dev109 (v0 : BitVec 32) : Nat :=
  let c0_i32_3241 : BitVec 32 := 0#32
  let c1_i32_3240 : BitVec 32 := 1#32
  let v2564 : BitVec 32 := Scalar.muli v0 c1_i32_3240
  let v2565 : BitVec 32 := Scalar.addi c0_i32_3241 v2564
  v2565.toNat
def k0_dev110 (v1 : BitVec 32) : Nat :=
  let c0_i32_3284 : BitVec 32 := 0#32
  let c1_i32_3283 : BitVec 32 := 1#32
  let v2595 : BitVec 32 := Scalar.muli v1 c1_i32_3283
  let v2596 : BitVec 32 := Scalar.addi c0_i32_3284 v2595
  v2596.toNat
def k0_dev111 (v0 : BitVec 32) : Nat :=
  let c0_i32_3325 : BitVec 32 := 0#32
  let c1_i32_3324 : BitVec 32 := 1#32
  let v2626 : BitVec 32 := Scalar.muli v0 c1_i32_3324
  let v2627 : BitVec 32 := Scalar.addi c0_i32_3325 v2626
  v2627.toNat
def k0_dev112 (v1 : BitVec 32) : Nat :=
  let c0_i32_3366 : BitVec 32 := 0#32
  let c1_i32_3365 : BitVec 32 := 1#32
  let v2657 : BitVec 32 := Scalar.muli v1 c1_i32_3365
  let v2658 : BitVec 32 := Scalar.addi c0_i32_3366 v2657
  v2658.toNat
def k0_dev113 (v1 : BitVec 32) : Nat :=
  let c0_i32_3373 : BitVec 32 := 0#32
  let c1_i32_3372 : BitVec 32 := 1#32
  let v2667 : BitVec 32 := Scalar.muli v1 c1_i32_3372
  let v2668 : BitVec 32 := Scalar.addi c0_i32_3373 v2667
  v2668.toNat
def k0_dev114 (v0 : BitVec 32) : Nat :=
  let c0_i32_3376 : BitVec 32 := 0#32
  let c1_i32_3375 : BitVec 32 := 1#32
  let v2669 : BitVec 32 := Scalar.muli v0 c1_i32_3375
  let v2670 : BitVec 32 := Scalar.addi c0_i32_3376 v2669
  v2670.toNat
def k0_off39 (v2671 : BitVec 32) : Fin 2 → Nat :=
  let c256_i32_3377 : BitVec 32 := 256#32
  let v2672 : BitVec 32 := Scalar.muli v2671 c256_i32_3377
  let v2673 : Index := Scalar.indexCast v2672
  let c0_3378 : Index := 0#32
  ![v2673.toNat, 0]

def k0_chk41 (v2671 : BitVec 32) : Prop :=
  (∀ a, (k0_off39 v2671) a + S256x256.size a ≤ S8192x256.size a)
theorem k0_off39_inb : ∀ (v2671 : BitVec 32) (k0_hw41 : k0_chk41 v2671), ∀ a, (k0_off39 v2671) a + S256x256.size a ≤ S8192x256.size a := fun v2671 k0_hw41 => k0_hw41

def k0_off40 (v2679 : BitVec 32) : Fin 2 → Nat :=
  let c256_i32_3382 : BitVec 32 := 256#32
  let v2680 : BitVec 32 := Scalar.muli v2679 c256_i32_3382
  let v2681 : Index := Scalar.indexCast v2680
  let c0_3383 : Index := 0#32
  ![v2681.toNat, 0]

def k0_chk42 (v2679 : BitVec 32) : Prop :=
  (∀ a, (k0_off40 v2679) a + S256x256.size a ≤ S8192x256.size a)
theorem k0_off40_inb : ∀ (v2679 : BitVec 32) (k0_hw42 : k0_chk42 v2679), ∀ a, (k0_off40 v2679) a + S256x256.size a ≤ S8192x256.size a := fun v2679 k0_hw42 => k0_hw42

def k0_dev115 (v0 : BitVec 32) : Nat :=
  let c0_i32_3425 : BitVec 32 := 0#32
  let c1_i32_3424 : BitVec 32 := 1#32
  let v2708 : BitVec 32 := Scalar.muli v0 c1_i32_3424
  let v2709 : BitVec 32 := Scalar.addi c0_i32_3425 v2708
  v2709.toNat
def k0_dev116 (v1 : BitVec 32) : Nat :=
  let c0_i32_3468 : BitVec 32 := 0#32
  let c1_i32_3467 : BitVec 32 := 1#32
  let v2739 : BitVec 32 := Scalar.muli v1 c1_i32_3467
  let v2740 : BitVec 32 := Scalar.addi c0_i32_3468 v2739
  v2740.toNat
def k0_dev117 (v0 : BitVec 32) : Nat :=
  let c0_i32_3509 : BitVec 32 := 0#32
  let c1_i32_3508 : BitVec 32 := 1#32
  let v2770 : BitVec 32 := Scalar.muli v0 c1_i32_3508
  let v2771 : BitVec 32 := Scalar.addi c0_i32_3509 v2770
  v2771.toNat
def k0_dev118 (v1 : BitVec 32) : Nat :=
  let c0_i32_3550 : BitVec 32 := 0#32
  let c1_i32_3549 : BitVec 32 := 1#32
  let v2801 : BitVec 32 := Scalar.muli v1 c1_i32_3549
  let v2802 : BitVec 32 := Scalar.addi c0_i32_3550 v2801
  v2802.toNat
def k0_dev119 (v1 : BitVec 32) : Nat :=
  let c0_i32_3557 : BitVec 32 := 0#32
  let c1_i32_3556 : BitVec 32 := 1#32
  let v2811 : BitVec 32 := Scalar.muli v1 c1_i32_3556
  let v2812 : BitVec 32 := Scalar.addi c0_i32_3557 v2811
  v2812.toNat
def k0_dev120 (v0 : BitVec 32) : Nat :=
  let c0_i32_3560 : BitVec 32 := 0#32
  let c1_i32_3559 : BitVec 32 := 1#32
  let v2813 : BitVec 32 := Scalar.muli v0 c1_i32_3559
  let v2814 : BitVec 32 := Scalar.addi c0_i32_3560 v2813
  v2814.toNat
def k0_off41 (v2815 : BitVec 32) : Fin 2 → Nat :=
  let c256_i32_3561 : BitVec 32 := 256#32
  let v2816 : BitVec 32 := Scalar.muli v2815 c256_i32_3561
  let v2817 : Index := Scalar.indexCast v2816
  let c0_3562 : Index := 0#32
  ![v2817.toNat, 0]

def k0_chk43 (v2815 : BitVec 32) : Prop :=
  (∀ a, (k0_off41 v2815) a + S256x256.size a ≤ S8192x256.size a)
theorem k0_off41_inb : ∀ (v2815 : BitVec 32) (k0_hw43 : k0_chk43 v2815), ∀ a, (k0_off41 v2815) a + S256x256.size a ≤ S8192x256.size a := fun v2815 k0_hw43 => k0_hw43

def k0_off42 (v2823 : BitVec 32) : Fin 2 → Nat :=
  let c256_i32_3566 : BitVec 32 := 256#32
  let v2824 : BitVec 32 := Scalar.muli v2823 c256_i32_3566
  let v2825 : Index := Scalar.indexCast v2824
  let c0_3567 : Index := 0#32
  ![v2825.toNat, 0]

def k0_chk44 (v2823 : BitVec 32) : Prop :=
  (∀ a, (k0_off42 v2823) a + S256x256.size a ≤ S8192x256.size a)
theorem k0_off42_inb : ∀ (v2823 : BitVec 32) (k0_hw44 : k0_chk44 v2823), ∀ a, (k0_off42 v2823) a + S256x256.size a ≤ S8192x256.size a := fun v2823 k0_hw44 => k0_hw44

def k0_dev121 (v0 : BitVec 32) : Nat :=
  let c0_i32_3609 : BitVec 32 := 0#32
  let c1_i32_3608 : BitVec 32 := 1#32
  let v2852 : BitVec 32 := Scalar.muli v0 c1_i32_3608
  let v2853 : BitVec 32 := Scalar.addi c0_i32_3609 v2852
  v2853.toNat
def k0_dev122 (v1 : BitVec 32) : Nat :=
  let c0_i32_3652 : BitVec 32 := 0#32
  let c1_i32_3651 : BitVec 32 := 1#32
  let v2883 : BitVec 32 := Scalar.muli v1 c1_i32_3651
  let v2884 : BitVec 32 := Scalar.addi c0_i32_3652 v2883
  v2884.toNat
def k0_dev123 (v0 : BitVec 32) : Nat :=
  let c0_i32_3693 : BitVec 32 := 0#32
  let c1_i32_3692 : BitVec 32 := 1#32
  let v2914 : BitVec 32 := Scalar.muli v0 c1_i32_3692
  let v2915 : BitVec 32 := Scalar.addi c0_i32_3693 v2914
  v2915.toNat
def k0_dev124 (v1 : BitVec 32) : Nat :=
  let c0_i32_3734 : BitVec 32 := 0#32
  let c1_i32_3733 : BitVec 32 := 1#32
  let v2945 : BitVec 32 := Scalar.muli v1 c1_i32_3733
  let v2946 : BitVec 32 := Scalar.addi c0_i32_3734 v2945
  v2946.toNat
def k0_dev125 (v1 : BitVec 32) : Nat :=
  let c0_i32_3741 : BitVec 32 := 0#32
  let c1_i32_3740 : BitVec 32 := 1#32
  let v2955 : BitVec 32 := Scalar.muli v1 c1_i32_3740
  let v2956 : BitVec 32 := Scalar.addi c0_i32_3741 v2955
  v2956.toNat
def k0_dev126 (v0 : BitVec 32) : Nat :=
  let c0_i32_3744 : BitVec 32 := 0#32
  let c1_i32_3743 : BitVec 32 := 1#32
  let v2957 : BitVec 32 := Scalar.muli v0 c1_i32_3743
  let v2958 : BitVec 32 := Scalar.addi c0_i32_3744 v2957
  v2958.toNat
def k0_off43 (v2959 : BitVec 32) : Fin 2 → Nat :=
  let c256_i32_3745 : BitVec 32 := 256#32
  let v2960 : BitVec 32 := Scalar.muli v2959 c256_i32_3745
  let v2961 : Index := Scalar.indexCast v2960
  let c0_3746 : Index := 0#32
  ![v2961.toNat, 0]

def k0_chk45 (v2959 : BitVec 32) : Prop :=
  (∀ a, (k0_off43 v2959) a + S256x256.size a ≤ S8192x256.size a)
theorem k0_off43_inb : ∀ (v2959 : BitVec 32) (k0_hw45 : k0_chk45 v2959), ∀ a, (k0_off43 v2959) a + S256x256.size a ≤ S8192x256.size a := fun v2959 k0_hw45 => k0_hw45

def k0_off44 (v2967 : BitVec 32) : Fin 2 → Nat :=
  let c256_i32_3750 : BitVec 32 := 256#32
  let v2968 : BitVec 32 := Scalar.muli v2967 c256_i32_3750
  let v2969 : Index := Scalar.indexCast v2968
  let c0_3751 : Index := 0#32
  ![v2969.toNat, 0]

def k0_chk46 (v2967 : BitVec 32) : Prop :=
  (∀ a, (k0_off44 v2967) a + S256x256.size a ≤ S8192x256.size a)
theorem k0_off44_inb : ∀ (v2967 : BitVec 32) (k0_hw46 : k0_chk46 v2967), ∀ a, (k0_off44 v2967) a + S256x256.size a ≤ S8192x256.size a := fun v2967 k0_hw46 => k0_hw46

def k0_dev127 (v0 : BitVec 32) : Nat :=
  let c0_i32_3793 : BitVec 32 := 0#32
  let c1_i32_3792 : BitVec 32 := 1#32
  let v2996 : BitVec 32 := Scalar.muli v0 c1_i32_3792
  let v2997 : BitVec 32 := Scalar.addi c0_i32_3793 v2996
  v2997.toNat
def k0_dev128 (v1 : BitVec 32) : Nat :=
  let c0_i32_3836 : BitVec 32 := 0#32
  let c1_i32_3835 : BitVec 32 := 1#32
  let v3027 : BitVec 32 := Scalar.muli v1 c1_i32_3835
  let v3028 : BitVec 32 := Scalar.addi c0_i32_3836 v3027
  v3028.toNat
def k0_dev129 (v0 : BitVec 32) : Nat :=
  let c0_i32_3877 : BitVec 32 := 0#32
  let c1_i32_3876 : BitVec 32 := 1#32
  let v3058 : BitVec 32 := Scalar.muli v0 c1_i32_3876
  let v3059 : BitVec 32 := Scalar.addi c0_i32_3877 v3058
  v3059.toNat
def k0_dev130 (v1 : BitVec 32) : Nat :=
  let c0_i32_3918 : BitVec 32 := 0#32
  let c1_i32_3917 : BitVec 32 := 1#32
  let v3089 : BitVec 32 := Scalar.muli v1 c1_i32_3917
  let v3090 : BitVec 32 := Scalar.addi c0_i32_3918 v3089
  v3090.toNat
def k0_dev131 (v1 : BitVec 32) : Nat :=
  let c0_i32_3925 : BitVec 32 := 0#32
  let c1_i32_3924 : BitVec 32 := 1#32
  let v3099 : BitVec 32 := Scalar.muli v1 c1_i32_3924
  let v3100 : BitVec 32 := Scalar.addi c0_i32_3925 v3099
  v3100.toNat
def k0_dev132 (v0 : BitVec 32) : Nat :=
  let c0_i32_3928 : BitVec 32 := 0#32
  let c1_i32_3927 : BitVec 32 := 1#32
  let v3101 : BitVec 32 := Scalar.muli v0 c1_i32_3927
  let v3102 : BitVec 32 := Scalar.addi c0_i32_3928 v3101
  v3102.toNat
def k0_off45 (v3103 : BitVec 32) : Fin 2 → Nat :=
  let c256_i32_3929 : BitVec 32 := 256#32
  let v3104 : BitVec 32 := Scalar.muli v3103 c256_i32_3929
  let v3105 : Index := Scalar.indexCast v3104
  let c0_3930 : Index := 0#32
  ![v3105.toNat, 0]

def k0_chk47 (v3103 : BitVec 32) : Prop :=
  (∀ a, (k0_off45 v3103) a + S256x256.size a ≤ S8192x256.size a)
theorem k0_off45_inb : ∀ (v3103 : BitVec 32) (k0_hw47 : k0_chk47 v3103), ∀ a, (k0_off45 v3103) a + S256x256.size a ≤ S8192x256.size a := fun v3103 k0_hw47 => k0_hw47

def k0_off46 (v3111 : BitVec 32) : Fin 2 → Nat :=
  let c256_i32_3934 : BitVec 32 := 256#32
  let v3112 : BitVec 32 := Scalar.muli v3111 c256_i32_3934
  let v3113 : Index := Scalar.indexCast v3112
  let c0_3935 : Index := 0#32
  ![v3113.toNat, 0]

def k0_chk48 (v3111 : BitVec 32) : Prop :=
  (∀ a, (k0_off46 v3111) a + S256x256.size a ≤ S8192x256.size a)
theorem k0_off46_inb : ∀ (v3111 : BitVec 32) (k0_hw48 : k0_chk48 v3111), ∀ a, (k0_off46 v3111) a + S256x256.size a ≤ S8192x256.size a := fun v3111 k0_hw48 => k0_hw48

def k0_dev133 (v0 : BitVec 32) : Nat :=
  let c0_i32_3977 : BitVec 32 := 0#32
  let c1_i32_3976 : BitVec 32 := 1#32
  let v3140 : BitVec 32 := Scalar.muli v0 c1_i32_3976
  let v3141 : BitVec 32 := Scalar.addi c0_i32_3977 v3140
  v3141.toNat
def k0_dev134 (v1 : BitVec 32) : Nat :=
  let c0_i32_4020 : BitVec 32 := 0#32
  let c1_i32_4019 : BitVec 32 := 1#32
  let v3171 : BitVec 32 := Scalar.muli v1 c1_i32_4019
  let v3172 : BitVec 32 := Scalar.addi c0_i32_4020 v3171
  v3172.toNat
def k0_dev135 (v0 : BitVec 32) : Nat :=
  let c0_i32_4061 : BitVec 32 := 0#32
  let c1_i32_4060 : BitVec 32 := 1#32
  let v3202 : BitVec 32 := Scalar.muli v0 c1_i32_4060
  let v3203 : BitVec 32 := Scalar.addi c0_i32_4061 v3202
  v3203.toNat
def k0_dev136 (v1 : BitVec 32) : Nat :=
  let c0_i32_4102 : BitVec 32 := 0#32
  let c1_i32_4101 : BitVec 32 := 1#32
  let v3233 : BitVec 32 := Scalar.muli v1 c1_i32_4101
  let v3234 : BitVec 32 := Scalar.addi c0_i32_4102 v3233
  v3234.toNat
def k0_dev137 (v1 : BitVec 32) : Nat :=
  let c0_i32_4109 : BitVec 32 := 0#32
  let c1_i32_4108 : BitVec 32 := 1#32
  let v3243 : BitVec 32 := Scalar.muli v1 c1_i32_4108
  let v3244 : BitVec 32 := Scalar.addi c0_i32_4109 v3243
  v3244.toNat
def k0_dev138 (v0 : BitVec 32) : Nat :=
  let c0_i32_4112 : BitVec 32 := 0#32
  let c1_i32_4111 : BitVec 32 := 1#32
  let v3245 : BitVec 32 := Scalar.muli v0 c1_i32_4111
  let v3246 : BitVec 32 := Scalar.addi c0_i32_4112 v3245
  v3246.toNat
def k0_off47 (v3247 : BitVec 32) : Fin 2 → Nat :=
  let c256_i32_4113 : BitVec 32 := 256#32
  let v3248 : BitVec 32 := Scalar.muli v3247 c256_i32_4113
  let v3249 : Index := Scalar.indexCast v3248
  let c0_4114 : Index := 0#32
  ![v3249.toNat, 0]

def k0_chk49 (v3247 : BitVec 32) : Prop :=
  (∀ a, (k0_off47 v3247) a + S256x256.size a ≤ S8192x256.size a)
theorem k0_off47_inb : ∀ (v3247 : BitVec 32) (k0_hw49 : k0_chk49 v3247), ∀ a, (k0_off47 v3247) a + S256x256.size a ≤ S8192x256.size a := fun v3247 k0_hw49 => k0_hw49

def k0_off48 (v3255 : BitVec 32) : Fin 2 → Nat :=
  let c256_i32_4118 : BitVec 32 := 256#32
  let v3256 : BitVec 32 := Scalar.muli v3255 c256_i32_4118
  let v3257 : Index := Scalar.indexCast v3256
  let c0_4119 : Index := 0#32
  ![v3257.toNat, 0]

def k0_chk50 (v3255 : BitVec 32) : Prop :=
  (∀ a, (k0_off48 v3255) a + S256x256.size a ≤ S8192x256.size a)
theorem k0_off48_inb : ∀ (v3255 : BitVec 32) (k0_hw50 : k0_chk50 v3255), ∀ a, (k0_off48 v3255) a + S256x256.size a ≤ S8192x256.size a := fun v3255 k0_hw50 => k0_hw50

def k0_dev139 (v0 : BitVec 32) : Nat :=
  let c0_i32_4161 : BitVec 32 := 0#32
  let c1_i32_4160 : BitVec 32 := 1#32
  let v3284 : BitVec 32 := Scalar.muli v0 c1_i32_4160
  let v3285 : BitVec 32 := Scalar.addi c0_i32_4161 v3284
  v3285.toNat
def k0_dev140 (v1 : BitVec 32) : Nat :=
  let c0_i32_4204 : BitVec 32 := 0#32
  let c1_i32_4203 : BitVec 32 := 1#32
  let v3315 : BitVec 32 := Scalar.muli v1 c1_i32_4203
  let v3316 : BitVec 32 := Scalar.addi c0_i32_4204 v3315
  v3316.toNat
def k0_dev141 (v0 : BitVec 32) : Nat :=
  let c0_i32_4245 : BitVec 32 := 0#32
  let c1_i32_4244 : BitVec 32 := 1#32
  let v3346 : BitVec 32 := Scalar.muli v0 c1_i32_4244
  let v3347 : BitVec 32 := Scalar.addi c0_i32_4245 v3346
  v3347.toNat
def k0_dev142 (v1 : BitVec 32) : Nat :=
  let c0_i32_4286 : BitVec 32 := 0#32
  let c1_i32_4285 : BitVec 32 := 1#32
  let v3377 : BitVec 32 := Scalar.muli v1 c1_i32_4285
  let v3378 : BitVec 32 := Scalar.addi c0_i32_4286 v3377
  v3378.toNat
def k0_dev143 (v1 : BitVec 32) : Nat :=
  let c0_i32_4293 : BitVec 32 := 0#32
  let c1_i32_4292 : BitVec 32 := 1#32
  let v3387 : BitVec 32 := Scalar.muli v1 c1_i32_4292
  let v3388 : BitVec 32 := Scalar.addi c0_i32_4293 v3387
  v3388.toNat
def k0_dev144 (v0 : BitVec 32) : Nat :=
  let c0_i32_4296 : BitVec 32 := 0#32
  let c1_i32_4295 : BitVec 32 := 1#32
  let v3389 : BitVec 32 := Scalar.muli v0 c1_i32_4295
  let v3390 : BitVec 32 := Scalar.addi c0_i32_4296 v3389
  v3390.toNat
def k0_off49 (v3391 : BitVec 32) : Fin 2 → Nat :=
  let c256_i32_4297 : BitVec 32 := 256#32
  let v3392 : BitVec 32 := Scalar.muli v3391 c256_i32_4297
  let v3393 : Index := Scalar.indexCast v3392
  let c0_4298 : Index := 0#32
  ![v3393.toNat, 0]

def k0_chk51 (v3391 : BitVec 32) : Prop :=
  (∀ a, (k0_off49 v3391) a + S256x256.size a ≤ S8192x256.size a)
theorem k0_off49_inb : ∀ (v3391 : BitVec 32) (k0_hw51 : k0_chk51 v3391), ∀ a, (k0_off49 v3391) a + S256x256.size a ≤ S8192x256.size a := fun v3391 k0_hw51 => k0_hw51

def k0_off50 (v3399 : BitVec 32) : Fin 2 → Nat :=
  let c256_i32_4302 : BitVec 32 := 256#32
  let v3400 : BitVec 32 := Scalar.muli v3399 c256_i32_4302
  let v3401 : Index := Scalar.indexCast v3400
  let c0_4303 : Index := 0#32
  ![v3401.toNat, 0]

def k0_chk52 (v3399 : BitVec 32) : Prop :=
  (∀ a, (k0_off50 v3399) a + S256x256.size a ≤ S8192x256.size a)
theorem k0_off50_inb : ∀ (v3399 : BitVec 32) (k0_hw52 : k0_chk52 v3399), ∀ a, (k0_off50 v3399) a + S256x256.size a ≤ S8192x256.size a := fun v3399 k0_hw52 => k0_hw52

def k0_dev145 (v0 : BitVec 32) : Nat :=
  let c0_i32_4345 : BitVec 32 := 0#32
  let c1_i32_4344 : BitVec 32 := 1#32
  let v3428 : BitVec 32 := Scalar.muli v0 c1_i32_4344
  let v3429 : BitVec 32 := Scalar.addi c0_i32_4345 v3428
  v3429.toNat
def k0_dev146 (v1 : BitVec 32) : Nat :=
  let c0_i32_4388 : BitVec 32 := 0#32
  let c1_i32_4387 : BitVec 32 := 1#32
  let v3459 : BitVec 32 := Scalar.muli v1 c1_i32_4387
  let v3460 : BitVec 32 := Scalar.addi c0_i32_4388 v3459
  v3460.toNat
def k0_dev147 (v0 : BitVec 32) : Nat :=
  let c0_i32_4429 : BitVec 32 := 0#32
  let c1_i32_4428 : BitVec 32 := 1#32
  let v3490 : BitVec 32 := Scalar.muli v0 c1_i32_4428
  let v3491 : BitVec 32 := Scalar.addi c0_i32_4429 v3490
  v3491.toNat
def k0_dev148 (v1 : BitVec 32) : Nat :=
  let c0_i32_4470 : BitVec 32 := 0#32
  let c1_i32_4469 : BitVec 32 := 1#32
  let v3521 : BitVec 32 := Scalar.muli v1 c1_i32_4469
  let v3522 : BitVec 32 := Scalar.addi c0_i32_4470 v3521
  v3522.toNat
def k0_dev149 (v1 : BitVec 32) : Nat :=
  let c0_i32_4477 : BitVec 32 := 0#32
  let c1_i32_4476 : BitVec 32 := 1#32
  let v3531 : BitVec 32 := Scalar.muli v1 c1_i32_4476
  let v3532 : BitVec 32 := Scalar.addi c0_i32_4477 v3531
  v3532.toNat
def k0_dev150 (v0 : BitVec 32) : Nat :=
  let c0_i32_4480 : BitVec 32 := 0#32
  let c1_i32_4479 : BitVec 32 := 1#32
  let v3533 : BitVec 32 := Scalar.muli v0 c1_i32_4479
  let v3534 : BitVec 32 := Scalar.addi c0_i32_4480 v3533
  v3534.toNat
def k0_off51 (v3535 : BitVec 32) : Fin 2 → Nat :=
  let c256_i32_4481 : BitVec 32 := 256#32
  let v3536 : BitVec 32 := Scalar.muli v3535 c256_i32_4481
  let v3537 : Index := Scalar.indexCast v3536
  let c0_4482 : Index := 0#32
  ![v3537.toNat, 0]

def k0_chk53 (v3535 : BitVec 32) : Prop :=
  (∀ a, (k0_off51 v3535) a + S256x256.size a ≤ S8192x256.size a)
theorem k0_off51_inb : ∀ (v3535 : BitVec 32) (k0_hw53 : k0_chk53 v3535), ∀ a, (k0_off51 v3535) a + S256x256.size a ≤ S8192x256.size a := fun v3535 k0_hw53 => k0_hw53

def k0_off52 (v3543 : BitVec 32) : Fin 2 → Nat :=
  let c256_i32_4486 : BitVec 32 := 256#32
  let v3544 : BitVec 32 := Scalar.muli v3543 c256_i32_4486
  let v3545 : Index := Scalar.indexCast v3544
  let c0_4487 : Index := 0#32
  ![v3545.toNat, 0]

def k0_chk54 (v3543 : BitVec 32) : Prop :=
  (∀ a, (k0_off52 v3543) a + S256x256.size a ≤ S8192x256.size a)
theorem k0_off52_inb : ∀ (v3543 : BitVec 32) (k0_hw54 : k0_chk54 v3543), ∀ a, (k0_off52 v3543) a + S256x256.size a ≤ S8192x256.size a := fun v3543 k0_hw54 => k0_hw54

def k0_dev151 (v0 : BitVec 32) : Nat :=
  let c0_i32_4529 : BitVec 32 := 0#32
  let c1_i32_4528 : BitVec 32 := 1#32
  let v3572 : BitVec 32 := Scalar.muli v0 c1_i32_4528
  let v3573 : BitVec 32 := Scalar.addi c0_i32_4529 v3572
  v3573.toNat
def k0_dev152 (v1 : BitVec 32) : Nat :=
  let c0_i32_4572 : BitVec 32 := 0#32
  let c1_i32_4571 : BitVec 32 := 1#32
  let v3603 : BitVec 32 := Scalar.muli v1 c1_i32_4571
  let v3604 : BitVec 32 := Scalar.addi c0_i32_4572 v3603
  v3604.toNat
def k0_dev153 (v0 : BitVec 32) : Nat :=
  let c0_i32_4613 : BitVec 32 := 0#32
  let c1_i32_4612 : BitVec 32 := 1#32
  let v3634 : BitVec 32 := Scalar.muli v0 c1_i32_4612
  let v3635 : BitVec 32 := Scalar.addi c0_i32_4613 v3634
  v3635.toNat
def k0_dev154 (v1 : BitVec 32) : Nat :=
  let c0_i32_4654 : BitVec 32 := 0#32
  let c1_i32_4653 : BitVec 32 := 1#32
  let v3665 : BitVec 32 := Scalar.muli v1 c1_i32_4653
  let v3666 : BitVec 32 := Scalar.addi c0_i32_4654 v3665
  v3666.toNat
def k0_dev155 (v1 : BitVec 32) : Nat :=
  let c0_i32_4661 : BitVec 32 := 0#32
  let c1_i32_4660 : BitVec 32 := 1#32
  let v3675 : BitVec 32 := Scalar.muli v1 c1_i32_4660
  let v3676 : BitVec 32 := Scalar.addi c0_i32_4661 v3675
  v3676.toNat
def k0_dev156 (v0 : BitVec 32) : Nat :=
  let c0_i32_4664 : BitVec 32 := 0#32
  let c1_i32_4663 : BitVec 32 := 1#32
  let v3677 : BitVec 32 := Scalar.muli v0 c1_i32_4663
  let v3678 : BitVec 32 := Scalar.addi c0_i32_4664 v3677
  v3678.toNat
def k0_off53 (v3679 : BitVec 32) : Fin 2 → Nat :=
  let c256_i32_4665 : BitVec 32 := 256#32
  let v3680 : BitVec 32 := Scalar.muli v3679 c256_i32_4665
  let v3681 : Index := Scalar.indexCast v3680
  let c0_4666 : Index := 0#32
  ![v3681.toNat, 0]

def k0_chk55 (v3679 : BitVec 32) : Prop :=
  (∀ a, (k0_off53 v3679) a + S256x256.size a ≤ S8192x256.size a)
theorem k0_off53_inb : ∀ (v3679 : BitVec 32) (k0_hw55 : k0_chk55 v3679), ∀ a, (k0_off53 v3679) a + S256x256.size a ≤ S8192x256.size a := fun v3679 k0_hw55 => k0_hw55

def k0_off54 (v3687 : BitVec 32) : Fin 2 → Nat :=
  let c256_i32_4670 : BitVec 32 := 256#32
  let v3688 : BitVec 32 := Scalar.muli v3687 c256_i32_4670
  let v3689 : Index := Scalar.indexCast v3688
  let c0_4671 : Index := 0#32
  ![v3689.toNat, 0]

def k0_chk56 (v3687 : BitVec 32) : Prop :=
  (∀ a, (k0_off54 v3687) a + S256x256.size a ≤ S8192x256.size a)
theorem k0_off54_inb : ∀ (v3687 : BitVec 32) (k0_hw56 : k0_chk56 v3687), ∀ a, (k0_off54 v3687) a + S256x256.size a ≤ S8192x256.size a := fun v3687 k0_hw56 => k0_hw56

def k0_dev157 (v0 : BitVec 32) : Nat :=
  let c0_i32_4713 : BitVec 32 := 0#32
  let c1_i32_4712 : BitVec 32 := 1#32
  let v3716 : BitVec 32 := Scalar.muli v0 c1_i32_4712
  let v3717 : BitVec 32 := Scalar.addi c0_i32_4713 v3716
  v3717.toNat
def k0_dev158 (v1 : BitVec 32) : Nat :=
  let c0_i32_4756 : BitVec 32 := 0#32
  let c1_i32_4755 : BitVec 32 := 1#32
  let v3747 : BitVec 32 := Scalar.muli v1 c1_i32_4755
  let v3748 : BitVec 32 := Scalar.addi c0_i32_4756 v3747
  v3748.toNat
def k0_dev159 (v0 : BitVec 32) : Nat :=
  let c0_i32_4797 : BitVec 32 := 0#32
  let c1_i32_4796 : BitVec 32 := 1#32
  let v3778 : BitVec 32 := Scalar.muli v0 c1_i32_4796
  let v3779 : BitVec 32 := Scalar.addi c0_i32_4797 v3778
  v3779.toNat
def k0_dev160 (v1 : BitVec 32) : Nat :=
  let c0_i32_4838 : BitVec 32 := 0#32
  let c1_i32_4837 : BitVec 32 := 1#32
  let v3809 : BitVec 32 := Scalar.muli v1 c1_i32_4837
  let v3810 : BitVec 32 := Scalar.addi c0_i32_4838 v3809
  v3810.toNat
def k0_dev161 (v1 : BitVec 32) : Nat :=
  let c0_i32_4845 : BitVec 32 := 0#32
  let c1_i32_4844 : BitVec 32 := 1#32
  let v3819 : BitVec 32 := Scalar.muli v1 c1_i32_4844
  let v3820 : BitVec 32 := Scalar.addi c0_i32_4845 v3819
  v3820.toNat
def k0_dev162 (v0 : BitVec 32) : Nat :=
  let c0_i32_4848 : BitVec 32 := 0#32
  let c1_i32_4847 : BitVec 32 := 1#32
  let v3821 : BitVec 32 := Scalar.muli v0 c1_i32_4847
  let v3822 : BitVec 32 := Scalar.addi c0_i32_4848 v3821
  v3822.toNat
def k0_off55 (v3823 : BitVec 32) : Fin 2 → Nat :=
  let c256_i32_4849 : BitVec 32 := 256#32
  let v3824 : BitVec 32 := Scalar.muli v3823 c256_i32_4849
  let v3825 : Index := Scalar.indexCast v3824
  let c0_4850 : Index := 0#32
  ![v3825.toNat, 0]

def k0_chk57 (v3823 : BitVec 32) : Prop :=
  (∀ a, (k0_off55 v3823) a + S256x256.size a ≤ S8192x256.size a)
theorem k0_off55_inb : ∀ (v3823 : BitVec 32) (k0_hw57 : k0_chk57 v3823), ∀ a, (k0_off55 v3823) a + S256x256.size a ≤ S8192x256.size a := fun v3823 k0_hw57 => k0_hw57

def k0_off56 (v3831 : BitVec 32) : Fin 2 → Nat :=
  let c256_i32_4854 : BitVec 32 := 256#32
  let v3832 : BitVec 32 := Scalar.muli v3831 c256_i32_4854
  let v3833 : Index := Scalar.indexCast v3832
  let c0_4855 : Index := 0#32
  ![v3833.toNat, 0]

def k0_chk58 (v3831 : BitVec 32) : Prop :=
  (∀ a, (k0_off56 v3831) a + S256x256.size a ≤ S8192x256.size a)
theorem k0_off56_inb : ∀ (v3831 : BitVec 32) (k0_hw58 : k0_chk58 v3831), ∀ a, (k0_off56 v3831) a + S256x256.size a ≤ S8192x256.size a := fun v3831 k0_hw58 => k0_hw58

def k0_dev163 (v0 : BitVec 32) : Nat :=
  let c0_i32_4897 : BitVec 32 := 0#32
  let c1_i32_4896 : BitVec 32 := 1#32
  let v3860 : BitVec 32 := Scalar.muli v0 c1_i32_4896
  let v3861 : BitVec 32 := Scalar.addi c0_i32_4897 v3860
  v3861.toNat
def k0_dev164 (v1 : BitVec 32) : Nat :=
  let c0_i32_4940 : BitVec 32 := 0#32
  let c1_i32_4939 : BitVec 32 := 1#32
  let v3891 : BitVec 32 := Scalar.muli v1 c1_i32_4939
  let v3892 : BitVec 32 := Scalar.addi c0_i32_4940 v3891
  v3892.toNat
def k0_dev165 (v0 : BitVec 32) : Nat :=
  let c0_i32_4981 : BitVec 32 := 0#32
  let c1_i32_4980 : BitVec 32 := 1#32
  let v3922 : BitVec 32 := Scalar.muli v0 c1_i32_4980
  let v3923 : BitVec 32 := Scalar.addi c0_i32_4981 v3922
  v3923.toNat
def k0_dev166 (v1 : BitVec 32) : Nat :=
  let c0_i32_5022 : BitVec 32 := 0#32
  let c1_i32_5021 : BitVec 32 := 1#32
  let v3953 : BitVec 32 := Scalar.muli v1 c1_i32_5021
  let v3954 : BitVec 32 := Scalar.addi c0_i32_5022 v3953
  v3954.toNat
def k0_dev167 (v1 : BitVec 32) : Nat :=
  let c0_i32_5029 : BitVec 32 := 0#32
  let c1_i32_5028 : BitVec 32 := 1#32
  let v3963 : BitVec 32 := Scalar.muli v1 c1_i32_5028
  let v3964 : BitVec 32 := Scalar.addi c0_i32_5029 v3963
  v3964.toNat
def k0_dev168 (v0 : BitVec 32) : Nat :=
  let c0_i32_5032 : BitVec 32 := 0#32
  let c1_i32_5031 : BitVec 32 := 1#32
  let v3965 : BitVec 32 := Scalar.muli v0 c1_i32_5031
  let v3966 : BitVec 32 := Scalar.addi c0_i32_5032 v3965
  v3966.toNat
def k0_off57 (v3967 : BitVec 32) : Fin 2 → Nat :=
  let c256_i32_5033 : BitVec 32 := 256#32
  let v3968 : BitVec 32 := Scalar.muli v3967 c256_i32_5033
  let v3969 : Index := Scalar.indexCast v3968
  let c0_5034 : Index := 0#32
  ![v3969.toNat, 0]

def k0_chk59 (v3967 : BitVec 32) : Prop :=
  (∀ a, (k0_off57 v3967) a + S256x256.size a ≤ S8192x256.size a)
theorem k0_off57_inb : ∀ (v3967 : BitVec 32) (k0_hw59 : k0_chk59 v3967), ∀ a, (k0_off57 v3967) a + S256x256.size a ≤ S8192x256.size a := fun v3967 k0_hw59 => k0_hw59

def k0_off58 (v3975 : BitVec 32) : Fin 2 → Nat :=
  let c256_i32_5038 : BitVec 32 := 256#32
  let v3976 : BitVec 32 := Scalar.muli v3975 c256_i32_5038
  let v3977 : Index := Scalar.indexCast v3976
  let c0_5039 : Index := 0#32
  ![v3977.toNat, 0]

def k0_chk60 (v3975 : BitVec 32) : Prop :=
  (∀ a, (k0_off58 v3975) a + S256x256.size a ≤ S8192x256.size a)
theorem k0_off58_inb : ∀ (v3975 : BitVec 32) (k0_hw60 : k0_chk60 v3975), ∀ a, (k0_off58 v3975) a + S256x256.size a ≤ S8192x256.size a := fun v3975 k0_hw60 => k0_hw60

def k0_dev169 (v0 : BitVec 32) : Nat :=
  let c0_i32_5081 : BitVec 32 := 0#32
  let c1_i32_5080 : BitVec 32 := 1#32
  let v4004 : BitVec 32 := Scalar.muli v0 c1_i32_5080
  let v4005 : BitVec 32 := Scalar.addi c0_i32_5081 v4004
  v4005.toNat
def k0_dev170 (v1 : BitVec 32) : Nat :=
  let c0_i32_5124 : BitVec 32 := 0#32
  let c1_i32_5123 : BitVec 32 := 1#32
  let v4035 : BitVec 32 := Scalar.muli v1 c1_i32_5123
  let v4036 : BitVec 32 := Scalar.addi c0_i32_5124 v4035
  v4036.toNat
def k0_dev171 (v0 : BitVec 32) : Nat :=
  let c0_i32_5165 : BitVec 32 := 0#32
  let c1_i32_5164 : BitVec 32 := 1#32
  let v4066 : BitVec 32 := Scalar.muli v0 c1_i32_5164
  let v4067 : BitVec 32 := Scalar.addi c0_i32_5165 v4066
  v4067.toNat
def k0_dev172 (v1 : BitVec 32) : Nat :=
  let c0_i32_5206 : BitVec 32 := 0#32
  let c1_i32_5205 : BitVec 32 := 1#32
  let v4097 : BitVec 32 := Scalar.muli v1 c1_i32_5205
  let v4098 : BitVec 32 := Scalar.addi c0_i32_5206 v4097
  v4098.toNat
def k0_dev173 (v1 : BitVec 32) : Nat :=
  let c0_i32_5213 : BitVec 32 := 0#32
  let c1_i32_5212 : BitVec 32 := 1#32
  let v4107 : BitVec 32 := Scalar.muli v1 c1_i32_5212
  let v4108 : BitVec 32 := Scalar.addi c0_i32_5213 v4107
  v4108.toNat
def k0_dev174 (v0 : BitVec 32) : Nat :=
  let c0_i32_5216 : BitVec 32 := 0#32
  let c1_i32_5215 : BitVec 32 := 1#32
  let v4109 : BitVec 32 := Scalar.muli v0 c1_i32_5215
  let v4110 : BitVec 32 := Scalar.addi c0_i32_5216 v4109
  v4110.toNat
def k0_off59 (v4111 : BitVec 32) : Fin 2 → Nat :=
  let c256_i32_5217 : BitVec 32 := 256#32
  let v4112 : BitVec 32 := Scalar.muli v4111 c256_i32_5217
  let v4113 : Index := Scalar.indexCast v4112
  let c0_5218 : Index := 0#32
  ![v4113.toNat, 0]

def k0_chk61 (v4111 : BitVec 32) : Prop :=
  (∀ a, (k0_off59 v4111) a + S256x256.size a ≤ S8192x256.size a)
theorem k0_off59_inb : ∀ (v4111 : BitVec 32) (k0_hw61 : k0_chk61 v4111), ∀ a, (k0_off59 v4111) a + S256x256.size a ≤ S8192x256.size a := fun v4111 k0_hw61 => k0_hw61

def k0_off60 (v4119 : BitVec 32) : Fin 2 → Nat :=
  let c256_i32_5222 : BitVec 32 := 256#32
  let v4120 : BitVec 32 := Scalar.muli v4119 c256_i32_5222
  let v4121 : Index := Scalar.indexCast v4120
  let c0_5223 : Index := 0#32
  ![v4121.toNat, 0]

def k0_chk62 (v4119 : BitVec 32) : Prop :=
  (∀ a, (k0_off60 v4119) a + S256x256.size a ≤ S8192x256.size a)
theorem k0_off60_inb : ∀ (v4119 : BitVec 32) (k0_hw62 : k0_chk62 v4119), ∀ a, (k0_off60 v4119) a + S256x256.size a ≤ S8192x256.size a := fun v4119 k0_hw62 => k0_hw62

def k0_dev175 (v0 : BitVec 32) : Nat :=
  let c0_i32_5265 : BitVec 32 := 0#32
  let c1_i32_5264 : BitVec 32 := 1#32
  let v4148 : BitVec 32 := Scalar.muli v0 c1_i32_5264
  let v4149 : BitVec 32 := Scalar.addi c0_i32_5265 v4148
  v4149.toNat
def k0_dev176 (v1 : BitVec 32) : Nat :=
  let c0_i32_5308 : BitVec 32 := 0#32
  let c1_i32_5307 : BitVec 32 := 1#32
  let v4179 : BitVec 32 := Scalar.muli v1 c1_i32_5307
  let v4180 : BitVec 32 := Scalar.addi c0_i32_5308 v4179
  v4180.toNat
def k0_dev177 (v0 : BitVec 32) : Nat :=
  let c0_i32_5349 : BitVec 32 := 0#32
  let c1_i32_5348 : BitVec 32 := 1#32
  let v4210 : BitVec 32 := Scalar.muli v0 c1_i32_5348
  let v4211 : BitVec 32 := Scalar.addi c0_i32_5349 v4210
  v4211.toNat
def k0_dev178 (v1 : BitVec 32) : Nat :=
  let c0_i32_5390 : BitVec 32 := 0#32
  let c1_i32_5389 : BitVec 32 := 1#32
  let v4241 : BitVec 32 := Scalar.muli v1 c1_i32_5389
  let v4242 : BitVec 32 := Scalar.addi c0_i32_5390 v4241
  v4242.toNat
def k0_dev179 (v1 : BitVec 32) : Nat :=
  let c0_i32_5397 : BitVec 32 := 0#32
  let c1_i32_5396 : BitVec 32 := 1#32
  let v4251 : BitVec 32 := Scalar.muli v1 c1_i32_5396
  let v4252 : BitVec 32 := Scalar.addi c0_i32_5397 v4251
  v4252.toNat
def k0_dev180 (v0 : BitVec 32) : Nat :=
  let c0_i32_5400 : BitVec 32 := 0#32
  let c1_i32_5399 : BitVec 32 := 1#32
  let v4253 : BitVec 32 := Scalar.muli v0 c1_i32_5399
  let v4254 : BitVec 32 := Scalar.addi c0_i32_5400 v4253
  v4254.toNat
def k0_off61 (v4255 : BitVec 32) : Fin 2 → Nat :=
  let c256_i32_5401 : BitVec 32 := 256#32
  let v4256 : BitVec 32 := Scalar.muli v4255 c256_i32_5401
  let v4257 : Index := Scalar.indexCast v4256
  let c0_5402 : Index := 0#32
  ![v4257.toNat, 0]

def k0_chk63 (v4255 : BitVec 32) : Prop :=
  (∀ a, (k0_off61 v4255) a + S256x256.size a ≤ S8192x256.size a)
theorem k0_off61_inb : ∀ (v4255 : BitVec 32) (k0_hw63 : k0_chk63 v4255), ∀ a, (k0_off61 v4255) a + S256x256.size a ≤ S8192x256.size a := fun v4255 k0_hw63 => k0_hw63

def k0_off62 (v4263 : BitVec 32) : Fin 2 → Nat :=
  let c256_i32_5406 : BitVec 32 := 256#32
  let v4264 : BitVec 32 := Scalar.muli v4263 c256_i32_5406
  let v4265 : Index := Scalar.indexCast v4264
  let c0_5407 : Index := 0#32
  ![v4265.toNat, 0]

def k0_chk64 (v4263 : BitVec 32) : Prop :=
  (∀ a, (k0_off62 v4263) a + S256x256.size a ≤ S8192x256.size a)
theorem k0_off62_inb : ∀ (v4263 : BitVec 32) (k0_hw64 : k0_chk64 v4263), ∀ a, (k0_off62 v4263) a + S256x256.size a ≤ S8192x256.size a := fun v4263 k0_hw64 => k0_hw64

def k0_dev181 (v0 : BitVec 32) : Nat :=
  let c0_i32_5449 : BitVec 32 := 0#32
  let c1_i32_5448 : BitVec 32 := 1#32
  let v4292 : BitVec 32 := Scalar.muli v0 c1_i32_5448
  let v4293 : BitVec 32 := Scalar.addi c0_i32_5449 v4292
  v4293.toNat
def k0_dev182 (v1 : BitVec 32) : Nat :=
  let c0_i32_5492 : BitVec 32 := 0#32
  let c1_i32_5491 : BitVec 32 := 1#32
  let v4323 : BitVec 32 := Scalar.muli v1 c1_i32_5491
  let v4324 : BitVec 32 := Scalar.addi c0_i32_5492 v4323
  v4324.toNat
def k0_dev183 (v0 : BitVec 32) : Nat :=
  let c0_i32_5533 : BitVec 32 := 0#32
  let c1_i32_5532 : BitVec 32 := 1#32
  let v4354 : BitVec 32 := Scalar.muli v0 c1_i32_5532
  let v4355 : BitVec 32 := Scalar.addi c0_i32_5533 v4354
  v4355.toNat

def k0_chk2_0 (v0 : BitVec 32) : Prop :=
  ((k0_dev2 v0) < nD) ∧
  ((k0_dev3 v0) < nD) ∧
  ((k0_dev5 v0) < nD) ∧
  ((k0_dev7 v0) < nD) ∧
  ((k0_dev9 v0) < nD) ∧
  ((k0_dev12 v0) < nD) ∧
  ((k0_dev13 v0) < nD) ∧
  ((k0_dev15 v0) < nD) ∧
  ((k0_dev18 v0) < nD) ∧
  ((k0_dev19 v0) < nD) ∧
  ((k0_dev21 v0) < nD) ∧
  ((k0_dev24 v0) < nD) ∧
  ((k0_dev25 v0) < nD) ∧
  ((k0_dev27 v0) < nD) ∧
  ((k0_dev30 v0) < nD) ∧
  ((k0_dev31 v0) < nD) ∧
  ((k0_dev33 v0) < nD) ∧
  ((k0_dev36 v0) < nD) ∧
  ((k0_dev37 v0) < nD) ∧
  ((k0_dev39 v0) < nD) ∧
  ((k0_dev42 v0) < nD) ∧
  ((k0_dev43 v0) < nD) ∧
  ((k0_dev45 v0) < nD) ∧
  ((k0_dev48 v0) < nD) ∧
  ((k0_dev49 v0) < nD) ∧
  ((k0_dev51 v0) < nD) ∧
  ((k0_dev54 v0) < nD) ∧
  ((k0_dev55 v0) < nD) ∧
  ((k0_dev57 v0) < nD) ∧
  ((k0_dev60 v0) < nD) ∧
  ((k0_dev61 v0) < nD) ∧
  ((k0_dev63 v0) < nD)
def k0_chk2_1 (v0 : BitVec 32) : Prop :=
  ((k0_dev66 v0) < nD) ∧
  ((k0_dev67 v0) < nD) ∧
  ((k0_dev69 v0) < nD) ∧
  ((k0_dev72 v0) < nD) ∧
  ((k0_dev73 v0) < nD) ∧
  ((k0_dev75 v0) < nD) ∧
  ((k0_dev78 v0) < nD) ∧
  ((k0_dev79 v0) < nD) ∧
  ((k0_dev81 v0) < nD) ∧
  ((k0_dev84 v0) < nD) ∧
  ((k0_dev85 v0) < nD) ∧
  ((k0_dev87 v0) < nD) ∧
  ((k0_dev90 v0) < nD) ∧
  ((k0_dev91 v0) < nD) ∧
  ((k0_dev93 v0) < nD) ∧
  ((k0_dev96 v0) < nD) ∧
  ((k0_dev97 v0) < nD) ∧
  ((k0_dev99 v0) < nD) ∧
  ((k0_dev102 v0) < nD) ∧
  ((k0_dev103 v0) < nD) ∧
  ((k0_dev105 v0) < nD) ∧
  ((k0_dev108 v0) < nD) ∧
  ((k0_dev109 v0) < nD) ∧
  ((k0_dev111 v0) < nD) ∧
  ((k0_dev114 v0) < nD) ∧
  ((k0_dev115 v0) < nD) ∧
  ((k0_dev117 v0) < nD) ∧
  ((k0_dev120 v0) < nD) ∧
  ((k0_dev121 v0) < nD) ∧
  ((k0_dev123 v0) < nD) ∧
  ((k0_dev126 v0) < nD) ∧
  ((k0_dev127 v0) < nD)
def k0_chk2_2 (v0 : BitVec 32) : Prop :=
  ((k0_dev129 v0) < nD) ∧
  ((k0_dev132 v0) < nD) ∧
  ((k0_dev133 v0) < nD) ∧
  ((k0_dev135 v0) < nD) ∧
  ((k0_dev138 v0) < nD) ∧
  ((k0_dev139 v0) < nD) ∧
  ((k0_dev141 v0) < nD) ∧
  ((k0_dev144 v0) < nD) ∧
  ((k0_dev145 v0) < nD) ∧
  ((k0_dev147 v0) < nD) ∧
  ((k0_dev150 v0) < nD) ∧
  ((k0_dev151 v0) < nD) ∧
  ((k0_dev153 v0) < nD) ∧
  ((k0_dev156 v0) < nD) ∧
  ((k0_dev157 v0) < nD) ∧
  ((k0_dev159 v0) < nD) ∧
  ((k0_dev162 v0) < nD) ∧
  ((k0_dev163 v0) < nD) ∧
  ((k0_dev165 v0) < nD) ∧
  ((k0_dev168 v0) < nD) ∧
  ((k0_dev169 v0) < nD) ∧
  ((k0_dev171 v0) < nD) ∧
  ((k0_dev174 v0) < nD) ∧
  ((k0_dev175 v0) < nD) ∧
  ((k0_dev177 v0) < nD) ∧
  ((k0_dev180 v0) < nD) ∧
  ((k0_dev181 v0) < nD) ∧
  ((k0_dev183 v0) < nD)
def k0_chk2 (v0 : BitVec 32) : Prop :=
  k0_chk2_0 v0 ∧
  k0_chk2_1 v0 ∧
  k0_chk2_2 v0
theorem k0_dev2_lt : ∀ (v0 : BitVec 32) (k0_hw2 : k0_chk2 v0), (k0_dev2 v0) < nD := fun v0 k0_hw2 => k0_hw2.1.1
theorem k0_dev3_lt : ∀ (v0 : BitVec 32) (k0_hw2 : k0_chk2 v0), (k0_dev3 v0) < nD := fun v0 k0_hw2 => k0_hw2.1.2.1
theorem k0_dev5_lt : ∀ (v0 : BitVec 32) (k0_hw2 : k0_chk2 v0), (k0_dev5 v0) < nD := fun v0 k0_hw2 => k0_hw2.1.2.2.1
theorem k0_dev7_lt : ∀ (v0 : BitVec 32) (k0_hw2 : k0_chk2 v0), (k0_dev7 v0) < nD := fun v0 k0_hw2 => k0_hw2.1.2.2.2.1
theorem k0_dev9_lt : ∀ (v0 : BitVec 32) (k0_hw2 : k0_chk2 v0), (k0_dev9 v0) < nD := fun v0 k0_hw2 => k0_hw2.1.2.2.2.2.1
theorem k0_dev12_lt : ∀ (v0 : BitVec 32) (k0_hw2 : k0_chk2 v0), (k0_dev12 v0) < nD := fun v0 k0_hw2 => k0_hw2.1.2.2.2.2.2.1
theorem k0_dev13_lt : ∀ (v0 : BitVec 32) (k0_hw2 : k0_chk2 v0), (k0_dev13 v0) < nD := fun v0 k0_hw2 => k0_hw2.1.2.2.2.2.2.2.1
theorem k0_dev15_lt : ∀ (v0 : BitVec 32) (k0_hw2 : k0_chk2 v0), (k0_dev15 v0) < nD := fun v0 k0_hw2 => k0_hw2.1.2.2.2.2.2.2.2.1
theorem k0_dev18_lt : ∀ (v0 : BitVec 32) (k0_hw2 : k0_chk2 v0), (k0_dev18 v0) < nD := fun v0 k0_hw2 => k0_hw2.1.2.2.2.2.2.2.2.2.1
theorem k0_dev19_lt : ∀ (v0 : BitVec 32) (k0_hw2 : k0_chk2 v0), (k0_dev19 v0) < nD := fun v0 k0_hw2 => k0_hw2.1.2.2.2.2.2.2.2.2.2.1
theorem k0_dev21_lt : ∀ (v0 : BitVec 32) (k0_hw2 : k0_chk2 v0), (k0_dev21 v0) < nD := fun v0 k0_hw2 => k0_hw2.1.2.2.2.2.2.2.2.2.2.2.1
theorem k0_dev24_lt : ∀ (v0 : BitVec 32) (k0_hw2 : k0_chk2 v0), (k0_dev24 v0) < nD := fun v0 k0_hw2 => k0_hw2.1.2.2.2.2.2.2.2.2.2.2.2.1
theorem k0_dev25_lt : ∀ (v0 : BitVec 32) (k0_hw2 : k0_chk2 v0), (k0_dev25 v0) < nD := fun v0 k0_hw2 => k0_hw2.1.2.2.2.2.2.2.2.2.2.2.2.2.1
theorem k0_dev27_lt : ∀ (v0 : BitVec 32) (k0_hw2 : k0_chk2 v0), (k0_dev27 v0) < nD := fun v0 k0_hw2 => k0_hw2.1.2.2.2.2.2.2.2.2.2.2.2.2.2.1
theorem k0_dev30_lt : ∀ (v0 : BitVec 32) (k0_hw2 : k0_chk2 v0), (k0_dev30 v0) < nD := fun v0 k0_hw2 => k0_hw2.1.2.2.2.2.2.2.2.2.2.2.2.2.2.2.1
theorem k0_dev31_lt : ∀ (v0 : BitVec 32) (k0_hw2 : k0_chk2 v0), (k0_dev31 v0) < nD := fun v0 k0_hw2 => k0_hw2.1.2.2.2.2.2.2.2.2.2.2.2.2.2.2.2.1
theorem k0_dev33_lt : ∀ (v0 : BitVec 32) (k0_hw2 : k0_chk2 v0), (k0_dev33 v0) < nD := fun v0 k0_hw2 => k0_hw2.1.2.2.2.2.2.2.2.2.2.2.2.2.2.2.2.2.1
theorem k0_dev36_lt : ∀ (v0 : BitVec 32) (k0_hw2 : k0_chk2 v0), (k0_dev36 v0) < nD := fun v0 k0_hw2 => k0_hw2.1.2.2.2.2.2.2.2.2.2.2.2.2.2.2.2.2.2.1
theorem k0_dev37_lt : ∀ (v0 : BitVec 32) (k0_hw2 : k0_chk2 v0), (k0_dev37 v0) < nD := fun v0 k0_hw2 => k0_hw2.1.2.2.2.2.2.2.2.2.2.2.2.2.2.2.2.2.2.2.1
theorem k0_dev39_lt : ∀ (v0 : BitVec 32) (k0_hw2 : k0_chk2 v0), (k0_dev39 v0) < nD := fun v0 k0_hw2 => k0_hw2.1.2.2.2.2.2.2.2.2.2.2.2.2.2.2.2.2.2.2.2.1
theorem k0_dev42_lt : ∀ (v0 : BitVec 32) (k0_hw2 : k0_chk2 v0), (k0_dev42 v0) < nD := fun v0 k0_hw2 => k0_hw2.1.2.2.2.2.2.2.2.2.2.2.2.2.2.2.2.2.2.2.2.2.1
theorem k0_dev43_lt : ∀ (v0 : BitVec 32) (k0_hw2 : k0_chk2 v0), (k0_dev43 v0) < nD := fun v0 k0_hw2 => k0_hw2.1.2.2.2.2.2.2.2.2.2.2.2.2.2.2.2.2.2.2.2.2.2.1
theorem k0_dev45_lt : ∀ (v0 : BitVec 32) (k0_hw2 : k0_chk2 v0), (k0_dev45 v0) < nD := fun v0 k0_hw2 => k0_hw2.1.2.2.2.2.2.2.2.2.2.2.2.2.2.2.2.2.2.2.2.2.2.2.1
theorem k0_dev48_lt : ∀ (v0 : BitVec 32) (k0_hw2 : k0_chk2 v0), (k0_dev48 v0) < nD := fun v0 k0_hw2 => k0_hw2.1.2.2.2.2.2.2.2.2.2.2.2.2.2.2.2.2.2.2.2.2.2.2.2.1
theorem k0_dev49_lt : ∀ (v0 : BitVec 32) (k0_hw2 : k0_chk2 v0), (k0_dev49 v0) < nD := fun v0 k0_hw2 => k0_hw2.1.2.2.2.2.2.2.2.2.2.2.2.2.2.2.2.2.2.2.2.2.2.2.2.2.1
theorem k0_dev51_lt : ∀ (v0 : BitVec 32) (k0_hw2 : k0_chk2 v0), (k0_dev51 v0) < nD := fun v0 k0_hw2 => k0_hw2.1.2.2.2.2.2.2.2.2.2.2.2.2.2.2.2.2.2.2.2.2.2.2.2.2.2.1
theorem k0_dev54_lt : ∀ (v0 : BitVec 32) (k0_hw2 : k0_chk2 v0), (k0_dev54 v0) < nD := fun v0 k0_hw2 => k0_hw2.1.2.2.2.2.2.2.2.2.2.2.2.2.2.2.2.2.2.2.2.2.2.2.2.2.2.2.1
theorem k0_dev55_lt : ∀ (v0 : BitVec 32) (k0_hw2 : k0_chk2 v0), (k0_dev55 v0) < nD := fun v0 k0_hw2 => k0_hw2.1.2.2.2.2.2.2.2.2.2.2.2.2.2.2.2.2.2.2.2.2.2.2.2.2.2.2.2.1
theorem k0_dev57_lt : ∀ (v0 : BitVec 32) (k0_hw2 : k0_chk2 v0), (k0_dev57 v0) < nD := fun v0 k0_hw2 => k0_hw2.1.2.2.2.2.2.2.2.2.2.2.2.2.2.2.2.2.2.2.2.2.2.2.2.2.2.2.2.2.1
theorem k0_dev60_lt : ∀ (v0 : BitVec 32) (k0_hw2 : k0_chk2 v0), (k0_dev60 v0) < nD := fun v0 k0_hw2 => k0_hw2.1.2.2.2.2.2.2.2.2.2.2.2.2.2.2.2.2.2.2.2.2.2.2.2.2.2.2.2.2.2.1
theorem k0_dev61_lt : ∀ (v0 : BitVec 32) (k0_hw2 : k0_chk2 v0), (k0_dev61 v0) < nD := fun v0 k0_hw2 => k0_hw2.1.2.2.2.2.2.2.2.2.2.2.2.2.2.2.2.2.2.2.2.2.2.2.2.2.2.2.2.2.2.2.1
theorem k0_dev63_lt : ∀ (v0 : BitVec 32) (k0_hw2 : k0_chk2 v0), (k0_dev63 v0) < nD := fun v0 k0_hw2 => k0_hw2.1.2.2.2.2.2.2.2.2.2.2.2.2.2.2.2.2.2.2.2.2.2.2.2.2.2.2.2.2.2.2.2
theorem k0_dev66_lt : ∀ (v0 : BitVec 32) (k0_hw2 : k0_chk2 v0), (k0_dev66 v0) < nD := fun v0 k0_hw2 => k0_hw2.2.1.1
theorem k0_dev67_lt : ∀ (v0 : BitVec 32) (k0_hw2 : k0_chk2 v0), (k0_dev67 v0) < nD := fun v0 k0_hw2 => k0_hw2.2.1.2.1
theorem k0_dev69_lt : ∀ (v0 : BitVec 32) (k0_hw2 : k0_chk2 v0), (k0_dev69 v0) < nD := fun v0 k0_hw2 => k0_hw2.2.1.2.2.1
theorem k0_dev72_lt : ∀ (v0 : BitVec 32) (k0_hw2 : k0_chk2 v0), (k0_dev72 v0) < nD := fun v0 k0_hw2 => k0_hw2.2.1.2.2.2.1
theorem k0_dev73_lt : ∀ (v0 : BitVec 32) (k0_hw2 : k0_chk2 v0), (k0_dev73 v0) < nD := fun v0 k0_hw2 => k0_hw2.2.1.2.2.2.2.1
theorem k0_dev75_lt : ∀ (v0 : BitVec 32) (k0_hw2 : k0_chk2 v0), (k0_dev75 v0) < nD := fun v0 k0_hw2 => k0_hw2.2.1.2.2.2.2.2.1
theorem k0_dev78_lt : ∀ (v0 : BitVec 32) (k0_hw2 : k0_chk2 v0), (k0_dev78 v0) < nD := fun v0 k0_hw2 => k0_hw2.2.1.2.2.2.2.2.2.1
theorem k0_dev79_lt : ∀ (v0 : BitVec 32) (k0_hw2 : k0_chk2 v0), (k0_dev79 v0) < nD := fun v0 k0_hw2 => k0_hw2.2.1.2.2.2.2.2.2.2.1
theorem k0_dev81_lt : ∀ (v0 : BitVec 32) (k0_hw2 : k0_chk2 v0), (k0_dev81 v0) < nD := fun v0 k0_hw2 => k0_hw2.2.1.2.2.2.2.2.2.2.2.1
theorem k0_dev84_lt : ∀ (v0 : BitVec 32) (k0_hw2 : k0_chk2 v0), (k0_dev84 v0) < nD := fun v0 k0_hw2 => k0_hw2.2.1.2.2.2.2.2.2.2.2.2.1
theorem k0_dev85_lt : ∀ (v0 : BitVec 32) (k0_hw2 : k0_chk2 v0), (k0_dev85 v0) < nD := fun v0 k0_hw2 => k0_hw2.2.1.2.2.2.2.2.2.2.2.2.2.1
theorem k0_dev87_lt : ∀ (v0 : BitVec 32) (k0_hw2 : k0_chk2 v0), (k0_dev87 v0) < nD := fun v0 k0_hw2 => k0_hw2.2.1.2.2.2.2.2.2.2.2.2.2.2.1
theorem k0_dev90_lt : ∀ (v0 : BitVec 32) (k0_hw2 : k0_chk2 v0), (k0_dev90 v0) < nD := fun v0 k0_hw2 => k0_hw2.2.1.2.2.2.2.2.2.2.2.2.2.2.2.1
theorem k0_dev91_lt : ∀ (v0 : BitVec 32) (k0_hw2 : k0_chk2 v0), (k0_dev91 v0) < nD := fun v0 k0_hw2 => k0_hw2.2.1.2.2.2.2.2.2.2.2.2.2.2.2.2.1
theorem k0_dev93_lt : ∀ (v0 : BitVec 32) (k0_hw2 : k0_chk2 v0), (k0_dev93 v0) < nD := fun v0 k0_hw2 => k0_hw2.2.1.2.2.2.2.2.2.2.2.2.2.2.2.2.2.1
theorem k0_dev96_lt : ∀ (v0 : BitVec 32) (k0_hw2 : k0_chk2 v0), (k0_dev96 v0) < nD := fun v0 k0_hw2 => k0_hw2.2.1.2.2.2.2.2.2.2.2.2.2.2.2.2.2.2.1
theorem k0_dev97_lt : ∀ (v0 : BitVec 32) (k0_hw2 : k0_chk2 v0), (k0_dev97 v0) < nD := fun v0 k0_hw2 => k0_hw2.2.1.2.2.2.2.2.2.2.2.2.2.2.2.2.2.2.2.1
theorem k0_dev99_lt : ∀ (v0 : BitVec 32) (k0_hw2 : k0_chk2 v0), (k0_dev99 v0) < nD := fun v0 k0_hw2 => k0_hw2.2.1.2.2.2.2.2.2.2.2.2.2.2.2.2.2.2.2.2.1
theorem k0_dev102_lt : ∀ (v0 : BitVec 32) (k0_hw2 : k0_chk2 v0), (k0_dev102 v0) < nD := fun v0 k0_hw2 => k0_hw2.2.1.2.2.2.2.2.2.2.2.2.2.2.2.2.2.2.2.2.2.1
theorem k0_dev103_lt : ∀ (v0 : BitVec 32) (k0_hw2 : k0_chk2 v0), (k0_dev103 v0) < nD := fun v0 k0_hw2 => k0_hw2.2.1.2.2.2.2.2.2.2.2.2.2.2.2.2.2.2.2.2.2.2.1
theorem k0_dev105_lt : ∀ (v0 : BitVec 32) (k0_hw2 : k0_chk2 v0), (k0_dev105 v0) < nD := fun v0 k0_hw2 => k0_hw2.2.1.2.2.2.2.2.2.2.2.2.2.2.2.2.2.2.2.2.2.2.2.1
theorem k0_dev108_lt : ∀ (v0 : BitVec 32) (k0_hw2 : k0_chk2 v0), (k0_dev108 v0) < nD := fun v0 k0_hw2 => k0_hw2.2.1.2.2.2.2.2.2.2.2.2.2.2.2.2.2.2.2.2.2.2.2.2.1
theorem k0_dev109_lt : ∀ (v0 : BitVec 32) (k0_hw2 : k0_chk2 v0), (k0_dev109 v0) < nD := fun v0 k0_hw2 => k0_hw2.2.1.2.2.2.2.2.2.2.2.2.2.2.2.2.2.2.2.2.2.2.2.2.2.1
theorem k0_dev111_lt : ∀ (v0 : BitVec 32) (k0_hw2 : k0_chk2 v0), (k0_dev111 v0) < nD := fun v0 k0_hw2 => k0_hw2.2.1.2.2.2.2.2.2.2.2.2.2.2.2.2.2.2.2.2.2.2.2.2.2.2.1
theorem k0_dev114_lt : ∀ (v0 : BitVec 32) (k0_hw2 : k0_chk2 v0), (k0_dev114 v0) < nD := fun v0 k0_hw2 => k0_hw2.2.1.2.2.2.2.2.2.2.2.2.2.2.2.2.2.2.2.2.2.2.2.2.2.2.2.1
theorem k0_dev115_lt : ∀ (v0 : BitVec 32) (k0_hw2 : k0_chk2 v0), (k0_dev115 v0) < nD := fun v0 k0_hw2 => k0_hw2.2.1.2.2.2.2.2.2.2.2.2.2.2.2.2.2.2.2.2.2.2.2.2.2.2.2.2.1
theorem k0_dev117_lt : ∀ (v0 : BitVec 32) (k0_hw2 : k0_chk2 v0), (k0_dev117 v0) < nD := fun v0 k0_hw2 => k0_hw2.2.1.2.2.2.2.2.2.2.2.2.2.2.2.2.2.2.2.2.2.2.2.2.2.2.2.2.2.1
theorem k0_dev120_lt : ∀ (v0 : BitVec 32) (k0_hw2 : k0_chk2 v0), (k0_dev120 v0) < nD := fun v0 k0_hw2 => k0_hw2.2.1.2.2.2.2.2.2.2.2.2.2.2.2.2.2.2.2.2.2.2.2.2.2.2.2.2.2.2.1
theorem k0_dev121_lt : ∀ (v0 : BitVec 32) (k0_hw2 : k0_chk2 v0), (k0_dev121 v0) < nD := fun v0 k0_hw2 => k0_hw2.2.1.2.2.2.2.2.2.2.2.2.2.2.2.2.2.2.2.2.2.2.2.2.2.2.2.2.2.2.2.1
theorem k0_dev123_lt : ∀ (v0 : BitVec 32) (k0_hw2 : k0_chk2 v0), (k0_dev123 v0) < nD := fun v0 k0_hw2 => k0_hw2.2.1.2.2.2.2.2.2.2.2.2.2.2.2.2.2.2.2.2.2.2.2.2.2.2.2.2.2.2.2.2.1
theorem k0_dev126_lt : ∀ (v0 : BitVec 32) (k0_hw2 : k0_chk2 v0), (k0_dev126 v0) < nD := fun v0 k0_hw2 => k0_hw2.2.1.2.2.2.2.2.2.2.2.2.2.2.2.2.2.2.2.2.2.2.2.2.2.2.2.2.2.2.2.2.2.1
theorem k0_dev127_lt : ∀ (v0 : BitVec 32) (k0_hw2 : k0_chk2 v0), (k0_dev127 v0) < nD := fun v0 k0_hw2 => k0_hw2.2.1.2.2.2.2.2.2.2.2.2.2.2.2.2.2.2.2.2.2.2.2.2.2.2.2.2.2.2.2.2.2.2
theorem k0_dev129_lt : ∀ (v0 : BitVec 32) (k0_hw2 : k0_chk2 v0), (k0_dev129 v0) < nD := fun v0 k0_hw2 => k0_hw2.2.2.1
theorem k0_dev132_lt : ∀ (v0 : BitVec 32) (k0_hw2 : k0_chk2 v0), (k0_dev132 v0) < nD := fun v0 k0_hw2 => k0_hw2.2.2.2.1
theorem k0_dev133_lt : ∀ (v0 : BitVec 32) (k0_hw2 : k0_chk2 v0), (k0_dev133 v0) < nD := fun v0 k0_hw2 => k0_hw2.2.2.2.2.1
theorem k0_dev135_lt : ∀ (v0 : BitVec 32) (k0_hw2 : k0_chk2 v0), (k0_dev135 v0) < nD := fun v0 k0_hw2 => k0_hw2.2.2.2.2.2.1
theorem k0_dev138_lt : ∀ (v0 : BitVec 32) (k0_hw2 : k0_chk2 v0), (k0_dev138 v0) < nD := fun v0 k0_hw2 => k0_hw2.2.2.2.2.2.2.1
theorem k0_dev139_lt : ∀ (v0 : BitVec 32) (k0_hw2 : k0_chk2 v0), (k0_dev139 v0) < nD := fun v0 k0_hw2 => k0_hw2.2.2.2.2.2.2.2.1
theorem k0_dev141_lt : ∀ (v0 : BitVec 32) (k0_hw2 : k0_chk2 v0), (k0_dev141 v0) < nD := fun v0 k0_hw2 => k0_hw2.2.2.2.2.2.2.2.2.1
theorem k0_dev144_lt : ∀ (v0 : BitVec 32) (k0_hw2 : k0_chk2 v0), (k0_dev144 v0) < nD := fun v0 k0_hw2 => k0_hw2.2.2.2.2.2.2.2.2.2.1
theorem k0_dev145_lt : ∀ (v0 : BitVec 32) (k0_hw2 : k0_chk2 v0), (k0_dev145 v0) < nD := fun v0 k0_hw2 => k0_hw2.2.2.2.2.2.2.2.2.2.2.1
theorem k0_dev147_lt : ∀ (v0 : BitVec 32) (k0_hw2 : k0_chk2 v0), (k0_dev147 v0) < nD := fun v0 k0_hw2 => k0_hw2.2.2.2.2.2.2.2.2.2.2.2.1
theorem k0_dev150_lt : ∀ (v0 : BitVec 32) (k0_hw2 : k0_chk2 v0), (k0_dev150 v0) < nD := fun v0 k0_hw2 => k0_hw2.2.2.2.2.2.2.2.2.2.2.2.2.1
theorem k0_dev151_lt : ∀ (v0 : BitVec 32) (k0_hw2 : k0_chk2 v0), (k0_dev151 v0) < nD := fun v0 k0_hw2 => k0_hw2.2.2.2.2.2.2.2.2.2.2.2.2.2.1
theorem k0_dev153_lt : ∀ (v0 : BitVec 32) (k0_hw2 : k0_chk2 v0), (k0_dev153 v0) < nD := fun v0 k0_hw2 => k0_hw2.2.2.2.2.2.2.2.2.2.2.2.2.2.2.1
theorem k0_dev156_lt : ∀ (v0 : BitVec 32) (k0_hw2 : k0_chk2 v0), (k0_dev156 v0) < nD := fun v0 k0_hw2 => k0_hw2.2.2.2.2.2.2.2.2.2.2.2.2.2.2.2.1
theorem k0_dev157_lt : ∀ (v0 : BitVec 32) (k0_hw2 : k0_chk2 v0), (k0_dev157 v0) < nD := fun v0 k0_hw2 => k0_hw2.2.2.2.2.2.2.2.2.2.2.2.2.2.2.2.2.1
theorem k0_dev159_lt : ∀ (v0 : BitVec 32) (k0_hw2 : k0_chk2 v0), (k0_dev159 v0) < nD := fun v0 k0_hw2 => k0_hw2.2.2.2.2.2.2.2.2.2.2.2.2.2.2.2.2.2.1
theorem k0_dev162_lt : ∀ (v0 : BitVec 32) (k0_hw2 : k0_chk2 v0), (k0_dev162 v0) < nD := fun v0 k0_hw2 => k0_hw2.2.2.2.2.2.2.2.2.2.2.2.2.2.2.2.2.2.2.1
theorem k0_dev163_lt : ∀ (v0 : BitVec 32) (k0_hw2 : k0_chk2 v0), (k0_dev163 v0) < nD := fun v0 k0_hw2 => k0_hw2.2.2.2.2.2.2.2.2.2.2.2.2.2.2.2.2.2.2.2.1
theorem k0_dev165_lt : ∀ (v0 : BitVec 32) (k0_hw2 : k0_chk2 v0), (k0_dev165 v0) < nD := fun v0 k0_hw2 => k0_hw2.2.2.2.2.2.2.2.2.2.2.2.2.2.2.2.2.2.2.2.2.1
theorem k0_dev168_lt : ∀ (v0 : BitVec 32) (k0_hw2 : k0_chk2 v0), (k0_dev168 v0) < nD := fun v0 k0_hw2 => k0_hw2.2.2.2.2.2.2.2.2.2.2.2.2.2.2.2.2.2.2.2.2.2.1
theorem k0_dev169_lt : ∀ (v0 : BitVec 32) (k0_hw2 : k0_chk2 v0), (k0_dev169 v0) < nD := fun v0 k0_hw2 => k0_hw2.2.2.2.2.2.2.2.2.2.2.2.2.2.2.2.2.2.2.2.2.2.2.1
theorem k0_dev171_lt : ∀ (v0 : BitVec 32) (k0_hw2 : k0_chk2 v0), (k0_dev171 v0) < nD := fun v0 k0_hw2 => k0_hw2.2.2.2.2.2.2.2.2.2.2.2.2.2.2.2.2.2.2.2.2.2.2.2.1
theorem k0_dev174_lt : ∀ (v0 : BitVec 32) (k0_hw2 : k0_chk2 v0), (k0_dev174 v0) < nD := fun v0 k0_hw2 => k0_hw2.2.2.2.2.2.2.2.2.2.2.2.2.2.2.2.2.2.2.2.2.2.2.2.2.1
theorem k0_dev175_lt : ∀ (v0 : BitVec 32) (k0_hw2 : k0_chk2 v0), (k0_dev175 v0) < nD := fun v0 k0_hw2 => k0_hw2.2.2.2.2.2.2.2.2.2.2.2.2.2.2.2.2.2.2.2.2.2.2.2.2.2.1
theorem k0_dev177_lt : ∀ (v0 : BitVec 32) (k0_hw2 : k0_chk2 v0), (k0_dev177 v0) < nD := fun v0 k0_hw2 => k0_hw2.2.2.2.2.2.2.2.2.2.2.2.2.2.2.2.2.2.2.2.2.2.2.2.2.2.2.1
theorem k0_dev180_lt : ∀ (v0 : BitVec 32) (k0_hw2 : k0_chk2 v0), (k0_dev180 v0) < nD := fun v0 k0_hw2 => k0_hw2.2.2.2.2.2.2.2.2.2.2.2.2.2.2.2.2.2.2.2.2.2.2.2.2.2.2.2.1
theorem k0_dev181_lt : ∀ (v0 : BitVec 32) (k0_hw2 : k0_chk2 v0), (k0_dev181 v0) < nD := fun v0 k0_hw2 => k0_hw2.2.2.2.2.2.2.2.2.2.2.2.2.2.2.2.2.2.2.2.2.2.2.2.2.2.2.2.2.1
theorem k0_dev183_lt : ∀ (v0 : BitVec 32) (k0_hw2 : k0_chk2 v0), (k0_dev183 v0) < nD := fun v0 k0_hw2 => k0_hw2.2.2.2.2.2.2.2.2.2.2.2.2.2.2.2.2.2.2.2.2.2.2.2.2.2.2.2.2.2

def k0_dev184 (v1 : BitVec 32) : Nat :=
  let c0_i32_5574 : BitVec 32 := 0#32
  let c1_i32_5573 : BitVec 32 := 1#32
  let v4385 : BitVec 32 := Scalar.muli v1 c1_i32_5573
  let v4386 : BitVec 32 := Scalar.addi c0_i32_5574 v4385
  v4386.toNat

def k0_chk1_0 (v1 : BitVec 32) : Prop :=
  ((k0_dev1 v1) < nD) ∧
  ((k0_dev4 v1) < nD) ∧
  ((k0_dev6 v1) < nD) ∧
  ((k0_dev8 v1) < nD) ∧
  ((k0_dev10 v1) < nD) ∧
  ((k0_dev11 v1) < nD) ∧
  ((k0_dev14 v1) < nD) ∧
  ((k0_dev16 v1) < nD) ∧
  ((k0_dev17 v1) < nD) ∧
  ((k0_dev20 v1) < nD) ∧
  ((k0_dev22 v1) < nD) ∧
  ((k0_dev23 v1) < nD) ∧
  ((k0_dev26 v1) < nD) ∧
  ((k0_dev28 v1) < nD) ∧
  ((k0_dev29 v1) < nD) ∧
  ((k0_dev32 v1) < nD) ∧
  ((k0_dev34 v1) < nD) ∧
  ((k0_dev35 v1) < nD) ∧
  ((k0_dev38 v1) < nD) ∧
  ((k0_dev40 v1) < nD) ∧
  ((k0_dev41 v1) < nD) ∧
  ((k0_dev44 v1) < nD) ∧
  ((k0_dev46 v1) < nD) ∧
  ((k0_dev47 v1) < nD) ∧
  ((k0_dev50 v1) < nD) ∧
  ((k0_dev52 v1) < nD) ∧
  ((k0_dev53 v1) < nD) ∧
  ((k0_dev56 v1) < nD) ∧
  ((k0_dev58 v1) < nD) ∧
  ((k0_dev59 v1) < nD) ∧
  ((k0_dev62 v1) < nD) ∧
  ((k0_dev64 v1) < nD)
def k0_chk1_1 (v1 : BitVec 32) : Prop :=
  ((k0_dev65 v1) < nD) ∧
  ((k0_dev68 v1) < nD) ∧
  ((k0_dev70 v1) < nD) ∧
  ((k0_dev71 v1) < nD) ∧
  ((k0_dev74 v1) < nD) ∧
  ((k0_dev76 v1) < nD) ∧
  ((k0_dev77 v1) < nD) ∧
  ((k0_dev80 v1) < nD) ∧
  ((k0_dev82 v1) < nD) ∧
  ((k0_dev83 v1) < nD) ∧
  ((k0_dev86 v1) < nD) ∧
  ((k0_dev88 v1) < nD) ∧
  ((k0_dev89 v1) < nD) ∧
  ((k0_dev92 v1) < nD) ∧
  ((k0_dev94 v1) < nD) ∧
  ((k0_dev95 v1) < nD) ∧
  ((k0_dev98 v1) < nD) ∧
  ((k0_dev100 v1) < nD) ∧
  ((k0_dev101 v1) < nD) ∧
  ((k0_dev104 v1) < nD) ∧
  ((k0_dev106 v1) < nD) ∧
  ((k0_dev107 v1) < nD) ∧
  ((k0_dev110 v1) < nD) ∧
  ((k0_dev112 v1) < nD) ∧
  ((k0_dev113 v1) < nD) ∧
  ((k0_dev116 v1) < nD) ∧
  ((k0_dev118 v1) < nD) ∧
  ((k0_dev119 v1) < nD) ∧
  ((k0_dev122 v1) < nD) ∧
  ((k0_dev124 v1) < nD) ∧
  ((k0_dev125 v1) < nD) ∧
  ((k0_dev128 v1) < nD)
def k0_chk1_2 (v1 : BitVec 32) : Prop :=
  ((k0_dev130 v1) < nD) ∧
  ((k0_dev131 v1) < nD) ∧
  ((k0_dev134 v1) < nD) ∧
  ((k0_dev136 v1) < nD) ∧
  ((k0_dev137 v1) < nD) ∧
  ((k0_dev140 v1) < nD) ∧
  ((k0_dev142 v1) < nD) ∧
  ((k0_dev143 v1) < nD) ∧
  ((k0_dev146 v1) < nD) ∧
  ((k0_dev148 v1) < nD) ∧
  ((k0_dev149 v1) < nD) ∧
  ((k0_dev152 v1) < nD) ∧
  ((k0_dev154 v1) < nD) ∧
  ((k0_dev155 v1) < nD) ∧
  ((k0_dev158 v1) < nD) ∧
  ((k0_dev160 v1) < nD) ∧
  ((k0_dev161 v1) < nD) ∧
  ((k0_dev164 v1) < nD) ∧
  ((k0_dev166 v1) < nD) ∧
  ((k0_dev167 v1) < nD) ∧
  ((k0_dev170 v1) < nD) ∧
  ((k0_dev172 v1) < nD) ∧
  ((k0_dev173 v1) < nD) ∧
  ((k0_dev176 v1) < nD) ∧
  ((k0_dev178 v1) < nD) ∧
  ((k0_dev179 v1) < nD) ∧
  ((k0_dev182 v1) < nD) ∧
  ((k0_dev184 v1) < nD)
def k0_chk1 (v1 : BitVec 32) : Prop :=
  k0_chk1_0 v1 ∧
  k0_chk1_1 v1 ∧
  k0_chk1_2 v1
theorem k0_dev1_lt : ∀ (v1 : BitVec 32) (k0_hw1 : k0_chk1 v1), (k0_dev1 v1) < nD := fun v1 k0_hw1 => k0_hw1.1.1
theorem k0_dev4_lt : ∀ (v1 : BitVec 32) (k0_hw1 : k0_chk1 v1), (k0_dev4 v1) < nD := fun v1 k0_hw1 => k0_hw1.1.2.1
theorem k0_dev6_lt : ∀ (v1 : BitVec 32) (k0_hw1 : k0_chk1 v1), (k0_dev6 v1) < nD := fun v1 k0_hw1 => k0_hw1.1.2.2.1
theorem k0_dev8_lt : ∀ (v1 : BitVec 32) (k0_hw1 : k0_chk1 v1), (k0_dev8 v1) < nD := fun v1 k0_hw1 => k0_hw1.1.2.2.2.1
theorem k0_dev10_lt : ∀ (v1 : BitVec 32) (k0_hw1 : k0_chk1 v1), (k0_dev10 v1) < nD := fun v1 k0_hw1 => k0_hw1.1.2.2.2.2.1
theorem k0_dev11_lt : ∀ (v1 : BitVec 32) (k0_hw1 : k0_chk1 v1), (k0_dev11 v1) < nD := fun v1 k0_hw1 => k0_hw1.1.2.2.2.2.2.1
theorem k0_dev14_lt : ∀ (v1 : BitVec 32) (k0_hw1 : k0_chk1 v1), (k0_dev14 v1) < nD := fun v1 k0_hw1 => k0_hw1.1.2.2.2.2.2.2.1
theorem k0_dev16_lt : ∀ (v1 : BitVec 32) (k0_hw1 : k0_chk1 v1), (k0_dev16 v1) < nD := fun v1 k0_hw1 => k0_hw1.1.2.2.2.2.2.2.2.1
theorem k0_dev17_lt : ∀ (v1 : BitVec 32) (k0_hw1 : k0_chk1 v1), (k0_dev17 v1) < nD := fun v1 k0_hw1 => k0_hw1.1.2.2.2.2.2.2.2.2.1
theorem k0_dev20_lt : ∀ (v1 : BitVec 32) (k0_hw1 : k0_chk1 v1), (k0_dev20 v1) < nD := fun v1 k0_hw1 => k0_hw1.1.2.2.2.2.2.2.2.2.2.1
theorem k0_dev22_lt : ∀ (v1 : BitVec 32) (k0_hw1 : k0_chk1 v1), (k0_dev22 v1) < nD := fun v1 k0_hw1 => k0_hw1.1.2.2.2.2.2.2.2.2.2.2.1
theorem k0_dev23_lt : ∀ (v1 : BitVec 32) (k0_hw1 : k0_chk1 v1), (k0_dev23 v1) < nD := fun v1 k0_hw1 => k0_hw1.1.2.2.2.2.2.2.2.2.2.2.2.1
theorem k0_dev26_lt : ∀ (v1 : BitVec 32) (k0_hw1 : k0_chk1 v1), (k0_dev26 v1) < nD := fun v1 k0_hw1 => k0_hw1.1.2.2.2.2.2.2.2.2.2.2.2.2.1
theorem k0_dev28_lt : ∀ (v1 : BitVec 32) (k0_hw1 : k0_chk1 v1), (k0_dev28 v1) < nD := fun v1 k0_hw1 => k0_hw1.1.2.2.2.2.2.2.2.2.2.2.2.2.2.1
theorem k0_dev29_lt : ∀ (v1 : BitVec 32) (k0_hw1 : k0_chk1 v1), (k0_dev29 v1) < nD := fun v1 k0_hw1 => k0_hw1.1.2.2.2.2.2.2.2.2.2.2.2.2.2.2.1
theorem k0_dev32_lt : ∀ (v1 : BitVec 32) (k0_hw1 : k0_chk1 v1), (k0_dev32 v1) < nD := fun v1 k0_hw1 => k0_hw1.1.2.2.2.2.2.2.2.2.2.2.2.2.2.2.2.1
theorem k0_dev34_lt : ∀ (v1 : BitVec 32) (k0_hw1 : k0_chk1 v1), (k0_dev34 v1) < nD := fun v1 k0_hw1 => k0_hw1.1.2.2.2.2.2.2.2.2.2.2.2.2.2.2.2.2.1
theorem k0_dev35_lt : ∀ (v1 : BitVec 32) (k0_hw1 : k0_chk1 v1), (k0_dev35 v1) < nD := fun v1 k0_hw1 => k0_hw1.1.2.2.2.2.2.2.2.2.2.2.2.2.2.2.2.2.2.1
theorem k0_dev38_lt : ∀ (v1 : BitVec 32) (k0_hw1 : k0_chk1 v1), (k0_dev38 v1) < nD := fun v1 k0_hw1 => k0_hw1.1.2.2.2.2.2.2.2.2.2.2.2.2.2.2.2.2.2.2.1
theorem k0_dev40_lt : ∀ (v1 : BitVec 32) (k0_hw1 : k0_chk1 v1), (k0_dev40 v1) < nD := fun v1 k0_hw1 => k0_hw1.1.2.2.2.2.2.2.2.2.2.2.2.2.2.2.2.2.2.2.2.1
theorem k0_dev41_lt : ∀ (v1 : BitVec 32) (k0_hw1 : k0_chk1 v1), (k0_dev41 v1) < nD := fun v1 k0_hw1 => k0_hw1.1.2.2.2.2.2.2.2.2.2.2.2.2.2.2.2.2.2.2.2.2.1
theorem k0_dev44_lt : ∀ (v1 : BitVec 32) (k0_hw1 : k0_chk1 v1), (k0_dev44 v1) < nD := fun v1 k0_hw1 => k0_hw1.1.2.2.2.2.2.2.2.2.2.2.2.2.2.2.2.2.2.2.2.2.2.1
theorem k0_dev46_lt : ∀ (v1 : BitVec 32) (k0_hw1 : k0_chk1 v1), (k0_dev46 v1) < nD := fun v1 k0_hw1 => k0_hw1.1.2.2.2.2.2.2.2.2.2.2.2.2.2.2.2.2.2.2.2.2.2.2.1
theorem k0_dev47_lt : ∀ (v1 : BitVec 32) (k0_hw1 : k0_chk1 v1), (k0_dev47 v1) < nD := fun v1 k0_hw1 => k0_hw1.1.2.2.2.2.2.2.2.2.2.2.2.2.2.2.2.2.2.2.2.2.2.2.2.1
theorem k0_dev50_lt : ∀ (v1 : BitVec 32) (k0_hw1 : k0_chk1 v1), (k0_dev50 v1) < nD := fun v1 k0_hw1 => k0_hw1.1.2.2.2.2.2.2.2.2.2.2.2.2.2.2.2.2.2.2.2.2.2.2.2.2.1
theorem k0_dev52_lt : ∀ (v1 : BitVec 32) (k0_hw1 : k0_chk1 v1), (k0_dev52 v1) < nD := fun v1 k0_hw1 => k0_hw1.1.2.2.2.2.2.2.2.2.2.2.2.2.2.2.2.2.2.2.2.2.2.2.2.2.2.1
theorem k0_dev53_lt : ∀ (v1 : BitVec 32) (k0_hw1 : k0_chk1 v1), (k0_dev53 v1) < nD := fun v1 k0_hw1 => k0_hw1.1.2.2.2.2.2.2.2.2.2.2.2.2.2.2.2.2.2.2.2.2.2.2.2.2.2.2.1
theorem k0_dev56_lt : ∀ (v1 : BitVec 32) (k0_hw1 : k0_chk1 v1), (k0_dev56 v1) < nD := fun v1 k0_hw1 => k0_hw1.1.2.2.2.2.2.2.2.2.2.2.2.2.2.2.2.2.2.2.2.2.2.2.2.2.2.2.2.1
theorem k0_dev58_lt : ∀ (v1 : BitVec 32) (k0_hw1 : k0_chk1 v1), (k0_dev58 v1) < nD := fun v1 k0_hw1 => k0_hw1.1.2.2.2.2.2.2.2.2.2.2.2.2.2.2.2.2.2.2.2.2.2.2.2.2.2.2.2.2.1
theorem k0_dev59_lt : ∀ (v1 : BitVec 32) (k0_hw1 : k0_chk1 v1), (k0_dev59 v1) < nD := fun v1 k0_hw1 => k0_hw1.1.2.2.2.2.2.2.2.2.2.2.2.2.2.2.2.2.2.2.2.2.2.2.2.2.2.2.2.2.2.1
theorem k0_dev62_lt : ∀ (v1 : BitVec 32) (k0_hw1 : k0_chk1 v1), (k0_dev62 v1) < nD := fun v1 k0_hw1 => k0_hw1.1.2.2.2.2.2.2.2.2.2.2.2.2.2.2.2.2.2.2.2.2.2.2.2.2.2.2.2.2.2.2.1
theorem k0_dev64_lt : ∀ (v1 : BitVec 32) (k0_hw1 : k0_chk1 v1), (k0_dev64 v1) < nD := fun v1 k0_hw1 => k0_hw1.1.2.2.2.2.2.2.2.2.2.2.2.2.2.2.2.2.2.2.2.2.2.2.2.2.2.2.2.2.2.2.2
theorem k0_dev65_lt : ∀ (v1 : BitVec 32) (k0_hw1 : k0_chk1 v1), (k0_dev65 v1) < nD := fun v1 k0_hw1 => k0_hw1.2.1.1
theorem k0_dev68_lt : ∀ (v1 : BitVec 32) (k0_hw1 : k0_chk1 v1), (k0_dev68 v1) < nD := fun v1 k0_hw1 => k0_hw1.2.1.2.1
theorem k0_dev70_lt : ∀ (v1 : BitVec 32) (k0_hw1 : k0_chk1 v1), (k0_dev70 v1) < nD := fun v1 k0_hw1 => k0_hw1.2.1.2.2.1
theorem k0_dev71_lt : ∀ (v1 : BitVec 32) (k0_hw1 : k0_chk1 v1), (k0_dev71 v1) < nD := fun v1 k0_hw1 => k0_hw1.2.1.2.2.2.1
theorem k0_dev74_lt : ∀ (v1 : BitVec 32) (k0_hw1 : k0_chk1 v1), (k0_dev74 v1) < nD := fun v1 k0_hw1 => k0_hw1.2.1.2.2.2.2.1
theorem k0_dev76_lt : ∀ (v1 : BitVec 32) (k0_hw1 : k0_chk1 v1), (k0_dev76 v1) < nD := fun v1 k0_hw1 => k0_hw1.2.1.2.2.2.2.2.1
theorem k0_dev77_lt : ∀ (v1 : BitVec 32) (k0_hw1 : k0_chk1 v1), (k0_dev77 v1) < nD := fun v1 k0_hw1 => k0_hw1.2.1.2.2.2.2.2.2.1
theorem k0_dev80_lt : ∀ (v1 : BitVec 32) (k0_hw1 : k0_chk1 v1), (k0_dev80 v1) < nD := fun v1 k0_hw1 => k0_hw1.2.1.2.2.2.2.2.2.2.1
theorem k0_dev82_lt : ∀ (v1 : BitVec 32) (k0_hw1 : k0_chk1 v1), (k0_dev82 v1) < nD := fun v1 k0_hw1 => k0_hw1.2.1.2.2.2.2.2.2.2.2.1
theorem k0_dev83_lt : ∀ (v1 : BitVec 32) (k0_hw1 : k0_chk1 v1), (k0_dev83 v1) < nD := fun v1 k0_hw1 => k0_hw1.2.1.2.2.2.2.2.2.2.2.2.1
theorem k0_dev86_lt : ∀ (v1 : BitVec 32) (k0_hw1 : k0_chk1 v1), (k0_dev86 v1) < nD := fun v1 k0_hw1 => k0_hw1.2.1.2.2.2.2.2.2.2.2.2.2.1
theorem k0_dev88_lt : ∀ (v1 : BitVec 32) (k0_hw1 : k0_chk1 v1), (k0_dev88 v1) < nD := fun v1 k0_hw1 => k0_hw1.2.1.2.2.2.2.2.2.2.2.2.2.2.1
theorem k0_dev89_lt : ∀ (v1 : BitVec 32) (k0_hw1 : k0_chk1 v1), (k0_dev89 v1) < nD := fun v1 k0_hw1 => k0_hw1.2.1.2.2.2.2.2.2.2.2.2.2.2.2.1
theorem k0_dev92_lt : ∀ (v1 : BitVec 32) (k0_hw1 : k0_chk1 v1), (k0_dev92 v1) < nD := fun v1 k0_hw1 => k0_hw1.2.1.2.2.2.2.2.2.2.2.2.2.2.2.2.1
theorem k0_dev94_lt : ∀ (v1 : BitVec 32) (k0_hw1 : k0_chk1 v1), (k0_dev94 v1) < nD := fun v1 k0_hw1 => k0_hw1.2.1.2.2.2.2.2.2.2.2.2.2.2.2.2.2.1
theorem k0_dev95_lt : ∀ (v1 : BitVec 32) (k0_hw1 : k0_chk1 v1), (k0_dev95 v1) < nD := fun v1 k0_hw1 => k0_hw1.2.1.2.2.2.2.2.2.2.2.2.2.2.2.2.2.2.1
theorem k0_dev98_lt : ∀ (v1 : BitVec 32) (k0_hw1 : k0_chk1 v1), (k0_dev98 v1) < nD := fun v1 k0_hw1 => k0_hw1.2.1.2.2.2.2.2.2.2.2.2.2.2.2.2.2.2.2.1
theorem k0_dev100_lt : ∀ (v1 : BitVec 32) (k0_hw1 : k0_chk1 v1), (k0_dev100 v1) < nD := fun v1 k0_hw1 => k0_hw1.2.1.2.2.2.2.2.2.2.2.2.2.2.2.2.2.2.2.2.1
theorem k0_dev101_lt : ∀ (v1 : BitVec 32) (k0_hw1 : k0_chk1 v1), (k0_dev101 v1) < nD := fun v1 k0_hw1 => k0_hw1.2.1.2.2.2.2.2.2.2.2.2.2.2.2.2.2.2.2.2.2.1
theorem k0_dev104_lt : ∀ (v1 : BitVec 32) (k0_hw1 : k0_chk1 v1), (k0_dev104 v1) < nD := fun v1 k0_hw1 => k0_hw1.2.1.2.2.2.2.2.2.2.2.2.2.2.2.2.2.2.2.2.2.2.1
theorem k0_dev106_lt : ∀ (v1 : BitVec 32) (k0_hw1 : k0_chk1 v1), (k0_dev106 v1) < nD := fun v1 k0_hw1 => k0_hw1.2.1.2.2.2.2.2.2.2.2.2.2.2.2.2.2.2.2.2.2.2.2.1
theorem k0_dev107_lt : ∀ (v1 : BitVec 32) (k0_hw1 : k0_chk1 v1), (k0_dev107 v1) < nD := fun v1 k0_hw1 => k0_hw1.2.1.2.2.2.2.2.2.2.2.2.2.2.2.2.2.2.2.2.2.2.2.2.1
theorem k0_dev110_lt : ∀ (v1 : BitVec 32) (k0_hw1 : k0_chk1 v1), (k0_dev110 v1) < nD := fun v1 k0_hw1 => k0_hw1.2.1.2.2.2.2.2.2.2.2.2.2.2.2.2.2.2.2.2.2.2.2.2.2.1
theorem k0_dev112_lt : ∀ (v1 : BitVec 32) (k0_hw1 : k0_chk1 v1), (k0_dev112 v1) < nD := fun v1 k0_hw1 => k0_hw1.2.1.2.2.2.2.2.2.2.2.2.2.2.2.2.2.2.2.2.2.2.2.2.2.2.1
theorem k0_dev113_lt : ∀ (v1 : BitVec 32) (k0_hw1 : k0_chk1 v1), (k0_dev113 v1) < nD := fun v1 k0_hw1 => k0_hw1.2.1.2.2.2.2.2.2.2.2.2.2.2.2.2.2.2.2.2.2.2.2.2.2.2.2.1
theorem k0_dev116_lt : ∀ (v1 : BitVec 32) (k0_hw1 : k0_chk1 v1), (k0_dev116 v1) < nD := fun v1 k0_hw1 => k0_hw1.2.1.2.2.2.2.2.2.2.2.2.2.2.2.2.2.2.2.2.2.2.2.2.2.2.2.2.1
theorem k0_dev118_lt : ∀ (v1 : BitVec 32) (k0_hw1 : k0_chk1 v1), (k0_dev118 v1) < nD := fun v1 k0_hw1 => k0_hw1.2.1.2.2.2.2.2.2.2.2.2.2.2.2.2.2.2.2.2.2.2.2.2.2.2.2.2.2.1
theorem k0_dev119_lt : ∀ (v1 : BitVec 32) (k0_hw1 : k0_chk1 v1), (k0_dev119 v1) < nD := fun v1 k0_hw1 => k0_hw1.2.1.2.2.2.2.2.2.2.2.2.2.2.2.2.2.2.2.2.2.2.2.2.2.2.2.2.2.2.1
theorem k0_dev122_lt : ∀ (v1 : BitVec 32) (k0_hw1 : k0_chk1 v1), (k0_dev122 v1) < nD := fun v1 k0_hw1 => k0_hw1.2.1.2.2.2.2.2.2.2.2.2.2.2.2.2.2.2.2.2.2.2.2.2.2.2.2.2.2.2.2.1
theorem k0_dev124_lt : ∀ (v1 : BitVec 32) (k0_hw1 : k0_chk1 v1), (k0_dev124 v1) < nD := fun v1 k0_hw1 => k0_hw1.2.1.2.2.2.2.2.2.2.2.2.2.2.2.2.2.2.2.2.2.2.2.2.2.2.2.2.2.2.2.2.1
theorem k0_dev125_lt : ∀ (v1 : BitVec 32) (k0_hw1 : k0_chk1 v1), (k0_dev125 v1) < nD := fun v1 k0_hw1 => k0_hw1.2.1.2.2.2.2.2.2.2.2.2.2.2.2.2.2.2.2.2.2.2.2.2.2.2.2.2.2.2.2.2.2.1
theorem k0_dev128_lt : ∀ (v1 : BitVec 32) (k0_hw1 : k0_chk1 v1), (k0_dev128 v1) < nD := fun v1 k0_hw1 => k0_hw1.2.1.2.2.2.2.2.2.2.2.2.2.2.2.2.2.2.2.2.2.2.2.2.2.2.2.2.2.2.2.2.2.2
theorem k0_dev130_lt : ∀ (v1 : BitVec 32) (k0_hw1 : k0_chk1 v1), (k0_dev130 v1) < nD := fun v1 k0_hw1 => k0_hw1.2.2.1
theorem k0_dev131_lt : ∀ (v1 : BitVec 32) (k0_hw1 : k0_chk1 v1), (k0_dev131 v1) < nD := fun v1 k0_hw1 => k0_hw1.2.2.2.1
theorem k0_dev134_lt : ∀ (v1 : BitVec 32) (k0_hw1 : k0_chk1 v1), (k0_dev134 v1) < nD := fun v1 k0_hw1 => k0_hw1.2.2.2.2.1
theorem k0_dev136_lt : ∀ (v1 : BitVec 32) (k0_hw1 : k0_chk1 v1), (k0_dev136 v1) < nD := fun v1 k0_hw1 => k0_hw1.2.2.2.2.2.1
theorem k0_dev137_lt : ∀ (v1 : BitVec 32) (k0_hw1 : k0_chk1 v1), (k0_dev137 v1) < nD := fun v1 k0_hw1 => k0_hw1.2.2.2.2.2.2.1
theorem k0_dev140_lt : ∀ (v1 : BitVec 32) (k0_hw1 : k0_chk1 v1), (k0_dev140 v1) < nD := fun v1 k0_hw1 => k0_hw1.2.2.2.2.2.2.2.1
theorem k0_dev142_lt : ∀ (v1 : BitVec 32) (k0_hw1 : k0_chk1 v1), (k0_dev142 v1) < nD := fun v1 k0_hw1 => k0_hw1.2.2.2.2.2.2.2.2.1
theorem k0_dev143_lt : ∀ (v1 : BitVec 32) (k0_hw1 : k0_chk1 v1), (k0_dev143 v1) < nD := fun v1 k0_hw1 => k0_hw1.2.2.2.2.2.2.2.2.2.1
theorem k0_dev146_lt : ∀ (v1 : BitVec 32) (k0_hw1 : k0_chk1 v1), (k0_dev146 v1) < nD := fun v1 k0_hw1 => k0_hw1.2.2.2.2.2.2.2.2.2.2.1
theorem k0_dev148_lt : ∀ (v1 : BitVec 32) (k0_hw1 : k0_chk1 v1), (k0_dev148 v1) < nD := fun v1 k0_hw1 => k0_hw1.2.2.2.2.2.2.2.2.2.2.2.1
theorem k0_dev149_lt : ∀ (v1 : BitVec 32) (k0_hw1 : k0_chk1 v1), (k0_dev149 v1) < nD := fun v1 k0_hw1 => k0_hw1.2.2.2.2.2.2.2.2.2.2.2.2.1
theorem k0_dev152_lt : ∀ (v1 : BitVec 32) (k0_hw1 : k0_chk1 v1), (k0_dev152 v1) < nD := fun v1 k0_hw1 => k0_hw1.2.2.2.2.2.2.2.2.2.2.2.2.2.1
theorem k0_dev154_lt : ∀ (v1 : BitVec 32) (k0_hw1 : k0_chk1 v1), (k0_dev154 v1) < nD := fun v1 k0_hw1 => k0_hw1.2.2.2.2.2.2.2.2.2.2.2.2.2.2.1
theorem k0_dev155_lt : ∀ (v1 : BitVec 32) (k0_hw1 : k0_chk1 v1), (k0_dev155 v1) < nD := fun v1 k0_hw1 => k0_hw1.2.2.2.2.2.2.2.2.2.2.2.2.2.2.2.1
theorem k0_dev158_lt : ∀ (v1 : BitVec 32) (k0_hw1 : k0_chk1 v1), (k0_dev158 v1) < nD := fun v1 k0_hw1 => k0_hw1.2.2.2.2.2.2.2.2.2.2.2.2.2.2.2.2.1
theorem k0_dev160_lt : ∀ (v1 : BitVec 32) (k0_hw1 : k0_chk1 v1), (k0_dev160 v1) < nD := fun v1 k0_hw1 => k0_hw1.2.2.2.2.2.2.2.2.2.2.2.2.2.2.2.2.2.1
theorem k0_dev161_lt : ∀ (v1 : BitVec 32) (k0_hw1 : k0_chk1 v1), (k0_dev161 v1) < nD := fun v1 k0_hw1 => k0_hw1.2.2.2.2.2.2.2.2.2.2.2.2.2.2.2.2.2.2.1
theorem k0_dev164_lt : ∀ (v1 : BitVec 32) (k0_hw1 : k0_chk1 v1), (k0_dev164 v1) < nD := fun v1 k0_hw1 => k0_hw1.2.2.2.2.2.2.2.2.2.2.2.2.2.2.2.2.2.2.2.1
theorem k0_dev166_lt : ∀ (v1 : BitVec 32) (k0_hw1 : k0_chk1 v1), (k0_dev166 v1) < nD := fun v1 k0_hw1 => k0_hw1.2.2.2.2.2.2.2.2.2.2.2.2.2.2.2.2.2.2.2.2.1
theorem k0_dev167_lt : ∀ (v1 : BitVec 32) (k0_hw1 : k0_chk1 v1), (k0_dev167 v1) < nD := fun v1 k0_hw1 => k0_hw1.2.2.2.2.2.2.2.2.2.2.2.2.2.2.2.2.2.2.2.2.2.1
theorem k0_dev170_lt : ∀ (v1 : BitVec 32) (k0_hw1 : k0_chk1 v1), (k0_dev170 v1) < nD := fun v1 k0_hw1 => k0_hw1.2.2.2.2.2.2.2.2.2.2.2.2.2.2.2.2.2.2.2.2.2.2.1
theorem k0_dev172_lt : ∀ (v1 : BitVec 32) (k0_hw1 : k0_chk1 v1), (k0_dev172 v1) < nD := fun v1 k0_hw1 => k0_hw1.2.2.2.2.2.2.2.2.2.2.2.2.2.2.2.2.2.2.2.2.2.2.2.1
theorem k0_dev173_lt : ∀ (v1 : BitVec 32) (k0_hw1 : k0_chk1 v1), (k0_dev173 v1) < nD := fun v1 k0_hw1 => k0_hw1.2.2.2.2.2.2.2.2.2.2.2.2.2.2.2.2.2.2.2.2.2.2.2.2.1
theorem k0_dev176_lt : ∀ (v1 : BitVec 32) (k0_hw1 : k0_chk1 v1), (k0_dev176 v1) < nD := fun v1 k0_hw1 => k0_hw1.2.2.2.2.2.2.2.2.2.2.2.2.2.2.2.2.2.2.2.2.2.2.2.2.2.1
theorem k0_dev178_lt : ∀ (v1 : BitVec 32) (k0_hw1 : k0_chk1 v1), (k0_dev178 v1) < nD := fun v1 k0_hw1 => k0_hw1.2.2.2.2.2.2.2.2.2.2.2.2.2.2.2.2.2.2.2.2.2.2.2.2.2.2.1
theorem k0_dev179_lt : ∀ (v1 : BitVec 32) (k0_hw1 : k0_chk1 v1), (k0_dev179 v1) < nD := fun v1 k0_hw1 => k0_hw1.2.2.2.2.2.2.2.2.2.2.2.2.2.2.2.2.2.2.2.2.2.2.2.2.2.2.2.1
theorem k0_dev182_lt : ∀ (v1 : BitVec 32) (k0_hw1 : k0_chk1 v1), (k0_dev182 v1) < nD := fun v1 k0_hw1 => k0_hw1.2.2.2.2.2.2.2.2.2.2.2.2.2.2.2.2.2.2.2.2.2.2.2.2.2.2.2.2.1
theorem k0_dev184_lt : ∀ (v1 : BitVec 32) (k0_hw1 : k0_chk1 v1), (k0_dev184 v1) < nD := fun v1 k0_hw1 => k0_hw1.2.2.2.2.2.2.2.2.2.2.2.2.2.2.2.2.2.2.2.2.2.2.2.2.2.2.2.2.2

def k0_off63 (v4395 : BitVec 32) : Fin 2 → Nat :=
  let c256_i32_5579 : BitVec 32 := 256#32
  let v4396 : BitVec 32 := Scalar.muli v4395 c256_i32_5579
  let v4397 : Index := Scalar.indexCast v4396
  let c0_5580 : Index := 0#32
  ![v4397.toNat, 0]

def k0_chk65 (v4395 : BitVec 32) : Prop :=
  (∀ a, (k0_off63 v4395) a + S256x256.size a ≤ S8192x256.size a)
theorem k0_off63_inb : ∀ (v4395 : BitVec 32) (k0_hw65 : k0_chk65 v4395), ∀ a, (k0_off63 v4395) a + S256x256.size a ≤ S8192x256.size a := fun v4395 k0_hw65 => k0_hw65

def k0_off64 (v4403 : BitVec 32) : Fin 2 → Nat :=
  let c256_i32_5584 : BitVec 32 := 256#32
  let v4404 : BitVec 32 := Scalar.muli v4403 c256_i32_5584
  let v4405 : Index := Scalar.indexCast v4404
  let c0_5585 : Index := 0#32
  ![v4405.toNat, 0]

def k0_chk66 (v4403 : BitVec 32) : Prop :=
  (∀ a, (k0_off64 v4403) a + S256x256.size a ≤ S8192x256.size a)
theorem k0_off64_inb : ∀ (v4403 : BitVec 32) (k0_hw66 : k0_chk66 v4403), ∀ a, (k0_off64 v4403) a + S256x256.size a ≤ S8192x256.size a := fun v4403 k0_hw66 => k0_hw66

abbrev stage0_0 : Fin 1 → Memref sig .tc .smem S66 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Pieces.lean ====
/-
The kernel body as a loop over ring steps.

The printed body unrolls 31 steps. Here one step is written once, for any slot, any column half and either
direction of travel, and the whole body is these pieces in sequence; `Glue` identifies the two.
-/
module

public import proofs.«01_k».proof.Proof.Gen.KernelIdeal

@[expose] public section

noncomputable section

namespace Cert.RingK

open Cert.KernelIdeal Cert.KernelIdeal.Gen
open Idealize.ShloMosaic Idealize.SL.Sem

variable {F : FTy → Type} [FloatOps F]

/-- A kernel program. -/
abbrev PG (F : FTy → Type) := Prog (TpuEff nD τ sig (Elt F) Λ₀ .tc)

/-! ## Rectangles -/

/-- Where slot `σ`, column half `χ` of a staging buffer begins. -/
abbrev off3 (σ χ : Fin 2) : Fin 3 → ℕ := ![σ.val, 0, 1024 * χ.val]
theorem off3_inb : ∀ (σ χ : Fin 2) (a : Fin 3), off3 σ χ a + S1x256x1024.size a ≤ S2x256x2048.size a := by decide
/-- The rectangle of slot `σ`, column half `χ`. -/
abbrev rect3 (σ χ : Fin 2) : Rect S2x256x2048 := Rect.unit (s := S2x256x2048) (off3 σ χ) S1x256x1024.size (off3_inb σ χ)

abbrev off2 (σ χ : Fin 2) : Fin 2 → ℕ := ![σ.val, χ.val]
theorem off2_inb : ∀ (σ χ : Fin 2) (a : Fin 2), off2 σ χ a + S1x1.size a ≤ S2x2.size a := by decide

/-- The view a copy of slot `σ`, half `χ` reads or writes. -/
abbrev part (b : Memref sig .tc .vmem S2x256x2048 .f32) (σ χ : Fin 2) : Memref sig .tc .vmem S256x1024 .f32 :=
  (b.slice (rect3 σ χ) (fun _ => rfl)).squeeze S256x1024 squeezes_S1x256x1024_S256x1024
/-- The semaphore of slot `σ`, half `χ`. -/
abbrev semAt (a : DmaSems sig S2x2) (σ χ : Fin 2) : DmaSem sig :=
  ((a.slice (Rect.unit (s := S2x2) (off2 σ χ) S1x1.size (off2_inb σ χ))).squeeze S_ squeezes_S1x1_S_).sem

/-- Columns `1024 χ …` of a half-width product. -/
theorem colSlices : ∀ χ : Fin 2, S256x2048.Slices ![0, 1024 * χ.val] S256x1024
  | 0 => slices_S256x2048_o0_0_S256x1024
  | 1 => slices_S256x2048_o0_1024_S256x1024
abbrev cols (p : FVec F S256x2048 .f32) (χ : Fin 2) : FVec F S256x1024 .f32 :=
  extractStridedSlice S256x1024 ![0, 1024 * χ.val] p (colSlices χ)

/-- The received chunk plus the own product's half `χ`. -/
abbrev addCols (v : Vec F S1x256x1024 .f32) (p : FVec F S256x2048 .f32) (χ : Fin 2) : FVec F S256x1024 .f32 :=
  addf (shapeCast S256x1024 v shapeCasts_S1x256x1024_S256x1024) (cols p χ)

/-! ## The pieces -/

/-- The barrier semaphore. -/
abbrev barS : Sem sig := (SemArray.scalar (sig.barrier 0 rfl) : Sems sig S_).sem

/-- A device named by a word of the table. -/
abbrev devOf (v : BitVec 32) (h : k0_dev1 v < nD) : Dev nD := ⟨k0_dev1 v, h⟩

section
variable (a0 : Memref sig .tc .smem S66 .i32) (x : Memref sig .tc .vmem S8192x256 .f32)
  (w out : Memref sig .tc .vmem S256x4096 .f32)

theorem word_inb (k : ℕ) (h : k < 66) : ∀ a, (![k] : Fin 1 → ℕ) a + S1.size a ≤ S66.size a := by
  intro a; fin_cases a; show k + 1 ≤ 66; omega
/-- Word `k` of the table. -/
def word (k : ℕ) (h : k < 66) : PG F (Elt F .i32) :=
  smemLoad a0 (Rect.unit (s := S66) ![k] S1.size (word_inb k h)) numel1_S1 rfl

theorem colsInb : ∀ (δ : Fin 2) (a : Fin 2), (![0, 2048 * δ.val] : Fin 2 → ℕ) a + S256x2048.size a ≤ S256x4096.size a := by decide

/-- The product of the row block that word `k` names with the columns of direction `δ`. -/
def prod (δ : Fin 2) (k : ℕ) (h : k < 66) : PG F (FVec F S256x2048 .f32) := do
  let v ← word a0 k h
  have hw : k0_chk3 v := (← Prog.lift (TpuEff.assume (k0_chk3 v) (k0_chk3.dec v))).down
  let xs : Vec F S256x256 .f32 ← Prog.lift (.load x (Rect.unit (s := S8192x256) (k0_off1 v) S256x256.size (k0_off1_inb v hw)).toLoadRect (View.loadsAt_vmem h_S256x256))
  let ws : Vec F S256x2048 .f32 ← Prog.lift (.load w (Rect.unit (s := S256x4096) ![0, 2048 * δ.val] S256x2048.size (colsInb δ)).toLoadRect (View.loadsAt_vmem h_S256x2048))
  pure (matmul dot_S256x256_S256x2048_S256x2048_1_0_0_1_n_n none (shapeCast S256x256 xs shapeCasts_S256x256_S256x256)
    (shapeCast S256x2048 ws shapeCasts_S256x2048_S256x2048) (constant S256x2048 .f32 0x00000000#32))

variable (snd rcv : Memref sig .tc .vmem S2x256x2048 .f32) (sS rS : DmaSems sig S2x2) (cr : Sems sig S_)

/-- Wait for the own copy out of `(σ, χ)` and for the copy into it, and read what came. -/
def take (σ χ : Fin 2) : PG F (Vec F S1x256x1024 .f32) := do
  Prog.lift (.waitDma2 (semAt sS σ χ) (part rcv σ χ) (part snd σ χ) ((View.wordExact_bits rfl).reshape _ _) ((View.wordExact_bits rfl).reshape _ _))
  Prog.lift (.waitDma2 (semAt rS σ χ) (part snd σ χ) (part rcv σ χ) ((View.wordExact_bits rfl).reshape _ _) ((View.wordExact_bits rfl).reshape _ _))
  Prog.lift (.load rcv (rect3 σ χ).toLoadRect (View.loadsAt_vmem h_S1x256x1024))

/-- Put a chunk into slot `(σ, χ)` of the send buffer (what was there is read and dropped). -/
def put (σ χ : Fin 2) (v : FVec F S256x1024 .f32) : PG F PUnit := do
  let _v : Vec F S1x256x1024 .f32 ← Prog.lift (.load snd (rect3 σ χ).toLoadRect (View.loadsAt_vmem h_S1x256x1024))
  Prog.lift (.store snd (rect3 σ χ) (shapeCast S1x256x1024 v shapeCasts_S256x1024_S1x256x1024) Finset.univ (View.stores_vmem_bits_univ h_S1x256x1024 rfl) (.inl rfl))

/-- Start the copy of slot `(σ, χ)` to device `d`. -/
def ship (d : Dev nD) (σ χ : Fin 2) : PG F PUnit :=
  Prog.lift (.enqueueDma (part snd σ χ) (.remote (Dev.tc d) (part rcv σ χ) (.dma (semAt sS σ χ))) (.dma (semAt rS σ χ))
    ((View.wordExact_bits rfl).reshape _ _) ((View.wordExact_bits rfl).reshape _ _) ⟨⟨rfl, Or.inl rfl⟩, trivial⟩)

/-- One unit of credit from the device the copies go to, where `b` asks for it. -/
def await (b : Bool) : PG F PUnit := if b then semWaitWord cr.sem 1#32 else pure ⟨⟩

/-- One hop: take a chunk from slot `σ`, add, put into slot `σ'`, and send on. -/
def hop (d : Dev nD) (σ σ' χ : Fin 2) (b : Bool) (p : FVec F S256x2048 .f32) : PG F PUnit := do
  let v ← take snd rcv sS rS σ χ
  put snd σ' χ (addCols v p χ)
  await cr b
  ship snd rcv sS rS d σ' χ

end

/-- The slot of step `s`. -/
abbrev slot (s : ℕ) : Fin 2 := ⟨s % 2, Nat.mod_lt _ (by decide)⟩

section
variable (a0 : Memref sig .tc .smem S66 .i32) (x : Memref sig .tc .vmem S8192x256 .f32)
  (w out : Memref sig .tc .vmem S256x4096 .f32)
  (sf rf sr rr : Memref sig .tc .vmem S2x256x2048 .f32) (ssf rsf ssr rsr : DmaSems sig S2x2) (cf cr : Sems sig S_)

/-- The barrier, and the two neighbours' names. -/
def hello : PG F (Σ' (v0 : Elt F .i32) (_ : k0_chk2 v0) (v1 : Elt F .i32), PLift (k0_chk1 v1)) := do
  let v0 ← word a0 0 (by decide)
  have h0 : k0_chk2 v0 := (← Prog.lift (TpuEff.assume (k0_chk2 v0) (k0_chk2.dec v0))).down
  let v1 ← word a0 1 (by decide)
  have h1 : k0_chk1 v1 := (← Prog.lift (TpuEff.assume (k0_chk1 v1) (k0_chk1.dec v1))).down
  semSignalWord (devOf v1 (k0_dev1_lt v1 h1)) barS 1#32
  semSignalWord (devOf v0 (k0_dev2_lt v0 h0)) barS 1#32
  semWaitWord barS 2#32
  pure ⟨v0, h0, v1, ⟨h1⟩⟩

/-- Step 0: the two products are put and sent. -/
def first (dn dp : Dev nD) : PG F PUnit := do
  let pf ← prod a0 x w 0 2 (by decide)
  let pr ← prod a0 x w 1 34 (by decide)
  put sf 0 0 (cols pf 0)
  ship sf rf ssf rsf dn 0 0
  put sr 0 0 (cols pr 0)
  ship sr rr ssr rsr dp 0 0
  put sf 0 1 (cols pf 1)
  ship sf rf ssf rsf dn 0 1
  put sr 0 1 (cols pr 1)
  ship sr rr ssr rsr dp 0 1

/-- Give back the slot just read, to both neighbours, where `b` asks for it. -/
def giveBack (dn dp : Dev nD) (b : Bool) : PG F PUnit :=
  if b then (do semSignalWord dp cf.sem 1#32; semSignalWord dn cr.sem 1#32) else pure ⟨⟩

/-- Step `s` of the ring, `1 ≤ s ≤ 30`. -/
def step (dn dp : Dev nD) (s : ℕ) (h : s < 32) : PG F PUnit := do
  let pf ← prod a0 x w 0 (2 + s) (by omega)
  let pr ← prod a0 x w 1 (34 + s) (by omega)
  hop sf rf ssf rsf cf dn (slot (s - 1)) (slot s) 0 (decide (2 ≤ s)) pf
  hop sr rr ssr rsr cr dp (slot (s - 1)) (slot s) 0 (decide (2 ≤ s)) pr
  hop sf rf ssf rsf cf dn (slot (s - 1)) (slot s) 1 false pf
  hop sr rr ssr rsr cr dp (slot (s - 1)) (slot s) 1 false pr
  giveBack cf cr dn dp (decide (s ≤ 29))

theorem outInb : ∀ (δ χ : Fin 2) (a : Fin 2), (![0, 2048 * δ.val + 1024 * χ.val] : Fin 2 → ℕ) a + S256x1024.size a ≤ S256x4096.size a := by decide

/-- `y · logistic y` into the result's columns of direction `δ`, half `χ`. -/
def emit (δ χ : Fin 2) (y : FVec F S256x1024 .f32) : PG F PUnit := do
  let _v : Vec F S256x1024 .f32 ← Prog.lift (.load out (Rect.unit (s := S256x4096) ![0, 2048 * δ.val + 1024 * χ.val] S256x1024.size (outInb δ χ)).toLoadRect (View.loadsAt_vmem h_S256x1024))
  Prog.lift (.store out (Rect.unit (s := S256x4096) ![0, 2048 * δ.val + 1024 * χ.val] S256x1024.size (outInb δ χ)) (mulf y (logistic y)) Finset.univ (View.stores_vmem_bits_univ h_S256x1024 rfl) (.inl rfl))

/-- Step 31: the last chunks come, and the result is written. -/
def last : PG F PUnit := do
  let pf ← prod a0 x w 0 33 (by decide)
  let pr ← prod a0 x w 1 65 (by decide)
  let v0 ← take sf rf ssf rsf 0 0
  let v1 ← take sr rr ssr rsr 0 0
  let v2 ← take sf rf ssf rsf 0 1
  let v3 ← take sr rr ssr rsr 0 1
  emit out 0 0 (addCols v0 pf 0)
  emit out 1 0 (addCols v1 pr 0)
  emit out 0 1 (addCols v2 pf 1)
  emit out 1 1 (addCols v3 pr 1)

/-- Steps `s, s+1, …`, `n` of them, and then the last one. -/
def steps (dn dp : Dev nD) : (n s : ℕ) → n + s < 32 → PG F PUnit
  | 0, _, _ => last a0 x w out sf rf sr rr ssf rsf ssr rsr
  | n + 1, s, h => do
    step a0 x w sf rf sr rr ssf rsf ssr rsr cf cr dn dp s (by omega)
    steps dn dp n (s + 1) (by omega)

/-- The body. -/
def body : PG F PUnit := do
  let ⟨v0, h0, v1, h1⟩ ← hello a0
  first a0 x w sf rf sr rr ssf rsf ssr rsr (devOf v0 (k0_dev2_lt v0 h0)) (devOf v1 (k0_dev1_lt v1 h1.down))
  steps a0 x w out sf rf sr rr ssf rsf ssr rsr cf cr (devOf v0 (k0_dev2_lt v0 h0)) (devOf v1 (k0_dev1_lt v1 h1.down)) 30 1 (by decide)

end

end Cert.RingK
-- ==== Proof.Glue.lean ====
/-
The printed body of the kernel is the body of `Pieces`, in which one step is written once.
-/
module

public import proofs.«01_k».proof.Proof.Pieces

@[expose] public section

noncomputable section

namespace Cert.RingK

open Cert.KernelIdeal Cert.KernelIdeal.Gen
open Idealize.ShloMosaic Idealize.SL.Sem

variable {F : FTy → Type} [FloatOps F]

set_option maxRecDepth 1000000 in
set_option maxHeartbeats 0 in
theorem body_eq (a0 : Memref sig .tc .smem S66 .i32) (h0) (x : Memref sig .tc .vmem S8192x256 .f32) (h1)
  (w : Memref sig .tc .vmem S256x4096 .f32) (h2) (out : Memref sig .tc .vmem S256x4096 .f32) (h3)
  (sf : Memref sig .tc .vmem S2x256x2048 .f32) (h4) (rf : Memref sig .tc .vmem S2x256x2048 .f32) (h5)
  (sr : Memref sig .tc .vmem S2x256x2048 .f32) (h6) (rr : Memref sig .tc .vmem S2x256x2048 .f32) (h7)
  (ssf rsf ssr rsr : DmaSems sig S2x2) (cf cr : Sems sig S_) :
  cc0_body (F := F) a0 h0 x h1 w h2 out h3 sf h4 rf h5 sr h6 rr h7 ssf rsf ssr rsr cf cr
    = body a0 x w out sf rf sr rr ssf rsf ssr rsr cf cr := rfl

end Cert.RingK
-- ==== Proof.Ring.lean ====
/-
The ring of the 32 devices, and what each device computes at each step.

The devices stand on one ring, which the copies of direction 0 travel one way and the copies of direction 1 the
other. At step `s` a device adds its own product for the row block that, after the remaining steps, will have
arrived at its owner; `acc` is the partial sum a device sends on at step `s`.
-/
module

public import proofs.«01_k».proof.Proof.Pieces

@[expose] public section

noncomputable section

namespace Cert.RingK

open Cert.KernelIdeal Cert.KernelIdeal.Gen
open Idealize.ShloMosaic Idealize.SL.Sem

/-! ## The ring -/

/-- The device after `c`. -/
def nx (c : Dev nD) : Dev nD := Fin.ofNat 32 (![1, 2, 3, 4, 5, 6, 7, 15, 0, 8, 18, 10, 11, 12, 13, 14, 17, 9, 19, 20, 21, 22, 23, 31, 16, 24, 25, 26, 27, 28, 29, 30] c : ℕ)
/-- The device before `c`. -/
def pv (c : Dev nD) : Dev nD := Fin.ofNat 32 (![8, 0, 1, 2, 3, 4, 5, 6, 9, 17, 11, 12, 13, 14, 15, 7, 24, 16, 10, 18, 19, 20, 21, 22, 25, 26, 27, 28, 29, 30, 31, 23] c : ℕ)

theorem pv_nx : ∀ c, pv (nx c) = c := by decide
theorem nx_pv : ∀ c, nx (pv c) = c := by decide

/-- Where the copies of direction `δ` go to, and where they come from. -/
def fwd (δ : Fin 2) (c : Dev nD) : Dev nD := if δ = 0 then nx c else pv c
def back (δ : Fin 2) (c : Dev nD) : Dev nD := if δ = 0 then pv c else nx c

theorem back_fwd (δ : Fin 2) (c : Dev nD) : back δ (fwd δ c) = c := by
  unfold back fwd; split <;> simp [pv_nx, nx_pv]
theorem fwd_back (δ : Fin 2) (c : Dev nD) : fwd δ (back δ c) = c := by
  unfold back fwd; split <;> simp [pv_nx, nx_pv]

theorem fwd_zero (c : Dev nD) : fwd 0 c = back 1 c := by unfold fwd back; rw [if_pos rfl, if_neg (by decide)]
theorem fwd_one (c : Dev nD) : fwd 1 c = back 0 c := by unfold fwd back; rw [if_pos rfl, if_neg (by decide)]

/-- One place on the ring, as a permutation. -/
def turn (δ : Fin 2) : Dev nD ≃ Dev nD := ⟨fwd δ, back δ, back_fwd δ, fwd_back δ⟩

/-- The row block device `c` works on at step `s`: the device `s + 1` places back. -/
def blk (δ : Fin 2) : ℕ → Dev nD → Dev nD
  | 0, c => back δ c
  | s + 1, c => blk δ s (back δ c)

/-- After 32 steps back a device meets itself. -/
theorem blk_last : ∀ (δ : Fin 2) (c : Dev nD), blk δ 31 c = c := by decide

/-- A device's number as a word. -/
def dw (d : Dev nD) : BitVec 32 := BitVec.ofNat 32 d.val

theorem dw_chk3 : ∀ d : Dev nD, k0_chk3 (dw d) := by unfold k0_chk3; decide
theorem dw_chk2 : ∀ d : Dev nD, k0_chk2 (dw d) := by decide
theorem dw_chk1 : ∀ d : Dev nD, k0_chk1 (dw d) := by decide
theorem dw_dev : ∀ d : Dev nD, k0_dev1 (dw d) = d.val := by decide

/-- Word `k` of device `c`'s table. -/
def tabW (c : Dev nD) (k : ℕ) : BitVec 32 :=
  if k = 0 then dw (nx c) else if k = 1 then dw (pv c) else if k < 34 then dw (blk 0 (k - 2) c) else dw (blk 1 (k - 34) c)

theorem tabW_0 (c : Dev nD) : tabW c 0 = dw (nx c) := rfl
theorem tabW_1 (c : Dev nD) : tabW c 1 = dw (pv c) := rfl
theorem tabW_f (c : Dev nD) (s : ℕ) (h : s < 32) : tabW c (2 + s) = dw (blk 0 s c) := by
  unfold tabW; rw [if_neg (by omega), if_neg (by omega), if_pos (by omega), Nat.add_sub_cancel_left]
theorem tabW_r (c : Dev nD) (s : ℕ) : tabW c (34 + s) = dw (blk 1 s c) := by
  unfold tabW; rw [if_neg (by omega), if_neg (by omega), if_neg (by omega), Nat.add_sub_cancel_left]

variable {F : FTy → Type} [FloatOps F]

/-- Device `c`'s table. -/
def tab (c : Dev nD) : Vec F S66 .i32 := fun i => tabW c (i 0).val

/-! ## What is computed -/

/-- The rows of `x` in block `d`. -/
def rows (x : Vec F S8192x256 .f32) (d : Dev nD) : Vec F S256x256 .f32 :=
  fun i => x ((Rect.unit (s := S8192x256) (k0_off1 (dw d)) S256x256.size (k0_off1_inb (dw d) (dw_chk3 d))).emb i)
/-- The columns of `w` that direction `δ` carries. -/
def wcols (w : Vec F S256x4096 .f32) (δ : Fin 2) : Vec F S256x2048 .f32 :=
  fun i => w ((Rect.unit (s := S256x4096) ![0, 2048 * δ.val] S256x2048.size (colsInb δ)).emb i)
/-- Their product. -/
def prodV (δ : Fin 2) (x : Vec F S8192x256 .f32) (w : Vec F S256x4096 .f32) (d : Dev nD) : FVec F S256x2048 .f32 :=
  matmul dot_S256x256_S256x2048_S256x2048_1_0_0_1_n_n none (shapeCast S256x256 (rows x d) shapeCasts_S256x256_S256x256)
    (shapeCast S256x2048 (wcols w δ) shapeCasts_S256x2048_S256x2048) (constant S256x2048 .f32 0x00000000#32)

variable (X : Dev nD → Vec F S8192x256 .f32) (Wt : Dev nD → Vec F S256x4096 .f32)

/-- Device `c`'s own product at step `s`. -/
def mine (δ : Fin 2) (s : ℕ) (c : Dev nD) : FVec F S256x2048 .f32 := prodV δ (X c) (Wt c) (blk δ s c)

/-- The partial sum (half `χ`) device `c` sends on at step `s`. -/
def acc (δ χ : Fin 2) : ℕ → Dev nD → FVec F S256x1024 .f32
  | 0, c => cols (mine X Wt δ 0 c) χ
  | s + 1, c => addf (acc δ χ s (back δ c)) (cols (mine X Wt δ (s + 1) c) χ)

end Cert.RingK
-- ==== Proof.Proto.lean ====
/-
The protocol of the ring, as a schedule of rounds.

Per device and direction δ there is a send buffer and a receive buffer of two slots by two column halves. The copy of
step `s` goes out of slot `s % 2` into the same slot of the next device. For each semaphore: who waits, who pays, how
much, in what round, and what the payer hands over.

* barrier, round 0: the device waits for two units. Duty δ is paid by the device its direction-δ copies go to, which
  hands over its receive buffer of direction δ (any contents).
* send semaphore (δ, σ, χ), round r: paid by the device's own copy of step `2 r + σ`; the copy's source comes back.
* receive semaphore (δ, σ, χ), round r: paid by the copy that the device behind starts at step `2 r + σ`; the slot
  comes back holding the partial sum that device sends on at that step.
* credit semaphore δ, one round of 29 duties: duty k is one unit, paid at step `k + 1` by the device the copies go to, and
  the wait of step `k + 2` takes one unit. Two units can be on the counter at once, and a unit does not say which duty it
  is of. So the slot `k % 2` given back, both halves, goes through a stock beside the semaphore: the payer puts slot after
  slot in and the waiter takes slot after slot out. Duty k hands over that `k + 1` slots were put in. A device that has
  taken `t + 1` units holds that of a duty `k ≥ t`, so its next slot is there.
-/
module

public import proofs.«01_k».proof.Proof.Ring
public import proofs.«01_k».proof.Proof.Gen.KernelIdeal.Launch
public import Idealize.ShloMosaic.Lib.Pipeline.Regions
public import Idealize.ShloMosaic.Lib.Pipeline.Kit
public import Idealize.ShloMosaic.Lib.Rounds
public import Idealize.ShloMosaic.Lib.Tactic

@[expose] public section

noncomputable section

namespace Cert.RingK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The buffers and semaphores of a direction -/

/-- The send and the receive buffer of direction `δ`. -/
def sndM : Fin 2 → Memref sig .tc .vmem S2x256x2048 .f32
  | 0 => Memref.whole cc0_scratch0
  | 1 => Memref.whole cc0_scratch2
def rcvM : Fin 2 → Memref sig .tc .vmem S2x256x2048 .f32
  | 0 => Memref.whole cc0_scratch1
  | 1 => Memref.whole cc0_scratch3
/-- Its send semaphores, receive semaphores and credit semaphore. -/
def sS : Fin 2 → DmaSems sig S2x2
  | 0 => cc0_scratch4
  | 1 => cc0_scratch6
def rS : Fin 2 → DmaSems sig S2x2
  | 0 => cc0_scratch5
  | 1 => cc0_scratch7
def crS : Fin 2 → Sems sig S_
  | 0 => cc0_scratch8
  | 1 => cc0_scratch9

/-- The semaphores of the protocol. -/
inductive Kd where
  | bar
  | cred (δ : Fin 2)
  | send (δ σ χ : Fin 2)
  | recv (δ σ χ : Fin 2)
  deriving DecidableEq

/-- All nineteen. -/
instance : Fintype Kd where
  elems := {.bar} ∪ (Finset.univ.image Kd.cred ∪ ((Finset.univ.image fun p : Fin 2 × Fin 2 × Fin 2 => Kd.send p.1 p.2.1 p.2.2)
    ∪ (Finset.univ.image fun p : Fin 2 × Fin 2 × Fin 2 => Kd.recv p.1 p.2.1 p.2.2)))
  complete k := by
    simp only [Finset.mem_union, Finset.mem_singleton, Finset.mem_image, Finset.mem_univ, true_and]
    cases k with
    | bar => exact .inl rfl
    | cred δ => exact .inr (.inl ⟨δ, rfl⟩)
    | send δ σ χ => exact .inr (.inr (.inl ⟨(δ, σ, χ), rfl⟩))
    | recv δ σ χ => exact .inr (.inr (.inr ⟨(δ, σ, χ), rfl⟩))

/-- Where each stands on a device. -/
def semOf : Kd → SemLoc sig
  | .bar => .reg barS
  | .cred δ => .reg (crS δ).sem
  | .send δ σ χ => .dma (semAt (sS δ) σ χ)
  | .recv δ σ χ => .dma (semAt (rS δ) σ χ)

theorem semOf_inj : Function.Injective semOf := by
  have h : ∀ k k', semOf k = semOf k' → k = k' := by decide +kernel
  exact fun k k' => h k k'

/-- Which of them a semaphore is. -/
def kdOf (l : SemLoc sig) : Option Kd := if h : ∃ k, semOf k = l then some h.choose else none
theorem kdOf_semOf (k : Kd) : kdOf (semOf k) = some k := by
  have h : ∃ k', semOf k' = semOf k := ⟨k, rfl⟩
  unfold kdOf; rw [dif_pos h]; exact congrArg some (semOf_inj h.choose_spec)

abbrev cell (k : Kd) (c : Dev nD) : GSem nD τ sig := ((c : Thread nD τ), semOf k)

theorem cell_inj {k k' : Kd} {c c' : Dev nD} (h : cell k c = cell k' c') : k = k' ∧ c = c' :=
  ⟨semOf_inj (Prod.mk.inj h).2, (Prod.mk.inj (Prod.mk.inj h).1).1⟩

/-- The units one copy pays. -/
def N : ℕ := (part (Memref.whole cc0_scratch0) 0 0).view.dmaCredit
theorem N_pos : 0 < N := View.dmaCredit_pos _ (by decide)
theorem N_snd : ∀ δ σ χ : Fin 2, (part (sndM δ) σ χ).view.dmaCredit = N
  | 0, _, _ => rfl
  | 1, _, _ => rfl
theorem N_rcv : ∀ δ σ χ : Fin 2, (part (rcvM δ) σ χ).view.dmaCredit = N
  | 0, _, _ => rfl
  | 1, _, _ => rfl

/-! ## The resource algebra -/

/-- The pipeline library's copy of the rounds' algebra, the ring's, and the stocks' counters. -/
abbrev UU : Type := UR sig nD τ × (URounds (GSem nD τ sig) ℕ × URounds (Fin 2 × Dev nD × Bool) ℕ)

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := Emb.inl.trans embR
abbrev EC : Emb (URounds (Fin 2 × Dev nD × Bool) ℕ) (MT nD τ sig ℕ (Elt F) ℕ UU ℕ) := Emb.inr.trans embR

/-! ## What is handed over -/

/-- Slot `(σ, χ)` of device `c`'s send or receive buffer at contents `Y`; and at some contents. -/
abbrev sndAt (δ σ χ : Fin 2) (c : Dev nD) (Y : Vec F S256x1024 .f32) : sProp 𝕄 := owns (c : Thread nD τ) (part (sndM δ) σ χ) fullShare Y
abbrev rcvAt (δ σ χ : Fin 2) (c : Dev nD) (Y : Vec F S256x1024 .f32) : sProp 𝕄 := owns (c : Thread nD τ) (part (rcvM δ) σ χ) fullShare Y
def sndAny (δ σ χ : Fin 2) (c : Dev nD) : sProp 𝕄 := iprop(∃ Y : Vec F S256x1024 .f32, sndAt δ σ χ c Y)
def rcvAny (δ σ χ : Fin 2) (c : Dev nD) : sProp 𝕄 := iprop(∃ Y : Vec F S256x1024 .f32, rcvAt δ σ χ c Y)

/-- The slot `(σ, χ)` that device `c`'s copies of direction `δ` go into, free for round `r`. -/
def lend (δ σ χ : Fin 2) (r : ℕ) (c : Dev nD) : sProp 𝕄 :=
  iprop(rcvAny δ σ χ (fwd δ c) ∗ reached ER (cell (.recv δ σ χ) (fwd δ c)) r)

instance (δ σ χ : Fin 2) (c : Dev nD) : BI.Storable (upEmb : UEmb _ 𝕄) (sndAny (F := F) δ σ χ c) := by unfold sndAny; infer_instance
instance (δ σ χ : Fin 2) (c : Dev nD) : BI.Storable (upEmb : UEmb _ 𝕄) (rcvAny (F := F) δ σ χ c) := by unfold rcvAny; infer_instance
instance (δ σ χ : Fin 2) (r : ℕ) (c : Dev nD) : BI.Storable (upEmb : UEmb _ 𝕄) (lend (F := F) δ σ χ r c) := by unfold lend; infer_instance

variable (X : Dev nD → Vec F S8192x256 .f32) (Wt : Dev nD → Vec F S256x4096 .f32)

/-! ## The schedule -/

/-- The duties of a round. -/
def dut : Kd → ℕ → Finset ℕ
  | .bar, r => if r = 0 then Finset.range 2 else ∅
  | .cred _, r => if r = 0 then Finset.range 29 else ∅
  | .send _ σ _, r => if 2 * r + σ.val < 31 then {0} else ∅
  | .recv _ σ _, r => if 2 * r + σ.val < 31 then {0} else ∅

/-- The units a duty pays. -/
def amt : Kd → ℕ
  | .bar => 1
  | .cred _ => 1
  | .send _ _ _ => N
  | .recv _ _ _ => N

/-- A direction by its number, and the other direction. -/
def dir (d : ℕ) : Fin 2 := if d = 0 then 0 else 1
def opp (δ : Fin 2) : Fin 2 := if δ = 0 then 1 else 0

/-- What the device ahead hands over at the barrier: its receive buffer, and that its credit semaphore stands ready. -/
def greet (δ : Fin 2) (c : Dev nD) : sProp 𝕄 :=
  iprop((lend δ 0 0 0 c ∗ lend δ 0 1 0 c ∗ lend δ 1 0 0 c ∗ lend δ 1 1 0 c) ∗ reached ER (cell (.cred (opp δ)) (fwd δ c)) 0)
instance (δ : Fin 2) (c : Dev nD) : BI.Storable (upEmb : UEmb _ 𝕄) (greet (F := F) δ c) := by unfold greet; infer_instance

/-- Slot `k % 2` given back for the copy of step `k + 2`, both halves. -/
def lends (δ : Fin 2) (c : Dev nD) (k : ℕ) : sProp 𝕄 :=
  iprop(lend δ (slot k) 0 (k / 2 + 1) c ∗ lend δ (slot k) 1 (k / 2 + 1) c)
instance (δ : Fin 2) (c : Dev nD) (k : ℕ) : BI.Storable (upEmb : UEmb _ 𝕄) (lends (F := F) δ c k) := by unfold lends; infer_instance

/-- The stock of slots given back to device `c`: `p` were put in and `q` taken out. -/
def stock (δ : Fin 2) (c : Dev nD) : sProp 𝕄 :=
  iprop(∃ p q : ℕ, roundAuth EC (δ, c, true) p ∅ 0 ∗ roundAuth EC (δ, c, false) q ∅ 0 ∗ ⌜q ≤ p⌝ ∗ bigSep (Finset.Ico q p) (lends δ c))
instance (δ : Fin 2) (c : Dev nD) : BI.Storable (upEmb : UEmb _ 𝕄) (stock (F := F) δ c) := by unfold stock; infer_instance

/-- What it hands over. -/
def pay (c : Dev nD) : Kd → ℕ → ℕ → sProp 𝕄
  | .bar, _, d => greet (dir d) c
  | .cred δ, _, d => reached EC (δ, c, true) (d + 1)
  | .send δ σ χ, _, _ => sndAny δ σ χ c
  | .recv δ σ χ, r, _ => rcvAt δ σ χ c (acc X Wt δ χ (2 * r + σ.val) (back δ c))

def rd : Rounds.Schedule (GSem nD τ sig) ℕ 𝕄 where
  duties g r := if g.1.2 = .tc then (match kdOf g.2 with | some k => dut k r | none => ∅) else ∅
  unitless _ := False
  amount g _ _ := match kdOf g.2 with | some k => amt k | none => 1
  payload g r d := match kdOf g.2 with | some k => pay X Wt g.1.1 k r d | none => iprop(emp)
  amount_pos g _ _ _ := by
    cases kdOf g.2 with
    | none => exact Nat.one_pos
    | some k => cases k <;> first | exact Nat.one_pos | exact N_pos

instance rd_storable (g : GSem nD τ sig) (r d : ℕ) : BI.Storable (upEmb : UEmb _ 𝕄) ((rd X Wt).payload g r d) := by
  show BI.Storable upEmb (match kdOf g.2 with | some k => pay X Wt g.1.1 k r d | none => iprop(emp))
  cases kdOf g.2 with
  | none => dsimp only; infer_instance
  | some k => cases k <;> (dsimp only [pay]; infer_instance)

section Tables
variable (k : Kd) (c : Dev nD) (r d : ℕ)

theorem duties_eq : (rd X Wt).duties (cell k c) r = dut k r := by
  dsimp only [rd]; rw [if_pos rfl, kdOf_semOf]
theorem amount_eq : (rd X Wt).amount (cell k c) r d = amt k := by
  dsimp only [rd]; rw [kdOf_semOf]
theorem payload_eq : (rd X Wt).payload (cell k c) r d = pay X Wt c k r d := by
  dsimp only [rd]; rw [kdOf_semOf]

theorem expect_eq : (rd X Wt).expect (cell k c) r = (dut k r).card * amt k := by
  unfold Schedule.expect Schedule.amountOf
  rw [duties_eq, Finset.sum_congr rfl (fun d _ => amount_eq X Wt k c r d), Finset.sum_const, smul_eq_mul]
theorem rest_eq : bigSep ((rd X Wt).duties (cell k c) r \ ∅) (fun d => (rd X Wt).payload (cell k c) r d)
    = bigSep (dut k r) (fun d => pay X Wt c k r d) := by
  rw [Finset.sdiff_empty, duties_eq]; exact congrArg _ (funext fun d => payload_eq X Wt k c r d)

end Tables

/-! ## What each device owes, and the levels -/

/-- The indices of a cell's credits: the steps. -/
def L (g : GSem nD τ sig) : Finset ℕ := if g.1.2 = .tc then Finset.range 32 else ∅
/-- Send semaphores lowest, then the barrier, then the copies and credits in the order of the steps. -/
def lv (g : GSem nD τ sig) (i : ℕ) : ℕ :=
  match kdOf g.2 with
  | some .bar => 1
  | some (.cred _) => 2 * i + 3
  | some (.recv _ _ _) => 2 * i + 2
  | _ => 0

theorem L_of_ne (g : GSem nD τ sig) (h : g.1.2 ≠ .tc) : L g = ∅ := if_neg h
theorem L_tc (c : Dev nD) (sm : SemLoc sig) : L ((c : Thread nD τ), sm) = Finset.range 32 := if_pos rfl
theorem lv_bar (c : Dev nD) (i : ℕ) : lv (cell .bar c) i = 1 := by unfold lv; rw [kdOf_semOf]
theorem lv_cred (c : Dev nD) (δ : Fin 2) (i : ℕ) : lv (cell (.cred δ) c) i = 2 * i + 3 := by unfold lv; rw [kdOf_semOf]
theorem lv_recv (c : Dev nD) (δ σ χ : Fin 2) (i : ℕ) : lv (cell (.recv δ σ χ) c) i = 2 * i + 2 := by unfold lv; rw [kdOf_semOf]
theorem lv_send (c : Dev nD) (δ σ χ : Fin 2) (i : ℕ) : lv (cell (.send δ σ χ) c) i = 0 := by unfold lv; rw [kdOf_semOf]

abbrev Tl : Type := CellTallies nD τ sig ℕ

/-- The debt of the step-`s` copy of direction `δ`, half `χ`; of the credit given at step `s`. -/
def owS (δ χ : Fin 2) (s : ℕ) (c : Dev nD) : Tl := tallyAt (cell (.recv δ (slot s) χ) (fwd δ c)) s N
def owC (δ : Fin 2) (s : ℕ) (c : Dev nD) : Tl := tallyAt (cell (.cred δ) (back δ c)) s 1
def owB (δ : Fin 2) (c : Dev nD) : Tl := tallyAt (cell .bar (back δ c)) 0 1

/-- The credits of step `s`, given at steps 1 … 29. -/
def owG (s : ℕ) (c : Dev nD) : Tl := if 1 ≤ s ∧ s ≤ 29 then owC 1 s c + owC 0 s c else 0
/-- What the `n` steps from `s` on pay, the last payment first. -/
def owFrom (c : Dev nD) : ℕ → ℕ → Tl
  | 0, _ => 0
  | n + 1, s => ((((owFrom c n (s + 1) + owG s c) + owS 1 1 s c) + owS 0 1 s c) + owS 1 0 s c) + owS 0 0 s c
/-- What a device owes at launch. -/
def O₀ (c : Dev nD) : Tl := (owFrom c 31 0 + owB 1 c) + owB 0 c

/-- Everything owed lies above level `b`. -/
def Above (b : ℕ) (O : Tl) : Prop := ∀ g i, 0 < O g i → i ∈ L g ∧ b < lv g i

theorem above_zero (b : ℕ) : Above b 0 := fun g i h => absurd h (Nat.lt_irrefl 0)
theorem above_add {b : ℕ} {O O' : Tl} (h : Above b O) (h' : Above b O') : Above b (O + O') := fun g i hg => by
  by_cases h0 : 0 < O g i
  · exact h g i h0
  · refine h' g i ?_
    have e : (O + O') g i = O g i + O' g i := rfl
    omega
theorem above_tally {b : ℕ} {c : Dev nD} {sm : SemLoc sig} {i n : ℕ} (hi : i < 32) (hb : b < lv ((c : Thread nD τ), sm) i) :
    Above b (tallyAt ((c : Thread nD τ), sm) i n) := fun g j hg => by
  rw [tallyAt_apply] at hg
  by_cases h : g = ((c : Thread nD τ), sm) ∧ j = i
  · rw [h.1, h.2, L_tc]; exact ⟨Finset.mem_range.mpr hi, hb⟩
  · rw [if_neg h] at hg; exact absurd hg (Nat.lt_irrefl 0)
theorem Above.mono {b b' : ℕ} {O : Tl} (h : Above b O) (hb : b' ≤ b) : Above b' O :=
  fun g i hg => ⟨(h g i hg).1, Nat.lt_of_le_of_lt hb (h g i hg).2⟩

theorem above_owS (δ χ : Fin 2) {b s : ℕ} (c : Dev nD) (hs : s < 32) (hb : b < 2 * s + 2) : Above b (owS δ χ s c) :=
  above_tally hs (by rw [lv_recv]; exact hb)
theorem above_owC (δ : Fin 2) {b s : ℕ} (c : Dev nD) (hs : s < 32) (hb : b < 2 * s + 3) : Above b (owC δ s c) :=
  above_tally hs (by rw [lv_cred]; exact hb)
theorem above_owG {b s : ℕ} (c : Dev nD) (hb : b < 2 * s + 3) : Above b (owG s c) := by
  unfold owG; split
  · exact above_add (above_owC 1 c (by omega) hb) (above_owC 0 c (by omega) hb)
  · exact above_zero b
theorem above_owFrom (c : Dev nD) (b : ℕ) : ∀ n s, n + s < 32 → b < 2 * s + 2 → Above b (owFrom c n s)
  | 0, _, _, _ => above_zero b
  | n + 1, s, hs, hb => by
    have h := above_owFrom c b n (s + 1) (by omega) (by omega)
    exact above_add (above_add (above_add (above_add (above_add h (above_owG c (by omega))) (above_owS 1 1 c (by omega) hb))
      (above_owS 0 1 c (by omega) hb)) (above_owS 1 0 c (by omega) hb)) (above_owS 0 0 c (by omega) hb)

/-- A wait below everything owed is allowed. -/
theorem mayWait {b : ℕ} {O : Tl} (h : Above b O) (c : Dev nD) (sm : SemLoc sig) (i : ℕ) (hi : i < 32) (hb : lv ((c : Thread nD τ), sm) i ≤ b) :
    (levAts L lv : sProp 𝕄) ⊢ MayWait (c : Thread nD τ) sm i O :=
  MayOwe.of_cut (L := L) (lev := lv) b (fun p hp => by rw [Finset.mem_singleton.mp hp, L_tc]; exact Finset.mem_range.mpr hi)
    (fun g u hg => (h g u hg).1) (fun p hp => by rw [Finset.mem_singleton.mp hp]; exact hb) (fun g u hg => (h g u hg).2)

/-! ## The names -/

/-- The names the launch gave: of the cells' invariants and of the stocks'. -/
abbrev Names : Type := (GSem nD τ sig → ℕ) × (Fin 2 × Dev nD → ℕ)

/-- Every cell's invariant, at the names `K` the launch gave them. -/
def invs (K : GSem nD τ sig → ℕ) : sProp 𝕄 := bigSep Finset.univ fun p : Kd × Dev nD => cellInv ER (rd X Wt) (K (cell p.1 p.2)) (cell p.1 p.2)
instance (K : GSem nD τ sig → ℕ) : BI.Persistent (invs X Wt K) := by unfold invs; infer_instance
theorem inv_of (K : GSem nD τ sig → ℕ) (k : Kd) (c : Dev nD) :
    invs X Wt K ⊢ cellInv ER (rd X Wt) (K (cell k c)) (cell k c) :=
  (Entails.of_eq (bigSep_erase (Finset.mem_univ (k, c)))).trans Laws.sep_elim_left

/-- Every stock's invariant. -/
def stocks (K : Fin 2 × Dev nD → ℕ) : sProp 𝕄 := bigSep Finset.univ fun p : Fin 2 × Dev nD => inv (K p) (stock p.1 p.2)
instance (K : Fin 2 × Dev nD → ℕ) : BI.Persistent (stocks (F := F) K) := by unfold stocks; infer_instance
theorem stock_of (K : Fin 2 × Dev nD → ℕ) (δ : Fin 2) (c : Dev nD) : stocks (F := F) K ⊢ inv (K (δ, c)) (stock δ c) :=
  (Entails.of_eq (bigSep_erase (Finset.mem_univ (δ, c)))).trans Laws.sep_elim_left

end Cert.RingK
-- ==== Proof.Slots.lean ====
/-
The single operations of the ring on its slots, each as a rule: load and store of a slot, the two waits, a copy sent.
-/
module

public import proofs.«01_k».proof.Proof.Proto

@[expose] public section

noncomputable section

namespace Cert.RingK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The weakest precondition of a program on device `c`. -/
abbrev wpc (c : Dev nD) {α : Type} (p : PG F α) (Kt : α → sProp 𝕄) : sProp 𝕄 :=
  wp frame (wpE (defs₀ (F := F)) 𝒱₀ (c : Thread nD τ) none) Set.univ p Kt

theorem wpc_bind (c : Dev nD) {α β : Type} (p : PG F α) (k : α → PG F β) (Kt : β → sProp 𝕄) :
    wpc c (p >>= k) Kt = wpc c p (fun a => wpc c (k a) Kt) := by
  exact wp_bind _ _ _ p k Kt

section Part
variable (b : Memref sig .tc .vmem S2x256x2048 .f32) (σ χ : Fin 2) (c : Dev nD)

theorem part_set : (b.access (rect3 σ χ)).set = (part b σ χ).view.set := (View.set_reshape _ _).symm
theorem part_read (f : Buf (Elt F) ((part b σ χ).view.loc (c : Thread nD τ))) :
    (part b σ χ).view.read (Elt F) f = shapeCast S256x1024 ((b.access (rect3 σ χ)).read (Elt F) f) shapeCasts_S1x256x1024_S256x1024 := rfl
theorem part_write (f : Buf (Elt F) ((part b σ χ).view.loc (c : Thread nD τ))) (v : FVec F S256x1024 .f32) :
    (part b σ χ).view.read (Elt F) ((b.access (rect3 σ χ)).write (Elt F) f (shapeCast S1x256x1024 v shapeCasts_S256x1024_S1x256x1024) Finset.univ) = v := by
  rw [part_read b σ χ c, View.read_write_univ]
  funext j
  unfold shapeCast
  exact congrArg v (by rw [← Shape.reshapeEquiv_symm]; exact Equiv.symm_apply_apply _ _)

theorem wp_loadPart (hl) (Y : Vec F S256x1024 .f32) (Kt : (S1x256x1024.Idx → Elt F .f32) → sProp 𝕄) :
    iprop(owns (c : Thread nD τ) (part b σ χ) fullShare Y
        ∗ (∀ v : S1x256x1024.Idx → Elt F .f32, iprop(⌜shapeCast S256x1024 v shapeCasts_S1x256x1024_S256x1024 = Y⌝ ∗ owns (c : Thread nD τ) (part b σ χ) fullShare Y) -∗ Kt v))
      ⊢ wpc c (Prog.lift (.load b (rect3 σ χ).toLoadRect hl)) Kt := by
  unfold owns
  iintro ⟨⟨%f, %hf, H⟩, Hk⟩
  iapply (wp_load_rect (defs := defs₀ (F := F)) 𝒱₀ (c : Thread nD τ) none Set.univ (m := b) (r := rect3 σ χ) (S := (part b σ χ).view.set) (by rw [part_set])) $$ H
  iintro H
  rw [wp_ret]; imodintro
  iapply Hk
  isplitr
  · ipureintro; rw [← hf]; rfl
  iexists f
  isplitr; · ipureintro; exact hf
  iexact H

theorem wp_storePart (v : FVec F S256x1024 .f32) (hx hm) (Kt : PUnit → sProp 𝕄) :
    iprop((∃ Y : Vec F S256x1024 .f32, owns (c : Thread nD τ) (part b σ χ) fullShare Y)
        ∗ (owns (c : Thread nD τ) (part b σ χ) fullShare v -∗ Kt ⟨⟩))
      ⊢ wpc c (Prog.lift (.store b (rect3 σ χ) (shapeCast S1x256x1024 v shapeCasts_S256x1024_S1x256x1024) Finset.univ hx hm)) Kt := by
  unfold owns
  iintro ⟨⟨%Y, %f, %hf, H⟩, Hk⟩
  iapply (wp_store (defs := defs₀ (F := F)) 𝒱₀ (c : Thread nD τ) none Set.univ (m := b) (r := rect3 σ χ) (S := (part b σ χ).view.set) (by rw [View.setOn_univ, part_set])) $$ H
  iintro H
  rw [wp_ret]; imodintro
  iapply Hk
  iexists _
  isplitr [H]
  rotate_left
  · iexact H
  ipureintro; exact part_write b σ χ c f v

end Part

/-! ## Waits, copies, signals -/

variable (X : Dev nD → Vec F S8192x256 .f32) (Wt : Dev nD → Vec F S256x4096 .f32) (K : Names)

/-- Device `c` still owes `O`. -/
def owe (c : Dev nD) (O : Tl) : sProp 𝕄 := iprop(∃ W, owes (c : Thread nD τ) O W)

/-- What stays true throughout: the cells' invariants and the levels. -/
def know : sProp 𝕄 := iprop((invs X Wt K.1 ∗ stocks K.2) ∗ levAts L lv)
instance : BI.Persistent (know X Wt K) := by unfold know; infer_instance

/-- A device's place on its own cell of kind `k`: `r` rounds are behind it. -/
def at_ (k : Kd) (c : Dev nD) (r : ℕ) : sProp 𝕄 := iprop(atPos ER (cell k c) r ∅ 0 ∗ reached ER (cell k c) r)

/-- A wait for all of a round: the place moves on and what the round's payers handed over comes. -/
theorem wp_waitRound {w : TpuEff nD τ sig (Elt F) Λ₀ .tc PUnit} {n : ℕ} (k : Kd) (c : Dev nD) (r i b : ℕ) (O : Tl)
    (hw : ∀ Q : PUnit → sProp 𝕄, wpE (defs₀ (F := F)) 𝒱₀ (c : Thread nD τ) none Set.univ w Q = waitSpec (c : Thread nD τ) Set.univ (semOf k) n Q)
    (hn : n = (dut k r).card * amt k) (hO : Above b O) (hi : i < 32) (hb : lv (cell k c) i ≤ b) (Kt : PUnit → sProp 𝕄) :
    iprop(know X Wt K ∗ cred (tallyAt (cell k c) i n) ∗ owe c O ∗ at_ k c r
        ∗ (iprop(owe c O ∗ at_ k c (r + 1) ∗ bigSep (dut k r) (fun d => pay X Wt c k r d)) -∗ Kt ⟨⟩))
      ⊢ wpc c (Prog.lift w) Kt := by
  unfold know owe at_
  iintro ⟨⟨⟨#HI, -⟩, #Hlev⟩, Hc, ⟨%W, HO⟩, ⟨Hat, -⟩, Hk⟩
  iapply (Rounds.wp_wait_rest_token (defs := defs₀ (F := F)) 𝒱₀ ER (rd X Wt) (c : Thread nD τ) none (κ := K.1 (cell k c)) hw (Set.mem_univ _) i (O := O) (W := W)
    (R := r) (m := 0) (T := ∅) (by rw [Nat.zero_add, expect_eq, hn])) $$ [Hc HO Hat]
  · isplitr; · iapply (inv_of X Wt K.1 k c); iexact HI
    isplitl [Hc]; · iexact Hc
    isplitl [HO]; · iexact HO
    isplitr; · iapply (mayWait hO c (semOf k) i hi hb); iexact Hlev
    iexact Hat
  iintro ⟨HO, Hat, Hr, Hp⟩
  rw [wp_ret]; imodintro
  iapply Hk
  isplitl [HO]; · iexists _; iexact HO
  isplitl [Hat Hr]; · isplitl [Hat] <;> iassumption
  iapply (Entails.of_eq (rest_eq X Wt k c r)); iexact Hp

/-- A signal of one unit that pays duty `d` of round `r`. -/
theorem wp_signalDuty (sm : Sem sig) (k : Kd) (hk : semOf k = .reg sm) (c c' : Dev nD) (r i d : ℕ) (O : Tl) (hd : d ∈ dut k r) (ha : amt k = 1)
    (Kt : PUnit → sProp 𝕄) :
    iprop(know X Wt K ∗ owe c (O + tallyAt (cell k c') i 1) ∗ dutyTok ER (cell k c') r d ∗ pay X Wt c' k r d ∗ reached ER (cell k c') r
        ∗ (owe c O -∗ Kt ⟨⟩))
      ⊢ wpc c (semSignalWord c' sm 1#32) Kt := by
  unfold know owe
  rw [show cell k c' = ((c' : Thread nD τ), .reg sm) from congrArg _ hk]
  iintro ⟨⟨⟨#HI, -⟩, #Hlev⟩, ⟨%W, HO⟩, Ht, Hp, Hr, Hk⟩
  ihave Hi := (inv_of X Wt K.1 k c') $$ HI
  rw [show cell k c' = ((c' : Thread nD τ), .reg sm) from congrArg _ hk]
  iapply (Rounds.wp_signal (defs := defs₀ (F := F)) 𝒱₀ ER (rd X Wt) (c : Thread nD τ) none (dst := (c' : Thread nD τ)) (sem := sm) (r := r) (d := d) (k' := 1)
      (κ := K.1 ((c' : Thread nD τ), .reg sm))
      (by rw [← hk]; rw [duties_eq]; exact hd) (by rw [← hk]; rw [amount_eq]; exact ha) i O rfl (W := W))
    $$ [HO Ht Hp Hr Hi]
  · isplitl [Hi]; · iexact Hi
    isplitl [HO]; · iexact HO
    isplitl [Ht]; · iexact Ht
    isplitl [Hp]
    · rw [← hk, payload_eq]; iexact Hp
    iexact Hr
  iintro HO
  rw [wp_ret]; imodintro
  iapply Hk
  iexists W; iexact HO

/-- The copy of step `s`: it takes the filled send slot and the free slot ahead, and pays the two rounds. -/
theorem wp_ship (δ χ : Fin 2) (s : ℕ) (hs : s < 31) (c : Dev nD) (O : Tl) (Kt : PUnit → sProp 𝕄) :
    iprop(know X Wt K ∗ sndAt δ (slot s) χ c (acc X Wt δ χ s c) ∗ lend δ (slot s) χ (s / 2) c ∗ owe c (O + owS δ χ s c)
        ∗ dutyTok ER (cell (.send δ (slot s) χ) c) (s / 2) 0 ∗ reached ER (cell (.send δ (slot s) χ) c) (s / 2)
        ∗ dutyTok ER (cell (.recv δ (slot s) χ) (fwd δ c)) (s / 2) 0
        ∗ (iprop(cred (tallyAt (cell (.send δ (slot s) χ) c) 0 N) ∗ owe c O) -∗ Kt ⟨⟩))
      ⊢ wpc c (ship (sndM δ) (rcvM δ) (sS δ) (rS δ) (fwd δ c) (slot s) χ) Kt := by
  unfold know owe lend rcvAny ship
  have h2 : 2 * (s / 2) + (slot s).val = s := by show 2 * (s / 2) + s % 2 = s; omega
  have hd : ∀ k : Kd, (k = .send δ (slot s) χ ∨ k = .recv δ (slot s) χ) → (0 : ℕ) ∈ dut k (s / 2) := by
    rintro k (rfl | rfl) <;> (show (0 : ℕ) ∈ (if 2 * (s / 2) + (slot s).val < 31 then {0} else ∅); rw [h2, if_pos hs]; exact Finset.mem_singleton_self _)
  iintro ⟨⟨⟨#HI, -⟩, #Hlev⟩, Hs, ⟨⟨%Y, Hd⟩, #HrD⟩, ⟨%W, HO⟩, HtS, #HrS, HtD, Hk⟩
  unfold sndAt rcvAt owns
  icases Hs with ⟨%fs, %hfs, Hs⟩
  icases Hd with ⟨%fd, %hfd, Hd⟩
  iapply (Rounds.wp_send_pointsTo (defs := defs₀ (F := F)) 𝒱₀ ER (rd X Wt) (c : Thread nD τ) none (c' := (fwd δ c : Thread nD τ))
      (src := part (sndM δ) (slot s) χ) (dst := part (rcvM δ) (slot s) χ)
      (sS := semOf (.send δ (slot s) χ)) (sem := semOf (.recv δ (slot s) χ)) (q := fullShare) (fs := fs)
      (κ₁ := K.1 (cell (.send δ (slot s) χ) c)) (κ₂ := K.1 (cell (.recv δ (slot s) χ) (fwd δ c)))
      (r₁ := s / 2) (r₂ := s / 2) (d₁ := 0) (d₂ := 0) (fd := fd)
      (by rw [duties_eq]; exact hd _ (.inl rfl)) (by rw [duties_eq]; exact hd _ (.inr rfl))
      s 0 N (N_rcv δ (slot s) χ) (amount_eq X Wt (.send δ (slot s) χ) c _ _) (amount_eq X Wt (.recv δ (slot s) χ) (fwd δ c) _ _) O rfl (W := W)
      (by
        rw [payload_eq]; unfold pay sndAny sndAt owns
        iintro H; iexists acc X Wt δ χ s c; iexists fs
        isplitr; · ipureintro; exact hfs
        iexact H)
      (by
        rw [payload_eq]; unfold pay rcvAt owns
        iintro H; iexists _
        isplitr [H]
        rotate_left
        · iexact H
        ipureintro
        rw [View.read_write_univ, hfs, back_fwd, h2])) $$ [Hs Hd HO HtS HtD]
  · isplitr; · iapply (inv_of X Wt K.1 (.send δ (slot s) χ) c); iexact HI
    isplitr; · iapply (inv_of X Wt K.1 (.recv δ (slot s) χ) (fwd δ c)); iexact HI
    isplitl [Hs]; · iexact Hs
    isplitl [Hd]; · iexact Hd
    isplitl [HO]; · iexact HO
    isplitl [HtS]; · iexact HtS
    isplitr; · iexact HrS
    isplitl [HtD]; · iexact HtD
    iexact HrD
  iintro ⟨Hc, HO⟩
  rw [wp_ret]; imodintro
  iapply Hk
  isplitl [Hc]; · iexact Hc
  iexists W; iexact HO

/-! ## The stocks -/

/-- Device `c` has put `k` slots into the stock of the device behind; it has taken `k` out of its own. -/
def putIn (δ : Fin 2) (c : Dev nD) (k : ℕ) : sProp 𝕄 := atPos EC (δ, back δ c, true) k ∅ 0
def takenOut (δ : Fin 2) (c : Dev nD) (k : ℕ) : sProp 𝕄 := atPos EC (δ, c, false) k ∅ 0

theorem lends_put (δ : Fin 2) (c : Dev nD) {q k : ℕ} (h : q ≤ k) :
    bigSep (Finset.Ico q (k + 1)) (lends (F := F) δ c) = iprop(lends δ c k ∗ bigSep (Finset.Ico q k) (lends δ c)) := by
  rw [show Finset.Ico q (k + 1) = insert k (Finset.Ico q k) from by ext; simp only [Finset.mem_Ico, Finset.mem_insert]; omega,
    bigSep_insert (by simp)]
  rfl
theorem lends_take (δ : Fin 2) (c : Dev nD) {q k : ℕ} (h : q < k) :
    bigSep (Finset.Ico q k) (lends (F := F) δ c) = iprop(lends δ c q ∗ bigSep (Finset.Ico (q + 1) k) (lends δ c)) := by
  rw [show Finset.Ico q k = insert q (Finset.Ico (q + 1) k) from by ext; simp only [Finset.mem_Ico, Finset.mem_insert]; omega,
    bigSep_insert (by simp)]
  rfl

theorem deposit (δ : Fin 2) (c : Dev nD) (k : ℕ) :
    iprop(know X Wt K ∗ putIn δ c k ∗ lends δ (back δ c) k)
      ⊢ |={Set.univ}=> (putIn δ c (k + 1) ∗ reached EC (δ, back δ c, true) (k + 1) : sProp 𝕄) := by
  unfold know putIn
  iintro ⟨⟨⟨-, #HJ⟩, -⟩, Hat, Hl⟩
  ihave Hi := (stock_of K.2 δ (back δ c)) $$ HJ
  imod (inv_acc (Set.mem_univ (K.2 (δ, back δ c)))) $$ Hi with ⟨Hb, Hclose⟩
  unfold stock
  icases Hb with ⟨%p, %q, Hp, Hq, %hqp, Hs⟩
  ihave %he := (roundAuth_atPos_agree EC) $$ [Hp Hat]
  · isplitl [Hp] <;> iassumption
  obtain ⟨rfl, -, -⟩ := he
  imod (roundAuth_atPos_move EC (k + 1) ∅ 0 (Nat.le_succ k)) $$ [Hp Hat] with ⟨Hp, Hat⟩
  · isplitl [Hp] <;> iassumption
  imod (roundAuth_witness EC) $$ Hp with ⟨Hp, Hr⟩
  ihave Hc := Hclose $$ [Hp Hq Hs Hl]
  · iexists k + 1; iexists q
    isplitl [Hp]; · iexact Hp
    isplitl [Hq]; · iexact Hq
    isplitr; · ipureintro; omega
    rw [lends_put δ (back δ c) hqp]
    isplitl [Hl] <;> iassumption
  imod Hc
  imodintro
  isplitl [Hat] <;> iassumption

theorem withdraw (δ : Fin 2) (c : Dev nD) (k j : ℕ) (hkj : k < j) :
    iprop(know X Wt K ∗ takenOut δ c k ∗ reached EC (δ, c, true) j)
      ⊢ |={Set.univ}=> (takenOut δ c (k + 1) ∗ lends δ c k : sProp 𝕄) := by
  unfold know takenOut
  iintro ⟨⟨⟨-, #HJ⟩, -⟩, Hat, Hr⟩
  ihave Hi := (stock_of K.2 δ c) $$ HJ
  imod (inv_acc (Set.mem_univ (K.2 (δ, c)))) $$ Hi with ⟨Hb, Hclose⟩
  unfold stock
  icases Hb with ⟨%p, %q, Hp, Hq, %hqp, Hs⟩
  ihave %he := (roundAuth_atPos_agree EC) $$ [Hq Hat]
  · isplitl [Hq] <;> iassumption
  obtain ⟨rfl, -, -⟩ := he
  icombine Hp Hr gives %hj
  imod (roundAuth_atPos_move EC (k + 1) ∅ 0 (Nat.le_succ k)) $$ [Hq Hat] with ⟨Hq, Hat⟩
  · isplitl [Hq] <;> iassumption
  ihave Hs := (Entails.of_eq (lends_take δ c (show k < p by omega))) $$ Hs
  icases Hs with ⟨Hl, Hs⟩
  ihave Hc := Hclose $$ [Hp Hq Hs]
  · iexists p; iexists k + 1
    isplitl [Hp]; · iexact Hp
    isplitl [Hq]; · iexact Hq
    isplitr; · ipureintro; omega
    iexact Hs
  imod Hc
  imodintro
  isplitl [Hat] <;> iassumption

end Cert.RingK
-- ==== Proof.Hop.lean ====
/-
One hop of the ring: take the chunk that came, add, put it into the other slot, wait for credit where it is asked,
and send on.
-/
module

public import proofs.«01_k».proof.Proof.Slots

@[expose] public section

noncomputable section

namespace Cert.RingK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S8192x256 .f32) (Wt : Dev nD → Vec F S256x4096 .f32) (K : Names)

theorem slot_two (s : ℕ) : slot (s + 2) = slot s := Fin.ext (Nat.add_mod_right s 2)
theorem half_two (s : ℕ) : (s + 2) / 2 = s / 2 + 1 := Nat.add_div_right s (by decide)
theorem step_slot (s : ℕ) : 2 * (s / 2) + (slot s).val = s := by show 2 * (s / 2) + s % 2 = s; omega

theorem card_send (δ χ : Fin 2) (s : ℕ) (hs : s < 31) : N = (dut (.send δ (slot s) χ) (s / 2)).card * amt (.send δ (slot s) χ) := by
  show N = (if 2 * (s / 2) + (slot s).val < 31 then ({0} : Finset ℕ) else ∅).card * N
  rw [step_slot, if_pos hs, Finset.card_singleton, Nat.one_mul]
theorem card_recv (δ χ : Fin 2) (s : ℕ) (hs : s < 31) : N = (dut (.recv δ (slot s) χ) (s / 2)).card * amt (.recv δ (slot s) χ) := by
  show N = (if 2 * (s / 2) + (slot s).val < 31 then ({0} : Finset ℕ) else ∅).card * N
  rw [step_slot, if_pos hs, Finset.card_singleton, Nat.one_mul]
theorem pay_send (δ χ : Fin 2) (s : ℕ) (hs : s < 31) (c : Dev nD) :
    bigSep (dut (.send δ (slot s) χ) (s / 2)) (fun d => pay X Wt c (.send δ (slot s) χ) (s / 2) d) = sndAny δ (slot s) χ c := by
  show bigSep (if 2 * (s / 2) + (slot s).val < 31 then ({0} : Finset ℕ) else ∅) (fun _ => sndAny δ (slot s) χ c) = _
  rw [step_slot, if_pos hs, bigSep_singleton]
theorem pay_recv (δ χ : Fin 2) (s : ℕ) (hs : s < 31) (c : Dev nD) :
    bigSep (dut (.recv δ (slot s) χ) (s / 2)) (fun d => pay X Wt c (.recv δ (slot s) χ) (s / 2) d)
      = rcvAt δ (slot s) χ c (acc X Wt δ χ s (back δ c)) := by
  show bigSep (if 2 * (s / 2) + (slot s).val < 31 then ({0} : Finset ℕ) else ∅)
    (fun _ => rcvAt δ (slot s) χ c (acc X Wt δ χ (2 * (s / 2) + (slot s).val) (back δ c))) = _
  rw [step_slot, if_pos hs, bigSep_singleton]

/-- A copy of step `s` under way on both sides: the device's own, and the one that comes to it. -/
def flight (δ χ : Fin 2) (s : ℕ) (c : Dev nD) : sProp 𝕄 :=
  iprop(at_ (.send δ (slot s) χ) c (s / 2) ∗ cred (tallyAt (cell (.send δ (slot s) χ) c) 0 N)
    ∗ at_ (.recv δ (slot s) χ) c (s / 2) ∗ cred (tallyAt (cell (.recv δ (slot s) χ) c) s N))

/-- The two slots, after the copy of step `s` has been taken: the semaphores a round on, the send slot free, the
    receive slot at what came. -/
def taken (δ χ : Fin 2) (s : ℕ) (c : Dev nD) : sProp 𝕄 :=
  iprop(at_ (.send δ (slot s) χ) c (s / 2 + 1) ∗ sndAny δ (slot s) χ c
    ∗ at_ (.recv δ (slot s) χ) c (s / 2 + 1) ∗ rcvAt δ (slot s) χ c (acc X Wt δ χ s (back δ c)))

theorem wp_take (δ χ : Fin 2) (s : ℕ) (hs : s < 31) (c : Dev nD) (O : Tl) (hO : Above (2 * s + 2) O)
    (Kt : Vec F S1x256x1024 .f32 → sProp 𝕄) :
    iprop(know X Wt K ∗ flight δ χ s c ∗ owe c O
        ∗ (∀ v : Vec F S1x256x1024 .f32, iprop(⌜shapeCast S256x1024 v shapeCasts_S1x256x1024_S256x1024 = acc X Wt δ χ s (back δ c)⌝
            ∗ taken X Wt δ χ s c ∗ owe c O) -∗ Kt v))
      ⊢ wpc c (take (F := F) (sndM δ) (rcvM δ) (sS δ) (rS δ) (slot s) χ) Kt := by
  unfold take flight
  iintro ⟨#HI, ⟨HaS, HcS, HaR, HcR⟩, HO, Hk⟩
  rw [wpc_bind]
  iapply (wp_waitRound X Wt K (.send δ (slot s) χ) c (s / 2) 0 (2 * s + 2) O
    (fun Q => (wpE_waitDma2_eq 𝒱₀ (c : Thread nD τ) none Set.univ Q).trans (by rw [N_snd]; rfl)) (card_send δ χ s hs) hO (by decide) (by rw [lv_send]; omega))
  isplitr; · iexact HI
  isplitl [HcS]; · iexact HcS
  isplitl [HO]; · iexact HO
  isplitl [HaS]; · iexact HaS
  iintro ⟨HO, HaS, Hp⟩
  ihave Hsnd := (Entails.of_eq (pay_send X Wt δ χ s hs c)) $$ Hp
  rw [wpc_bind]
  iapply (wp_waitRound X Wt K (.recv δ (slot s) χ) c (s / 2) s (2 * s + 2) O
    (fun Q => (wpE_waitDma2_eq 𝒱₀ (c : Thread nD τ) none Set.univ Q).trans (by rw [N_rcv]; rfl)) (card_recv δ χ s hs) hO (by omega) (by rw [lv_recv]))
  isplitr; · iexact HI
  isplitl [HcR]; · iexact HcR
  isplitl [HO]; · iexact HO
  isplitl [HaR]; · iexact HaR
  iintro ⟨HO, HaR, Hp⟩
  ihave Hrcv := (Entails.of_eq (pay_recv X Wt δ χ s hs c)) $$ Hp
  iapply (wp_loadPart (rcvM δ) (slot s) χ c _ (acc X Wt δ χ s (back δ c)))
  isplitl [Hrcv]; · iexact Hrcv
  iintro %v ⟨%hv, Hrcv⟩
  iapply Hk
  isplitr; · ipureintro; exact hv
  isplitr [HO]
  rotate_left
  · iexact HO
  unfold taken
  isplitl [HaS]; · iexact HaS
  isplitl [Hsnd]; · iexact Hsnd
  isplitl [HaR]; · iexact HaR
  iexact Hrcv

theorem wp_put (δ σ χ : Fin 2) (c : Dev nD) (v : FVec F S256x1024 .f32) (Kt : PUnit → sProp 𝕄) :
    iprop(sndAny δ σ χ c ∗ (sndAt δ σ χ c v -∗ Kt ⟨⟩)) ⊢ wpc c (put (F := F) (sndM δ) σ χ v) Kt := by
  unfold put sndAny
  iintro ⟨⟨%Y, Hs⟩, Hk⟩
  rw [wpc_bind]
  iapply (wp_loadPart (sndM δ) σ χ c _ Y)
  isplitl [Hs]; · iexact Hs
  iintro %u ⟨-, Hs⟩
  iapply (wp_storePart (sndM δ) σ χ c v)
  isplitl [Hs]; · iexists Y; iexact Hs
  iexact Hk

/-- What the device needs to send at steps `s, …`, `n` of them: the tokens of its copies, and the credit for the copies
    that come to it. -/
def ahead (δ χ : Fin 2) (c : Dev nD) : ℕ → ℕ → sProp 𝕄
  | 0, _ => iprop(emp)
  | n + 1, s => iprop((dutyTok ER (cell (.send δ (slot s) χ) c) (s / 2) 0 ∗ dutyTok ER (cell (.recv δ (slot s) χ) (fwd δ c)) (s / 2) 0
      ∗ cred (tallyAt (cell (.recv δ (slot s) χ) c) s N)) ∗ ahead δ χ c n (s + 1))

theorem ahead_succ (δ χ : Fin 2) (c : Dev nD) (n s : ℕ) :
    ahead (F := F) δ χ c (n + 1) s
      = iprop((dutyTok ER (cell (.send δ (slot s) χ) c) (s / 2) 0 ∗ dutyTok ER (cell (.recv δ (slot s) χ) (fwd δ c)) (s / 2) 0
        ∗ cred (tallyAt (cell (.recv δ (slot s) χ) c) s N)) ∗ ahead δ χ c n (s + 1)) := rfl

/-- The send slot `(slot s, χ)` is free, and so are its semaphores' rounds for step `s`. -/
def free (δ χ : Fin 2) (s : ℕ) (c : Dev nD) : sProp 𝕄 :=
  iprop(at_ (.send δ (slot s) χ) c (s / 2) ∗ sndAny δ (slot s) χ c ∗ at_ (.recv δ (slot s) χ) c (s / 2))

theorem free_eq (δ χ : Fin 2) (s : ℕ) (c : Dev nD) :
    free (F := F) δ χ s c
      = iprop((atPos ER (cell (.send δ (slot s) χ) c) (s / 2) ∅ 0 ∗ reached ER (cell (.send δ (slot s) χ) c) (s / 2))
        ∗ sndAny δ (slot s) χ c
        ∗ (atPos ER (cell (.recv δ (slot s) χ) c) (s / 2) ∅ 0 ∗ reached ER (cell (.recv δ (slot s) χ) c) (s / 2))) := rfl

/-- A slot taken at step `s` is free for step `s + 2`. -/
theorem taken_free (δ χ : Fin 2) (s : ℕ) (c : Dev nD) :
    taken X Wt δ χ s c ⊢ iprop(free δ χ (s + 2) c ∗ rcvAt δ (slot s) χ c (acc X Wt δ χ s (back δ c))) := by
  unfold taken free
  rw [slot_two, half_two]
  iintro ⟨H1, H2, H3, H4⟩
  isplitr [H4]
  rotate_left
  · iexact H4
  isplitl [H1]; · iexact H1
  isplitl [H2]; · iexact H2
  iexact H3

/-- Putting the sum of step `s` and sending it. -/
theorem wp_putShip (δ χ : Fin 2) (n s : ℕ) (hs : s < 31) (c : Dev nD) (O : Tl) (Kt : PUnit → sProp 𝕄) :
    iprop(know X Wt K ∗ free δ χ s c ∗ lend δ (slot s) χ (s / 2) c ∗ ahead δ χ c (n + 1) s ∗ owe c (O + owS δ χ s c)
        ∗ (iprop(flight δ χ s c ∗ ahead δ χ c n (s + 1) ∗ owe c O) -∗ Kt ⟨⟩))
      ⊢ wpc c (do put (sndM δ) (slot s) χ (acc X Wt δ χ s c); ship (sndM δ) (rcvM δ) (sS δ) (rS δ) (fwd δ c) (slot s) χ) Kt := by
  rw [ahead_succ]
  unfold free at_
  iintro ⟨#HI, ⟨⟨HaS, #HrS⟩, Hs, HaR⟩, Hl, ⟨⟨HtS, HtR, HcR⟩, Hn⟩, HO, Hk⟩
  rw [wpc_bind]
  iapply (wp_put δ (slot s) χ c (acc X Wt δ χ s c))
  isplitl [Hs]; · iexact Hs
  iintro Hs
  iapply (wp_ship X Wt K δ χ s hs c O)
  isplitr; · iexact HI
  isplitl [Hs]; · iexact Hs
  isplitl [Hl]; · iexact Hl
  isplitl [HO]; · iexact HO
  isplitl [HtS]; · iexact HtS
  isplitr; · iexact HrS
  isplitl [HtR]; · iexact HtR
  iintro ⟨HcS, HO⟩
  iapply Hk
  isplitr [Hn HO]
  · unfold flight at_
    isplitl [HaS]
    · isplitl [HaS]; · iexact HaS
      iexact HrS
    isplitl [HcS]; · iexact HcS
    isplitl [HaR]; · iexact HaR
    iexact HcR
  isplitl [Hn]; · iexact Hn
  iexact HO

/-- The hop's program without and with the wait for credit. -/
theorem hop_free (snd rcv : Memref sig .tc .vmem S2x256x2048 .f32) (sS rS : DmaSems sig S2x2) (cr : Sems sig S_) (d : Dev nD) (σ σ' χ : Fin 2)
    (p : FVec F S256x2048 .f32) :
    hop snd rcv sS rS cr d σ σ' χ false p
      = (take snd rcv sS rS σ χ >>= fun v => (do put snd σ' χ (addCols v p χ); ship snd rcv sS rS d σ' χ)) := rfl
theorem hop_paid (snd rcv : Memref sig .tc .vmem S2x256x2048 .f32) (sS rS : DmaSems sig S2x2) (cr : Sems sig S_) (d : Dev nD) (σ σ' χ : Fin 2)
    (p : FVec F S256x2048 .f32) :
    hop snd rcv sS rS cr d σ σ' χ true p
      = (take snd rcv sS rS σ χ >>= fun v => (do put snd σ' χ (addCols v p χ); semWaitWord cr.sem 1#32; ship snd rcv sS rS d σ' χ)) := rfl

/-- A hop without a wait for credit: the slot ahead is there. -/
theorem wp_hop (cr : Sems sig S_) (δ χ : Fin 2) (n s : ℕ) (hs : s + 1 < 31) (c : Dev nD) (O : Tl) (hO : Above (2 * s + 3) O) (Kt : PUnit → sProp 𝕄) :
    iprop(know X Wt K ∗ flight δ χ s c ∗ free δ χ (s + 1) c ∗ lend δ (slot (s + 1)) χ ((s + 1) / 2) c ∗ ahead δ χ c (n + 1) (s + 1)
        ∗ owe c (O + owS δ χ (s + 1) c)
        ∗ (iprop(flight δ χ (s + 1) c ∗ free δ χ (s + 2) c ∗ rcvAny δ (slot s) χ c ∗ ahead δ χ c n (s + 2) ∗ owe c O) -∗ Kt ⟨⟩))
      ⊢ wpc c (hop (sndM δ) (rcvM δ) (sS δ) (rS δ) cr (fwd δ c) (slot s) (slot (s + 1)) χ false (mine X Wt δ (s + 1) c)) Kt := by
  rw [hop_free]
  iintro ⟨#HI, Hf, Hfr, Hl, Ha, HO, Hk⟩
  rw [wpc_bind]
  iapply (wp_take X Wt K δ χ s (by omega) c (O + owS δ χ (s + 1) c)
    (above_add (hO.mono (by omega)) (above_owS δ χ c (by omega) (by omega))))
  isplitr; · iexact HI
  isplitl [Hf]; · iexact Hf
  isplitl [HO]; · iexact HO
  iintro %v ⟨%hv, Ht, HO⟩
  ihave Ht := (taken_free X Wt δ χ s c) $$ Ht
  icases Ht with ⟨Hfr2, Hrcv⟩
  rw [show addCols v (mine X Wt δ (s + 1) c) χ = acc X Wt δ χ (s + 1) c from congrArg (fun u => addf u (cols (mine X Wt δ (s + 1) c) χ)) hv]
  iapply (wp_putShip X Wt K δ χ n (s + 1) (by omega) c O)
  isplitr; · iexact HI
  isplitl [Hfr]; · iexact Hfr
  isplitl [Hl]; · iexact Hl
  isplitl [Ha]; · iexact Ha
  isplitl [HO]; · iexact HO
  iintro ⟨Hf, Ha, HO⟩
  iapply Hk
  isplitl [Hf]; · iexact Hf
  isplitl [Hfr2]; · iexact Hfr2
  isplitl [Hrcv]; · unfold rcvAny; iexists _; iexact Hrcv
  isplitl [Ha]; · iexact Ha
  iexact HO

/-- A device's place on its credit semaphore: `t` units and `t` slots were taken, and what came with the units. -/
def had (δ : Fin 2) (c : Dev nD) (t : ℕ) : sProp 𝕄 :=
  iprop(takenOut δ c t ∗ ∃ T : Finset ℕ, ⌜T ⊆ Finset.range 29 ∧ t ≤ T.card⌝ ∗ atPos ER (cell (.cred δ) c) 0 T t
    ∗ bigSep T (fun k => reached EC (δ, c, true) (k + 1)))

theorem had_join (δ : Fin 2) (c : Dev nD) {S T : Finset ℕ} (h : T ⊆ S) :
    iprop(bigSep T (fun k => reached EC (δ, c, true) (k + 1)) ∗ bigSep (S \ T) (fun k => reached EC (δ, c, true) (k + 1)))
      ⊢ (bigSep S (fun k => reached EC (δ, c, true) (k + 1)) : sProp 𝕄) := by
  conv => rhs; rw [← Finset.union_sdiff_of_subset h]
  exact Entails.of_eq (bigSep_union Finset.disjoint_sdiff).symm

/-- Waiting for the credit of step `s + 2`: the slot ahead comes, both halves. -/
theorem wp_credit (δ : Fin 2) (s : ℕ) (hs : s < 29) (c : Dev nD) (O : Tl) (hO : Above (2 * (s + 1) + 3) O) (Kt : PUnit → sProp 𝕄) :
    iprop(know X Wt K ∗ had δ c s ∗ cred (tallyAt (cell (.cred δ) c) (s + 1) 1) ∗ owe c O
        ∗ (iprop(had δ c (s + 1) ∗ lend δ (slot s) 0 (s / 2 + 1) c ∗ lend δ (slot s) 1 (s / 2 + 1) c ∗ owe c O) -∗ Kt ⟨⟩))
      ⊢ wpc c (semWaitWord (crS δ).sem 1#32) Kt := by
  unfold had
  iintro ⟨#HI, ⟨Hout, %T, %hT, Hat, HT⟩, Hc, HO, Hk⟩
  unfold owe
  icases HO with ⟨%W, HO⟩
  iapply (Rounds.wp_wait (defs := defs₀ (F := F)) 𝒱₀ ER (rd X Wt) (c : Thread nD τ) none (κ := K.1 (cell (.cred δ) c))
    (w := .semWait (crS δ).sem 1) (k' := 1) (sm := semOf (.cred δ)) (cr := Finsupp.single (s + 1) 1) (O := O) (W := W) (R := 0) (m := s) (T := T)
    (fun Q => wpE_semWait_eq 𝒱₀ (c : Thread nD τ) none Set.univ Q) (Set.mem_univ _) {(semOf (.cred δ), s + 1)}
    (Util.total_single _ _) (image_single_subset (semOf (.cred δ)) (s + 1) 1)) $$ [Hc HO Hat]
  · unfold know
    icases HI with ⟨⟨#HI, -⟩, #Hlev⟩
    isplitr; · iapply (inv_of X Wt K.1 (.cred δ) c); iexact HI
    isplitl [Hc]; · iexact Hc
    isplitl [HO]; · iexact HO
    isplitr; · iapply (mayWait hO c (semOf (.cred δ)) (s + 1) (by omega) (by rw [lv_cred])); iexact Hlev
    iexact Hat
  iintro %S ⟨%hS, HO, Hat, Hp⟩
  rw [show (rd X Wt).duties ((c : Thread nD τ), semOf (.cred δ)) 0 = Finset.range 29 from duties_eq X Wt (.cred δ) c 0,
    show (rd X Wt).expect ((c : Thread nD τ), semOf (.cred δ)) 0 = 29 from by
      rw [expect_eq X Wt (.cred δ) c 0]; rfl] at hS
  obtain ⟨hTS, hS29, hm⟩ := hS
  have hcard : s + 1 ≤ S.card := by
    rw [Finset.card_sdiff_of_subset hS29, Finset.card_range] at hm
    have := Finset.card_le_card hS29
    rw [Finset.card_range] at this
    omega
  obtain ⟨k, hkS, hk⟩ : ∃ k ∈ S, s ≤ k := by
    by_contra h
    have hsub : S ⊆ Finset.range s := fun k hk => by
      rw [Finset.mem_range]; by_contra h2; exact h ⟨k, hk, by omega⟩
    have := Finset.card_le_card hsub
    rw [Finset.card_range] at this
    omega
  ihave Hp := (show (bigSep (S \ T) (fun d => (rd X Wt).payload ((c : Thread nD τ), semOf (.cred δ)) 0 d) : sProp 𝕄)
      ⊢ bigSep (S \ T) (fun k => reached EC (δ, c, true) (k + 1)) from
    bigSep_mono fun d _ => Entails.of_eq (payload_eq X Wt (.cred δ) c 0 d)) $$ Hp
  ihave #HS := (had_join δ c hTS) $$ [HT Hp]
  · isplitl [HT]; · iexact HT
    iexact Hp
  ihave #Hr := (show (bigSep S (fun k => reached EC (δ, c, true) (k + 1)) : sProp 𝕄) ⊢ reached EC (δ, c, true) (k + 1) from
    BI.bigSep_elim (Φ := fun k => reached EC (δ, c, true) (k + 1)) hkS) $$ HS
  rw [wp_ret]
  imod (withdraw X Wt K δ c s (k + 1) (by omega)) $$ [Hout] with ⟨Hout, Hl⟩
  · isplitr; · iexact HI
    isplitl [Hout]; · iexact Hout
    iexact Hr
  imodintro
  unfold lends
  icases Hl with ⟨Hl0, Hl1⟩
  iapply Hk
  isplitl [Hout Hat]
  · isplitl [Hout]; · iexact Hout
    iexists S
    isplitr; · ipureintro; exact ⟨hS29, hcard⟩
    isplitl [Hat]; · iexact Hat
    iexact HS
  isplitl [Hl0]; · iexact Hl0
  isplitl [Hl1]; · iexact Hl1
  iexists _; iexact HO

/-- A hop that waits for credit first: the slot ahead comes with it, the other half's too. -/
theorem wp_hopPaid (δ : Fin 2) (n t : ℕ) (ht : t < 29) (c : Dev nD) (O : Tl) (hO : Above (2 * (t + 1) + 3) O) (Kt : PUnit → sProp 𝕄) :
    iprop(know X Wt K ∗ flight δ 0 (t + 1) c ∗ free δ 0 (t + 2) c ∗ had δ c t ∗ cred (tallyAt (cell (.cred δ) c) (t + 1) 1)
        ∗ ahead δ 0 c (n + 1) (t + 2) ∗ owe c (O + owS δ 0 (t + 2) c)
        ∗ (iprop(flight δ 0 (t + 2) c ∗ free δ 0 (t + 3) c ∗ rcvAny δ (slot (t + 1)) 0 c ∗ ahead δ 0 c n (t + 3)
            ∗ had δ c (t + 1) ∗ lend δ (slot (t + 2)) 1 ((t + 2) / 2) c ∗ owe c O) -∗ Kt ⟨⟩))
      ⊢ wpc c (hop (sndM δ) (rcvM δ) (sS δ) (rS δ) (crS δ) (fwd δ c) (slot (t + 1)) (slot (t + 2)) 0 true (mine X Wt δ (t + 2) c)) Kt := by
  rw [hop_paid, ahead_succ]
  iintro ⟨#HI, Hf, Hfr, Hac, Hcc, Ha, HO, Hk⟩
  rw [wpc_bind]
  iapply (wp_take X Wt K δ 0 (t + 1) (by omega) c (O + owS δ 0 (t + 2) c)
    (above_add (hO.mono (by omega)) (above_owS δ 0 c (by omega) (by omega))))
  isplitr; · iexact HI
  isplitl [Hf]; · iexact Hf
  isplitl [HO]; · iexact HO
  iintro %v ⟨%hv, Ht, HO⟩
  ihave Ht := (taken_free X Wt δ 0 (t + 1) c) $$ Ht
  icases Ht with ⟨Hfr2, Hrcv⟩
  rw [show addCols v (mine X Wt δ (t + 2) c) 0 = acc X Wt δ 0 (t + 2) c from congrArg (fun u => addf u (cols (mine X Wt δ (t + 2) c) 0)) hv]
  rw [wpc_bind]
  ihave Hfr := (Entails.of_eq (free_eq δ 0 (t + 2) c)) $$ Hfr
  icases Hfr with ⟨⟨HaS, #HrS⟩, Hs, HaR⟩
  icases Ha with ⟨⟨HtS, HtR, HcR⟩, Hn⟩
  iapply (wp_put δ (slot (t + 2)) 0 c (acc X Wt δ 0 (t + 2) c))
  isplitl [Hs]; · iexact Hs
  iintro Hs
  rw [wpc_bind]
  iapply (wp_credit X Wt K δ t ht c (O + owS δ 0 (t + 2) c) (above_add hO (above_owS δ 0 c (by omega) (by omega))))
  isplitr; · iexact HI
  isplitl [Hac]; · iexact Hac
  isplitl [Hcc]; · iexact Hcc
  isplitl [HO]; · iexact HO
  iintro ⟨Hac, Hl0, Hl1, HO⟩
  rw [← half_two, ← slot_two t]
  iapply (wp_ship X Wt K δ 0 (t + 2) (by omega) c O)
  isplitr; · iexact HI
  isplitl [Hs]; · iexact Hs
  isplitl [Hl0]; · iexact Hl0
  isplitl [HO]; · iexact HO
  isplitl [HtS]; · iexact HtS
  isplitr; · iexact HrS
  isplitl [HtR]; · iexact HtR
  iintro ⟨HcS, HO⟩
  iapply Hk
  isplitl [HaS HcS HaR HcR]
  · unfold flight at_
    isplitl [HaS]
    · isplitl [HaS]; · iexact HaS
      iexact HrS
    isplitl [HcS]; · iexact HcS
    isplitl [HaR]; · iexact HaR
    iexact HcR
  isplitl [Hfr2]; · iexact Hfr2
  isplitl [Hrcv]; · unfold rcvAny; iexists _; iexact Hrcv
  isplitl [Hn]; · iexact Hn
  isplitl [Hac]; · iexact Hac
  isplitl [Hl1]; · iexact Hl1
  iexact HO

end Cert.RingK
-- ==== Proof.Prod.lean ====
/-
Reading the table and the two inputs: the products of one step.
-/
module

public import proofs.«01_k».proof.Proof.Slots

@[expose] public section

noncomputable section

namespace Cert.RingK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A load of a rectangle from a staged array. -/
theorem wp_loadOwned (c : Dev nD) {s : Shape} {e : EltTy} (m : Memref sig .tc .vmem s e) (r : Rect s) (hl) (Y : Vec F s e)
    (Kt : (r.shape.Idx → Elt F e) → sProp 𝕄) :
    iprop(owns (c : Thread nD τ) m fullShare Y ∗ (owns (c : Thread nD τ) m fullShare Y -∗ Kt (fun i => Y (r.emb i))))
      ⊢ wpc c (Prog.lift (.load m r.toLoadRect hl)) Kt := by
  unfold owns
  iintro ⟨⟨%f, %hf, H⟩, Hk⟩
  iapply (wp_load_rect (defs := defs₀ (F := F)) 𝒱₀ (c : Thread nD τ) none Set.univ (m := m) (r := r) (S := m.view.set) (View.set_slice_subset _ r)) $$ H
  iintro H
  rw [wp_ret]; imodintro
  rw [show (m.access r).read (Elt F) f = fun i => Y (r.emb i) from by rw [← hf]; rfl]
  iapply Hk
  iexists f
  isplitr; · ipureintro; exact hf
  iexact H

/-- An assumption that holds. -/
theorem wp_assumed (c : Dev nD) {P : Prop} (d : Decidable P) (h : P) (Kt : PLift P → sProp 𝕄) :
    Kt ⟨h⟩ ⊢ wpc c (Prog.lift (TpuEff.assume P d)) Kt := by
  iintro H
  iapply (wp_assume (defs := defs₀ (F := F)) 𝒱₀ (c : Thread nD τ) none Set.univ h)
  rw [wp_ret]; imodintro
  iexact H

variable (a0 : Memref sig .tc .smem S66 .i32) (x : Memref sig .tc .vmem S8192x256 .f32)
  (w : Memref sig .tc .vmem S256x4096 .f32)

/-- Reading word `k` of the table. -/
theorem wp_word (c : Dev nD) (k : ℕ) (h : k < 66) (Kt : Elt F .i32 → sProp 𝕄) :
    iprop(owns (c : Thread nD τ) a0 fullShare (tab (F := F) c) ∗ (owns (c : Thread nD τ) a0 fullShare (tab (F := F) c) -∗ Kt (tabW c k)))
      ⊢ wpc c (word a0 k h) Kt := by
  unfold owns word smemLoad
  iintro ⟨⟨%f, %hf, H⟩, Hk⟩
  iapply (wp_smemLoadElt (defs := defs₀ (F := F)) 𝒱₀ (c : Thread nD τ) none Set.univ (m := a0)
    (r := Rect.unit (s := S66) ![k] S1.size (word_inb k h)) (S := a0.view.set) (View.set_slice_subset _ _)) $$ H
  iintro H
  rw [wp_ret]; imodintro
  have e : ∀ i : S1.Idx, (a0.access (Rect.unit (s := S66) ![k] S1.size (word_inb k h))).read (Elt F) f i = tabW c k := fun i => by
    have h1 : (a0.access (Rect.unit (s := S66) ![k] S1.size (word_inb k h))).read (Elt F) f i
        = a0.view.read (Elt F) f ((Rect.unit (s := S66) ![k] S1.size (word_inb k h)).emb i) := rfl
    rw [h1, hf]
    show tabW c (k + 1 * (i 0).val) = tabW c k
    have h0 : (i 0).val < 1 := (i 0).isLt
    rw [show (i 0).val = 0 by omega, Nat.mul_zero, Nat.add_zero]
  rw [e]
  iapply Hk
  iexists f
  isplitr; · ipureintro; exact hf
  iexact H

variable (X : Dev nD → Vec F S8192x256 .f32) (Wt : Dev nD → Vec F S256x4096 .f32)

/-- The table and the two inputs. -/
def inp (c : Dev nD) : sProp 𝕄 :=
  iprop(owns (c : Thread nD τ) a0 fullShare (tab (F := F) c) ∗ owns (c : Thread nD τ) x fullShare (X c) ∗ owns (c : Thread nD τ) w fullShare (Wt c))

/-- The product of step `s`, direction `δ`. -/
theorem wp_prod (δ : Fin 2) (s k : ℕ) (h : k < 66) (c : Dev nD) (hk : tabW c k = dw (blk δ s c)) (Kt : FVec F S256x2048 .f32 → sProp 𝕄) :
    iprop(inp a0 x w X Wt c ∗ (inp a0 x w X Wt c -∗ Kt (mine X Wt δ s c))) ⊢ wpc c (prod a0 x w δ k h) Kt := by
  unfold inp prod
  iintro ⟨⟨Ha, Hx, Hw⟩, Hk⟩
  rw [wpc_bind]
  iapply (wp_word a0 c k h)
  isplitl [Ha]; · iexact Ha
  iintro Ha
  rw [hk, wpc_bind]
  iapply (wp_assumed c _ (dw_chk3 (blk δ s c)))
  rw [wpc_bind]
  iapply (wp_loadOwned c x)
  isplitl [Hx]; · iexact Hx
  iintro Hx
  rw [wpc_bind]
  iapply (wp_loadOwned c w)
  isplitl [Hw]; · iexact Hw
  iintro Hw
  iapply (show Kt (mine X Wt δ s c) ⊢ wpc c (pure (mine X Wt δ s c)) Kt from by
    iintro H
    iapply (Entails.of_eq (wp_ret _ _ _ (mine X Wt δ s c) Kt).symm)
    imodintro; iexact H)
  iapply Hk
  isplitl [Ha]; · iexact Ha
  isplitl [Hx]; · iexact Hx
  iexact Hw

end Cert.RingK
-- ==== Proof.Step.lean ====
/-
One step of the ring, in both directions and both halves: what a device holds between two steps, and that a step
takes it from one to the next.
-/
module

public import proofs.«01_k».proof.Proof.Hop
public import proofs.«01_k».proof.Proof.Prod

@[expose] public section

noncomputable section

namespace Cert.RingK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S8192x256 .f32) (Wt : Dev nD → Vec F S256x4096 .f32) (K : Names)

/-! ## Credit -/

/-- The credits to be had: of rounds `t, …`, `n` of them. -/
def gets (δ : Fin 2) (c : Dev nD) : ℕ → ℕ → sProp 𝕄
  | 0, _ => iprop(emp)
  | n + 1, t => iprop(cred (tallyAt (cell (.cred δ) c) (t + 1) 1) ∗ gets δ c n (t + 1))
/-- The credits to be given: from round `s` on, `n` steps (the last step gives none). -/
def toks (δ : Fin 2) (c : Dev nD) : ℕ → ℕ → sProp 𝕄
  | 0, _ => iprop(emp)
  | n + 1, s => iprop((if s < 29 then dutyTok ER (cell (.cred δ) (back δ c)) 0 s else iprop(emp)) ∗ toks δ c n (s + 1))
/-- The giver's place: `s` slots were put into the stock of the device behind. -/
def giver (δ : Fin 2) (c : Dev nD) (n s : ℕ) : sProp 𝕄 :=
  iprop((∃ k, ⌜s < 30 → k = s⌝ ∗ putIn δ c k) ∗ reached ER (cell (.cred δ) (back δ c)) 0 ∗ toks δ c n s)

/-- What the copies of steps `s + 1, …`, `n` of them, are allowed by: at first what the barrier brought, then the credits. -/
def fund (δ : Fin 2) (c : Dev nD) (n : ℕ) : ℕ → sProp 𝕄
  | 0 => iprop((lend δ (slot 1) 0 0 c ∗ lend δ (slot 1) 1 0 c) ∗ had δ c 0 ∗ gets δ c (n - 1) 0)
  | t + 1 => iprop(had δ c t ∗ gets δ c n t)

theorem fund_zero (δ : Fin 2) (c : Dev nD) (n : ℕ) :
    fund (F := F) δ c (n + 1) 0 = iprop((lend δ (slot 1) 0 0 c ∗ lend δ (slot 1) 1 0 c) ∗ had δ c 0 ∗ gets δ c n 0) := rfl
theorem fund_succ (δ : Fin 2) (c : Dev nD) (n t : ℕ) : fund (F := F) δ c n (t + 1) = iprop(had δ c t ∗ gets δ c n t) := rfl
theorem gets_succ (δ : Fin 2) (c : Dev nD) (n t : ℕ) :
    gets (F := F) δ c (n + 1) t = iprop(cred (tallyAt (cell (.cred δ) c) (t + 1) 1) ∗ gets δ c n (t + 1)) := rfl
theorem toks_give (δ : Fin 2) (c : Dev nD) (n s : ℕ) (hs : s < 29) :
    toks (F := F) δ c (n + 1) s = iprop(dutyTok ER (cell (.cred δ) (back δ c)) 0 s ∗ toks δ c n (s + 1)) := by
  show iprop((if s < 29 then dutyTok ER (cell (.cred δ) (back δ c)) 0 s else iprop(emp)) ∗ toks δ c n (s + 1)) = _
  rw [if_pos hs]

/-! ## A half -/

/-- One half of one direction, the step-`s` copies under way and `n` more to come. -/
def half (δ χ : Fin 2) (n s : ℕ) (c : Dev nD) : sProp 𝕄 :=
  iprop(flight δ χ s c ∗ free δ χ (s + 1) c ∗ ahead δ χ c n (s + 1))

/-- The hop of the first half, which waits for credit from step 2 on. -/
theorem wp_hop0 (δ : Fin 2) (n s : ℕ) (hs : s + 1 < 31) (c : Dev nD) (O : Tl) (hO : Above (2 * s + 3) O) (Kt : PUnit → sProp 𝕄) :
    iprop(know X Wt K ∗ half δ 0 (n + 1) s c ∗ fund δ c (n + 1) s ∗ owe c (O + owS δ 0 (s + 1) c)
        ∗ (iprop(half δ 0 n (s + 1) c ∗ fund δ c n (s + 1) ∗ rcvAny δ (slot s) 0 c ∗ lend δ (slot (s + 1)) 1 ((s + 1) / 2) c ∗ owe c O) -∗ Kt ⟨⟩))
      ⊢ wpc c (hop (sndM δ) (rcvM δ) (sS δ) (rS δ) (crS δ) (fwd δ c) (slot s) (slot (s + 1)) 0 (decide (2 ≤ s + 1)) (mine X Wt δ (s + 1) c)) Kt := by
  cases s with
  | zero =>
    rw [fund_zero, fund_succ, show decide (2 ≤ 0 + 1) = false from rfl]
    unfold half
    iintro ⟨#HI, ⟨Hf, Hfr, Ha⟩, ⟨⟨Hl0, Hl1⟩, Hac, Hg⟩, HO, Hk⟩
    iapply (wp_hop X Wt K (crS δ) δ 0 n 0 hs c O hO)
    isplitr; · iexact HI
    isplitl [Hf]; · iexact Hf
    isplitl [Hfr]; · iexact Hfr
    isplitl [Hl0]; · iexact Hl0
    isplitl [Ha]; · iexact Ha
    isplitl [HO]; · iexact HO
    iintro ⟨Hf, Hfr, Hr, Ha, HO⟩
    iapply Hk
    isplitl [Hf Hfr Ha]
    · isplitl [Hf]; · iexact Hf
      isplitl [Hfr]; · iexact Hfr
      iexact Ha
    isplitl [Hac Hg]
    · isplitl [Hac]; · iexact Hac
      iexact Hg
    isplitl [Hr]; · iexact Hr
    isplitl [Hl1]; · iexact Hl1
    iexact HO
  | succ t =>
    rw [fund_succ, fund_succ, gets_succ, show decide (2 ≤ t + 1 + 1) = true from decide_eq_true (by omega)]
    unfold half
    iintro ⟨#HI, ⟨Hf, Hfr, Ha⟩, ⟨Hac, Hc, Hg⟩, HO, Hk⟩
    iapply (wp_hopPaid X Wt K δ n t (by omega) c O hO)
    isplitr; · iexact HI
    isplitl [Hf]; · iexact Hf
    isplitl [Hfr]; · iexact Hfr
    isplitl [Hac]; · iexact Hac
    isplitl [Hc]; · iexact Hc
    isplitl [Ha]; · iexact Ha
    isplitl [HO]; · iexact HO
    iintro ⟨Hf, Hfr, Hr, Ha, Hac, Hl1, HO⟩
    iapply Hk
    isplitl [Hf Hfr Ha]
    · isplitl [Hf]; · iexact Hf
      isplitl [Hfr]; · iexact Hfr
      iexact Ha
    isplitl [Hac Hg]
    · isplitl [Hac]; · iexact Hac
      iexact Hg
    isplitl [Hr]; · iexact Hr
    isplitl [Hl1]; · iexact Hl1
    iexact HO

/-- The hop of the second half. -/
theorem wp_hop1 (δ : Fin 2) (n s : ℕ) (hs : s + 1 < 31) (c : Dev nD) (O : Tl) (hO : Above (2 * s + 3) O) (Kt : PUnit → sProp 𝕄) :
    iprop(know X Wt K ∗ half δ 1 (n + 1) s c ∗ lend δ (slot (s + 1)) 1 ((s + 1) / 2) c ∗ owe c (O + owS δ 1 (s + 1) c)
        ∗ (iprop(half δ 1 n (s + 1) c ∗ rcvAny δ (slot s) 1 c ∗ owe c O) -∗ Kt ⟨⟩))
      ⊢ wpc c (hop (sndM δ) (rcvM δ) (sS δ) (rS δ) (crS δ) (fwd δ c) (slot s) (slot (s + 1)) 1 false (mine X Wt δ (s + 1) c)) Kt := by
  unfold half
  iintro ⟨#HI, ⟨Hf, Hfr, Ha⟩, Hl1, HO, Hk⟩
  iapply (wp_hop X Wt K (crS δ) δ 1 n s hs c O hO)
  isplitr; · iexact HI
  isplitl [Hf]; · iexact Hf
  isplitl [Hfr]; · iexact Hfr
  isplitl [Hl1]; · iexact Hl1
  isplitl [Ha]; · iexact Ha
  isplitl [HO]; · iexact HO
  iintro ⟨Hf, Hfr, Hr, Ha, HO⟩
  iapply Hk
  isplitl [Hf Hfr Ha]
  · isplitl [Hf]; · iexact Hf
    isplitl [Hfr]; · iexact Hfr
    iexact Ha
  isplitl [Hr]; · iexact Hr
  iexact HO

/-! ## Giving back -/

/-- That a slot's receive semaphore stands at its next round. -/
theorem half_reached (δ χ : Fin 2) (n s : ℕ) (c : Dev nD) :
    half δ χ n (s + 1) c ⊢ iprop(half (F := F) δ χ n (s + 1) c ∗ reached ER (cell (.recv δ (slot s) χ) c) (s / 2 + 1)) := by
  unfold half
  rw [free_eq, show s + 1 + 1 = s + 2 from rfl, slot_two, half_two]
  iintro ⟨Hf, ⟨HS, Hs, HR, #Hr⟩, Ha⟩
  isplitl [Hf HS Hs HR Ha]
  · isplitl [Hf]; · iexact Hf
    isplitl [HS Hs HR]
    · isplitl [HS]; · iexact HS
      isplitl [Hs]; · iexact Hs
      isplitl [HR]; · iexact HR
      iexact Hr
    iexact Ha
  iexact Hr

/-- What is held of a slot just read: both halves, and that the copies into it were waited for. -/
def read (δ : Fin 2) (s : ℕ) (c : Dev nD) : sProp 𝕄 :=
  iprop((rcvAny δ (slot s) 0 c ∗ reached ER (cell (.recv δ (slot s) 0) c) (s / 2 + 1))
    ∗ (rcvAny δ (slot s) 1 c ∗ reached ER (cell (.recv δ (slot s) 1) c) (s / 2 + 1)))

/-- So it is lent to the device behind. -/
theorem lend_back (δ : Fin 2) (s : ℕ) (c : Dev nD) : read (F := F) δ s c ⊢ lends δ (back δ c) s := by
  unfold read lends lend
  rw [fwd_back]

theorem pay_cred (δ : Fin 2) (c : Dev nD) (k : ℕ) : pay X Wt c (.cred δ) 0 k = reached EC (δ, c, true) (k + 1) := rfl

/-- The credit of step `s + 1` goes to the device behind. -/
theorem wp_giveOne (δ : Fin 2) (n s : ℕ) (hs : s < 29) (c : Dev nD) (O : Tl) (Kt : PUnit → sProp 𝕄) :
    iprop(know X Wt K ∗ owe c (O + owC δ (s + 1) c) ∗ giver δ c (n + 1) s ∗ read δ s c
        ∗ (iprop(owe c O ∗ giver δ c n (s + 1)) -∗ Kt ⟨⟩))
      ⊢ wpc c (semSignalWord (back δ c) (crS δ).sem 1#32) Kt := by
  unfold giver
  rw [toks_give δ c n s hs]
  iintro ⟨#HI, HO, ⟨⟨%k, %hk, Hin⟩, #Hr, Ht, Hts⟩, Hp, Hk⟩
  obtain rfl : k = s := hk (by omega)
  ihave Hl := (lend_back δ k c) $$ Hp
  iapply (Entails.of_eq (fupd_wp_eq frame (wpE (defs₀ (F := F)) 𝒱₀ (c : Thread nD τ) none) Set.univ (semSignalWord (back δ c) (crS δ).sem 1#32) Kt))
  imod (deposit X Wt K δ c k) $$ [Hin Hl] with ⟨Hin, Hd⟩
  · isplitr; · iexact HI
    isplitl [Hin] <;> iassumption
  imodintro
  iapply (wp_signalDuty X Wt K (crS δ).sem (.cred δ) rfl c (back δ c) 0 (k + 1) k O (Finset.mem_range.mpr hs) rfl)
  isplitr; · iexact HI
  isplitl [HO]; · iexact HO
  isplitl [Ht]; · iexact Ht
  isplitl [Hd]; · iapply (Entails.of_eq (pay_cred X Wt δ (back δ c) k).symm); iexact Hd
  isplitr; · iexact Hr
  iintro HO
  iapply Hk
  isplitl [HO]; · iexact HO
  isplitl [Hin]
  · iexists k + 1
    isplitr; · ipureintro; intro _; rfl
    iexact Hin
  isplitr; · iexact Hr
  iexact Hts

theorem giveBack_yes (cf cr : Sems sig S_) (dn dp : Dev nD) :
    (giveBack cf cr dn dp true : PG F PUnit) = (do semSignalWord dp cf.sem 1#32; semSignalWord dn cr.sem 1#32) := rfl

theorem giveBack_no (cf cr : Sems sig S_) (dn dp : Dev nD) : (giveBack cf cr dn dp false : PG F PUnit) = pure ⟨⟩ := rfl
theorem toks_skip (δ : Fin 2) (c : Dev nD) (n s : ℕ) : toks (F := F) δ c (n + 1) s ⊢ toks δ c n (s + 1) := by
  show iprop((if s < 29 then dutyTok ER (cell (.cred δ) (back δ c)) 0 s else iprop(emp)) ∗ toks δ c n (s + 1)) ⊢ _
  exact Laws.sep_elim_right
theorem giver_skip (δ : Fin 2) (c : Dev nD) (n : ℕ) : giver (F := F) δ c (n + 1) 29 ⊢ giver δ c n 30 := by
  unfold giver
  iintro ⟨⟨%k, %hk, Hin⟩, Hr, Ht⟩
  isplitl [Hin]
  · iexists k
    isplitr; · ipureintro; intro h; omega
    iexact Hin
  isplitl [Hr]; · iexact Hr
  iapply (toks_skip δ c n 29); iexact Ht

/-- What stays of the last slot read, which nobody asks for again. -/
def kept (s : ℕ) (c : Dev nD) : sProp 𝕄 := if s < 30 then iprop(emp) else iprop(read 0 29 c ∗ read 1 29 c)

/-- Giving back after step `s + 1`. -/
theorem wp_giveBack (n s : ℕ) (hs : s < 30) (c : Dev nD) (O : Tl) (Kt : PUnit → sProp 𝕄) :
    iprop(know X Wt K ∗ owe c (O + owG (s + 1) c) ∗ giver 0 c (n + 1) s ∗ giver 1 c (n + 1) s ∗ read 0 s c ∗ read 1 s c
        ∗ (iprop(owe c O ∗ giver 0 c n (s + 1) ∗ giver 1 c n (s + 1) ∗ kept (s + 1) c) -∗ Kt ⟨⟩))
      ⊢ wpc c (giveBack (crS 0) (crS 1) (back 1 c) (back 0 c) (decide (s + 1 ≤ 29))) Kt := by
  by_cases h : s < 29
  · rw [show decide (s + 1 ≤ 29) = true from decide_eq_true (by omega), giveBack_yes,
      show owG (s + 1) c = owC 1 (s + 1) c + owC 0 (s + 1) c from if_pos ⟨by omega, by omega⟩, ← add_assoc, wpc_bind]
    iintro ⟨#HI, HO, Hg0, Hg1, Hr0, Hr1, Hk⟩
    iapply (wp_giveOne X Wt K 0 n s h c (O + owC 1 (s + 1) c))
    isplitr; · iexact HI
    isplitl [HO]; · iexact HO
    isplitl [Hg0]; · iexact Hg0
    isplitl [Hr0]; · iexact Hr0
    iintro ⟨HO, Hg0⟩
    iapply (wp_giveOne X Wt K 1 n s h c O)
    isplitr; · iexact HI
    isplitl [HO]; · iexact HO
    isplitl [Hg1]; · iexact Hg1
    isplitl [Hr1]; · iexact Hr1
    iintro ⟨HO, Hg1⟩
    iapply Hk
    isplitl [HO]; · iexact HO
    isplitl [Hg0]; · iexact Hg0
    isplitl [Hg1]; · iexact Hg1
    iapply (Entails.of_eq (show iprop(emp) = kept (F := F) (s + 1) c from (if_pos (by omega)).symm))
    iempintro
  · obtain rfl : s = 29 := by omega
    rw [show owG (29 + 1) c = 0 from if_neg (by omega), add_zero, show decide (29 + 1 ≤ 29) = false from decide_eq_false (by omega), giveBack_no]
    iintro ⟨#HI, HO, Hg0, Hg1, Hr0, Hr1, Hk⟩
    iapply (Entails.of_eq (wp_ret _ _ _ (⟨⟩ : PUnit) Kt).symm)
    imodintro
    iapply Hk
    isplitl [HO]; · iexact HO
    isplitl [Hg0]; · iapply (giver_skip 0 c n); iexact Hg0
    isplitl [Hg1]; · iapply (giver_skip 1 c n); iexact Hg1
    iapply (Entails.of_eq (show iprop(read 0 29 c ∗ read 1 29 c) = kept (F := F) (29 + 1) c from (if_neg (by omega)).symm))
    isplitl [Hr0] <;> iassumption

/-- The same, the two neighbours named by where the copies go. -/
theorem wp_giveBack' (n s : ℕ) (hs : s < 30) (c : Dev nD) (O : Tl) (Kt : PUnit → sProp 𝕄) :
    iprop(know X Wt K ∗ owe c (O + owG (s + 1) c) ∗ giver 0 c (n + 1) s ∗ giver 1 c (n + 1) s ∗ read 0 s c ∗ read 1 s c
        ∗ (iprop(owe c O ∗ giver 0 c n (s + 1) ∗ giver 1 c n (s + 1) ∗ kept (s + 1) c) -∗ Kt ⟨⟩))
      ⊢ wpc c (giveBack (crS 0) (crS 1) (fwd 0 c) (fwd 1 c) (decide (s + 1 ≤ 29))) Kt := by
  rw [fwd_zero, fwd_one]
  exact wp_giveBack X Wt K n s hs c O Kt

/-! ## The whole step -/

section Whole
variable (a0 : Memref sig .tc .smem S66 .i32) (x : Memref sig .tc .vmem S8192x256 .f32) (w : Memref sig .tc .vmem S256x4096 .f32)

/-- What a device holds while the step-`s` copies are under way and `n` more steps send. -/
def mid (n s : ℕ) (c : Dev nD) : sProp 𝕄 :=
  iprop((half 0 0 n s c ∗ half 1 0 n s c ∗ half 0 1 n s c ∗ half 1 1 n s c) ∗ (fund 0 c n s ∗ fund 1 c n s) ∗ (giver 0 c n s ∗ giver 1 c n s)
    ∗ kept s c)

theorem step_eq (dn dp : Dev nD) (s : ℕ) (h : s + 1 < 32) :
    step (F := F) a0 x w (sndM 0) (rcvM 0) (sndM 1) (rcvM 1) (sS 0) (rS 0) (sS 1) (rS 1) (crS 0) (crS 1) dn dp (s + 1) h = (do
      let pf ← prod a0 x w 0 (2 + (s + 1)) (by omega)
      let pr ← prod a0 x w 1 (34 + (s + 1)) (by omega)
      hop (sndM 0) (rcvM 0) (sS 0) (rS 0) (crS 0) dn (slot s) (slot (s + 1)) 0 (decide (2 ≤ s + 1)) pf
      hop (sndM 1) (rcvM 1) (sS 1) (rS 1) (crS 1) dp (slot s) (slot (s + 1)) 0 (decide (2 ≤ s + 1)) pr
      hop (sndM 0) (rcvM 0) (sS 0) (rS 0) (crS 0) dn (slot s) (slot (s + 1)) 1 false pf
      hop (sndM 1) (rcvM 1) (sS 1) (rS 1) (crS 1) dp (slot s) (slot (s + 1)) 1 false pr
      giveBack (crS 0) (crS 1) dn dp (decide (s + 1 ≤ 29))) := rfl

theorem owFrom_succ (c : Dev nD) (n s : ℕ) :
    owFrom c (n + 1) s = ((((owFrom c n (s + 1) + owG s c) + owS 1 1 s c) + owS 0 1 s c) + owS 1 0 s c) + owS 0 0 s c := rfl

theorem half_read (δ : Fin 2) (n s : ℕ) (c : Dev nD) :
    iprop((half δ 0 n (s + 1) c ∗ half δ 1 n (s + 1) c) ∗ rcvAny δ (slot s) 0 c ∗ rcvAny δ (slot s) 1 c)
      ⊢ iprop((half (F := F) δ 0 n (s + 1) c ∗ half δ 1 n (s + 1) c) ∗ read δ s c) := by
  unfold read
  iintro ⟨⟨H0, H1⟩, R0, R1⟩
  ihave H0 := (half_reached δ 0 n s c) $$ H0
  ihave H1 := (half_reached δ 1 n s c) $$ H1
  icases H0 with ⟨H0, Q0⟩
  icases H1 with ⟨H1, Q1⟩
  isplitl [H0 H1]
  · isplitl [H0] <;> iassumption
  isplitl [R0 Q0]
  · isplitl [R0] <;> iassumption
  isplitl [R1] <;> iassumption

theorem wp_step (n s : ℕ) (hs : s < 30) (hns : n + s < 30) (h : s + 1 < 32) (c : Dev nD) (Kt : PUnit → sProp 𝕄) :
    iprop(know X Wt K ∗ inp a0 x w X Wt c ∗ mid (n + 1) s c ∗ owe c (owFrom c (n + 1) (s + 1))
        ∗ (iprop(inp a0 x w X Wt c ∗ mid n (s + 1) c ∗ owe c (owFrom c n (s + 2))) -∗ Kt ⟨⟩))
      ⊢ wpc c (step a0 x w (sndM 0) (rcvM 0) (sndM 1) (rcvM 1) (sS 0) (rS 0) (sS 1) (rS 1) (crS 0) (crS 1) (fwd 0 c) (fwd 1 c) (s + 1) h) Kt := by
  rw [step_eq, owFrom_succ]
  have a1 : Above (2 * s + 3) (owFrom c n (s + 1 + 1) + owG (s + 1) c) :=
    above_add (above_owFrom c _ n (s + 1 + 1) (by omega) (by omega)) (above_owG c (by omega))
  have a2 := above_add a1 (above_owS 1 1 c (s := s + 1) (by omega) (by omega))
  have a3 := above_add a2 (above_owS 0 1 c (s := s + 1) (by omega) (by omega))
  have a4 := above_add a3 (above_owS 1 0 c (s := s + 1) (by omega) (by omega))
  unfold mid
  iintro ⟨#HI, Hin, ⟨⟨H00, H10, H01, H11⟩, ⟨Hf0, Hf1⟩, ⟨Hg0, Hg1⟩, -⟩, HO, Hk⟩
  rw [wpc_bind]
  iapply (wp_prod a0 x w X Wt 0 (s + 1) (2 + (s + 1)) _ c (tabW_f c (s + 1) h))
  isplitl [Hin]; · iexact Hin
  iintro Hin
  rw [wpc_bind]
  iapply (wp_prod a0 x w X Wt 1 (s + 1) (34 + (s + 1)) _ c (tabW_r c (s + 1)))
  isplitl [Hin]; · iexact Hin
  iintro Hin
  rw [wpc_bind]
  iapply (wp_hop0 X Wt K 0 n s (by omega) c _ a4)
  isplitr; · iexact HI
  isplitl [H00]; · iexact H00
  isplitl [Hf0]; · iexact Hf0
  isplitl [HO]; · iexact HO
  iintro ⟨H00, Hf0, R00, L0, HO⟩
  rw [wpc_bind]
  iapply (wp_hop0 X Wt K 1 n s (by omega) c _ a3)
  isplitr; · iexact HI
  isplitl [H10]; · iexact H10
  isplitl [Hf1]; · iexact Hf1
  isplitl [HO]; · iexact HO
  iintro ⟨H10, Hf1, R10, L1, HO⟩
  rw [wpc_bind]
  iapply (wp_hop1 X Wt K 0 n s (by omega) c _ a2)
  isplitr; · iexact HI
  isplitl [H01]; · iexact H01
  isplitl [L0]; · iexact L0
  isplitl [HO]; · iexact HO
  iintro ⟨H01, R01, HO⟩
  rw [wpc_bind]
  iapply (wp_hop1 X Wt K 1 n s (by omega) c _ a1)
  isplitr; · iexact HI
  isplitl [H11]; · iexact H11
  isplitl [L1]; · iexact L1
  isplitl [HO]; · iexact HO
  iintro ⟨H11, R11, HO⟩
  ihave Q0 := (half_read 0 n s c) $$ [H00 H01 R00 R01]
  · isplitl [H00 H01]
    · isplitl [H00] <;> iassumption
    isplitl [R00] <;> iassumption
  ihave Q1 := (half_read 1 n s c) $$ [H10 H11 R10 R11]
  · isplitl [H10 H11]
    · isplitl [H10] <;> iassumption
    isplitl [R10] <;> iassumption
  icases Q0 with ⟨⟨H00, H01⟩, Q0⟩
  icases Q1 with ⟨⟨H10, H11⟩, Q1⟩
  iapply (wp_giveBack' X Wt K n s hs c _)
  isplitr; · iexact HI
  isplitl [HO]; · iexact HO
  isplitl [Hg0]; · iexact Hg0
  isplitl [Hg1]; · iexact Hg1
  isplitl [Q0]; · iexact Q0
  isplitl [Q1]; · iexact Q1
  iintro ⟨HO, Hg0, Hg1, Hkp⟩
  iapply Hk
  isplitl [Hin]; · iexact Hin
  isplitr [HO]
  · isplitl [H00 H10 H01 H11]
    · isplitl [H00]; · iexact H00
      isplitl [H10]; · iexact H10
      isplitl [H01]; · iexact H01
      iexact H11
    isplitl [Hf0 Hf1]
    · isplitl [Hf0] <;> iassumption
    isplitl [Hg0 Hg1]
    · isplitl [Hg0] <;> iassumption
    iexact Hkp
  iexact HO

end Whole

end Cert.RingK
-- ==== Proof.End.lean ====
/-
The last step: the chunks that come last are added up, and the result is written.
-/
module

public import proofs.«01_k».proof.Proof.Step

@[expose] public section

noncomputable section

namespace Cert.RingK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S8192x256 .f32) (Wt : Dev nD → Vec F S256x4096 .f32) (K : Names)

/-! ## The result -/

/-- Where the result's columns `2048 δ + 1024 χ …` stand. -/
abbrev outRect (δ χ : Fin 2) : Rect S256x4096 :=
  Rect.unit (s := S256x4096) ![0, 2048 * δ.val + 1024 * χ.val] S256x1024.size (outInb δ χ)

/-- The quarter a column lies in, and its place there. -/
def quarter (i : S256x4096.Idx) : ℕ := (i 1).val / 1024
def dirOf (i : S256x4096.Idx) : Fin 2 := ⟨(i 1).val / 2048, by have h : (i 1).val < 4096 := (i 1).isLt; omega⟩
def halfOf (i : S256x4096.Idx) : Fin 2 := ⟨(i 1).val / 1024 % 2, by omega⟩
def inQuarter (i : S256x4096.Idx) : S256x1024.Idx := fun a => match a with
  | ⟨0, _⟩ => ⟨(i 0).val, (i 0).isLt⟩
  | ⟨1, _⟩ => ⟨(i 1).val % 1024, Nat.mod_lt _ (by decide)⟩

theorem outRect_emb0 (δ χ : Fin 2) (j : S256x1024.Idx) : ((outRect δ χ).emb j 0).val = (j 0).val := by
  show 0 + 1 * (j 0).val = _; omega
theorem outRect_emb1 (δ χ : Fin 2) (j : S256x1024.Idx) : ((outRect δ χ).emb j 1).val = 2048 * δ.val + 1024 * χ.val + (j 1).val := by
  show (2048 * δ.val + 1024 * χ.val) + 1 * (j 1).val = _; omega
theorem quarter_emb (δ χ : Fin 2) (j : S256x1024.Idx) : quarter ((outRect δ χ).emb j) = 2 * δ.val + χ.val := by
  have h : (j 1).val < 1024 := (j 1).isLt
  unfold quarter; rw [outRect_emb1]; omega
theorem dirOf_emb (δ χ : Fin 2) (j : S256x1024.Idx) : dirOf ((outRect δ χ).emb j) = δ := by
  have h : (j 1).val < 1024 := (j 1).isLt
  apply Fin.ext; show ((outRect δ χ).emb j 1).val / 2048 = _; rw [outRect_emb1]; omega
theorem halfOf_emb (δ χ : Fin 2) (j : S256x1024.Idx) : halfOf ((outRect δ χ).emb j) = χ := by
  have h : (j 1).val < 1024 := (j 1).isLt
  apply Fin.ext; show ((outRect δ χ).emb j 1).val / 1024 % 2 = _; rw [outRect_emb1]; omega
theorem inQuarter_emb (δ χ : Fin 2) (j : S256x1024.Idx) : inQuarter ((outRect δ χ).emb j) = j := by
  have h : (j 1).val < 1024 := (j 1).isLt
  funext a
  apply Fin.ext
  fin_cases a
  · exact outRect_emb0 δ χ j
  · show ((outRect δ χ).emb j 1).val % 1024 = (j 1).val; rw [outRect_emb1]; omega
theorem emb_inQuarter (i : S256x4096.Idx) : (outRect (dirOf i) (halfOf i)).emb (inQuarter i) = i := by
  funext a
  apply Fin.ext
  fin_cases a
  · exact outRect_emb0 _ _ _
  · refine (outRect_emb1 _ _ _).trans ?_
    show 2048 * ((i 1).val / 2048) + 1024 * ((i 1).val / 1024 % 2) + (i 1).val % 1024 = (i 1).val
    omega

/-- The result of device `c`. -/
def outV (c : Dev nD) : Vec F S256x4096 .f32 := fun i =>
  mulf (acc X Wt (dirOf i) (halfOf i) 31 c) (logistic (acc X Wt (dirOf i) (halfOf i) 31 c)) (inQuarter i)

/-- The result's array with the quarters below `q` written, in the order the body writes them. -/
def written (q : ℕ → Prop) (out : Memref sig .tc .vmem S256x4096 .f32) (c : Dev nD) : sProp 𝕄 :=
  iprop(∃ Y : Vec F S256x4096 .f32, ⌜∀ i : S256x4096.Idx, q (quarter i) → Y i = outV X Wt c i⌝ ∗ owns (c : Thread nD τ) out fullShare Y)

theorem wp_emit (out : Memref sig .tc .vmem S256x4096 .f32) (q q' : ℕ → Prop) (δ χ : Fin 2) (hq : ∀ n, q' n → q n ∨ n = 2 * δ.val + χ.val)
    (c : Dev nD) (Kt : PUnit → sProp 𝕄) :
    iprop(written X Wt q out c ∗ (written X Wt q' out c -∗ Kt ⟨⟩)) ⊢ wpc c (emit out δ χ (acc X Wt δ χ 31 c)) Kt := by
  unfold emit written
  iintro ⟨⟨%Y, %hY, H⟩, Hk⟩
  rw [wpc_bind]
  iapply (wp_loadOwned c out)
  isplitl [H]; · iexact H
  iintro H
  unfold owns
  icases H with ⟨%f, %hf, H⟩
  iapply (wp_store (defs := defs₀ (F := F)) 𝒱₀ (c : Thread nD τ) none Set.univ (m := out) (r := outRect δ χ) (S := out.view.set)
    (by rw [View.setOn_univ]; exact View.set_slice_subset _ _)) $$ H
  iintro H
  rw [wp_ret]; imodintro
  iapply Hk
  iexists out.view.read (Elt F) ((out.access (outRect δ χ)).write (Elt F) f
    (mulf (acc X Wt δ χ 31 c) (logistic (acc X Wt δ χ 31 c))) Finset.univ)
  isplitr [H]
  rotate_left
  · iexists _
    isplitr [H]
    rotate_left
    · iexact H
    ipureintro; exact rfl
  ipureintro
  intro i hi
  by_cases h : i ∈ Finset.univ.map (outRect δ χ).emb
  · obtain ⟨j, -, rfl⟩ := Finset.mem_map.mp h
    refine (View.read_slice_write_emb (outRect δ χ) f _ (Finset.mem_univ j)).trans ?_
    unfold outV
    rw [dirOf_emb, halfOf_emb, inQuarter_emb]
  · refine (View.read_slice_write_of_not_mem (outRect δ χ) f _ Finset.univ h).trans ?_
    rw [hf]
    rcases hq _ hi with h1 | h1
    · exact hY i h1
    · exfalso; apply h
      have hd : dirOf i = δ := Fin.ext (by show (i 1).val / 2048 = _; unfold quarter at h1; omega)
      have hh : halfOf i = χ := Fin.ext (by show (i 1).val / 1024 % 2 = _; unfold quarter at h1; omega)
      rw [← hd, ← hh]
      exact Finset.mem_map.mpr ⟨inQuarter i, Finset.mem_univ _, emb_inQuarter i⟩

/-! ## The last chunks -/

/-- What is left of one half when all has come. -/
def rest (δ χ : Fin 2) (c : Dev nD) : sProp 𝕄 :=
  iprop(free δ χ 31 c ∗ free δ χ 32 c ∗ rcvAny δ (slot 30) χ c)

theorem wp_takeLast (δ χ : Fin 2) (c : Dev nD) (Kt : Vec F S1x256x1024 .f32 → sProp 𝕄) :
    iprop(know X Wt K ∗ half δ χ 0 30 c ∗ owe c 0
        ∗ (∀ v : Vec F S1x256x1024 .f32, iprop(⌜addCols v (mine X Wt δ 31 c) χ = acc X Wt δ χ 31 c⌝
            ∗ rest δ χ c ∗ owe c 0) -∗ Kt v))
      ⊢ wpc c (take (F := F) (sndM δ) (rcvM δ) (sS δ) (rS δ) (slot 30) χ) Kt := by
  unfold half
  iintro ⟨#HI, ⟨Hf, Hfr, -⟩, HO, Hk⟩
  iapply (wp_take X Wt K δ χ 30 (by decide) c 0 (above_zero _))
  isplitr; · iexact HI
  isplitl [Hf]; · iexact Hf
  isplitl [HO]; · iexact HO
  iintro %v ⟨%hv, Ht, HO⟩
  iapply Hk
  isplitr
  · ipureintro
    show addf (shapeCast S256x1024 v shapeCasts_S1x256x1024_S256x1024) _ = addf _ _
    rw [hv]
  isplitr [HO]
  rotate_left
  · iexact HO
  ihave Ht := (taken_free X Wt δ χ 30 c) $$ Ht
  icases Ht with ⟨Hfr', Hr⟩
  unfold rest rcvAny
  isplitl [Hfr]; · iexact Hfr
  isplitl [Hfr']; · iexact Hfr'
  iexists _; iexact Hr

/-- What is left when the ring has been gone round. -/
def left (c : Dev nD) : sProp 𝕄 :=
  iprop((rest 0 0 c ∗ rest 1 0 c ∗ rest 0 1 c ∗ rest 1 1 c) ∗ (had 0 c 29 ∗ had 1 c 29) ∗ read 0 29 c ∗ read 1 29 c)

section Whole
variable (a0 : Memref sig .tc .smem S66 .i32) (x : Memref sig .tc .vmem S8192x256 .f32)
  (w out : Memref sig .tc .vmem S256x4096 .f32)

theorem last_eq : last (F := F) a0 x w out (sndM 0) (rcvM 0) (sndM 1) (rcvM 1) (sS 0) (rS 0) (sS 1) (rS 1) = (do
  let pf ← prod a0 x w 0 33 (by decide)
  let pr ← prod a0 x w 1 65 (by decide)
  let v0 ← take (sndM 0) (rcvM 0) (sS 0) (rS 0) (slot 30) 0
  let v1 ← take (sndM 1) (rcvM 1) (sS 1) (rS 1) (slot 30) 0
  let v2 ← take (sndM 0) (rcvM 0) (sS 0) (rS 0) (slot 30) 1
  let v3 ← take (sndM 1) (rcvM 1) (sS 1) (rS 1) (slot 30) 1
  emit out 0 0 (addCols v0 pf 0)
  emit out 1 0 (addCols v1 pr 0)
  emit out 0 1 (addCols v2 pf 1)
  emit out 1 1 (addCols v3 pr 1)) := rfl

theorem wp_last (c : Dev nD) (Kt : PUnit → sProp 𝕄) :
    iprop(know X Wt K ∗ inp a0 x w X Wt c ∗ (∃ Y : Vec F S256x4096 .f32, owns (c : Thread nD τ) out fullShare Y) ∗ mid 0 30 c ∗ owe c 0
        ∗ (iprop(inp a0 x w X Wt c ∗ owns (c : Thread nD τ) out fullShare (outV X Wt c) ∗ left c ∗ owe c 0) -∗ Kt ⟨⟩))
      ⊢ wpc c (last a0 x w out (sndM 0) (rcvM 0) (sndM 1) (rcvM 1) (sS 0) (rS 0) (sS 1) (rS 1)) Kt := by
  rw [last_eq]
  unfold mid
  iintro ⟨#HI, Hin, Hout, ⟨⟨H00, H10, H01, H11⟩, ⟨Hf0, Hf1⟩, -, Hkp⟩, HO, Hk⟩
  rw [wpc_bind]
  iapply (wp_prod a0 x w X Wt 0 31 33 _ c (tabW_f c 31 (by decide)))
  isplitl [Hin]; · iexact Hin
  iintro Hin
  rw [wpc_bind]
  iapply (wp_prod a0 x w X Wt 1 31 65 _ c (tabW_r c 31))
  isplitl [Hin]; · iexact Hin
  iintro Hin
  rw [wpc_bind]
  iapply (wp_takeLast X Wt K 0 0 c)
  isplitr; · iexact HI
  isplitl [H00]; · iexact H00
  isplitl [HO]; · iexact HO
  iintro %v0 ⟨%h0, H00, HO⟩
  rw [wpc_bind]
  iapply (wp_takeLast X Wt K 1 0 c)
  isplitr; · iexact HI
  isplitl [H10]; · iexact H10
  isplitl [HO]; · iexact HO
  iintro %v1 ⟨%h1, H10, HO⟩
  rw [wpc_bind]
  iapply (wp_takeLast X Wt K 0 1 c)
  isplitr; · iexact HI
  isplitl [H01]; · iexact H01
  isplitl [HO]; · iexact HO
  iintro %v2 ⟨%h2, H01, HO⟩
  rw [wpc_bind]
  iapply (wp_takeLast X Wt K 1 1 c)
  isplitr; · iexact HI
  isplitl [H11]; · iexact H11
  isplitl [HO]; · iexact HO
  iintro %v3 ⟨%h3, H11, HO⟩
  rw [h0, h1, h2, h3]
  icases Hout with ⟨%Y, Hout⟩
  rw [wpc_bind]
  iapply (wp_emit X Wt out (fun _ => False) (fun n => n = 0) 0 0 (fun n h => .inr h) c)
  isplitl [Hout]
  · unfold written; iexists Y
    isplitr; · ipureintro; exact fun _ h => h.elim
    iexact Hout
  iintro Hout
  rw [wpc_bind]
  iapply (wp_emit X Wt out (fun n => n = 0) (fun n => n = 0 ∨ n = 2) 1 0 (fun n h => h) c)
  isplitl [Hout]; · iexact Hout
  iintro Hout
  rw [wpc_bind]
  iapply (wp_emit X Wt out (fun n => n = 0 ∨ n = 2) (fun n => (n = 0 ∨ n = 2) ∨ n = 1) 0 1 (fun n h => h) c)
  isplitl [Hout]; · iexact Hout
  iintro Hout
  iapply (wp_emit X Wt out (fun n => (n = 0 ∨ n = 2) ∨ n = 1) (fun n => ((n = 0 ∨ n = 2) ∨ n = 1) ∨ n = 3) 1 1 (fun n h => h) c)
  isplitl [Hout]; · iexact Hout
  iintro Hout
  ihave Hout := (show written (F := F) X Wt (fun n => ((n = 0 ∨ n = 2) ∨ n = 1) ∨ n = 3) out c
      ⊢ owns (c : Thread nD τ) out fullShare (outV X Wt c) from by
    unfold written
    iintro ⟨%Y, %hY, H⟩
    rw [show Y = outV X Wt c from funext fun i => hY i (by
      have h : (i 1).val < 4096 := (i 1).isLt
      unfold quarter; omega)]
    iexact H) $$ Hout
  iapply Hk
  isplitl [Hin]; · iexact Hin
  isplitl [Hout]; · iexact Hout
  isplitr [HO]
  rotate_left
  · iexact HO
  ihave Hf0 := (Entails.of_eq (fund_succ (F := F) 0 c 0 29)) $$ Hf0
  ihave Hf1 := (Entails.of_eq (fund_succ (F := F) 1 c 0 29)) $$ Hf1
  icases Hf0 with ⟨Hf0, -⟩
  icases Hf1 with ⟨Hf1, -⟩
  ihave Hkp := (Entails.of_eq (show kept (F := F) 30 c = iprop(read 0 29 c ∗ read 1 29 c) from if_neg (by decide))) $$ Hkp
  unfold left
  isplitl [H00 H10 H01 H11]
  · isplitl [H00]; · iexact H00
    isplitl [H10]; · iexact H10
    isplitl [H01]; · iexact H01
    iexact H11
  isplitl [Hf0 Hf1]
  · isplitl [Hf0] <;> iassumption
  iexact Hkp

end Whole

end Cert.RingK
-- ==== Proof.Body.lean ====
/-
The body of the kernel on one device: the barrier, step 0, the thirty steps of the ring, and the last one.
-/
module

public import proofs.«01_k».proof.Proof.End

@[expose] public section

noncomputable section

namespace Cert.RingK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S8192x256 .f32) (Wt : Dev nD → Vec F S256x4096 .f32) (K : Names)
variable (a0 : Memref sig .tc .smem S66 .i32) (x : Memref sig .tc .vmem S8192x256 .f32)
  (w out : Memref sig .tc .vmem S256x4096 .f32)

/-! ## The steps -/

theorem steps_zero (dn dp : Dev nD) (s : ℕ) (h : 0 + s < 32) :
    steps (F := F) a0 x w out (sndM 0) (rcvM 0) (sndM 1) (rcvM 1) (sS 0) (rS 0) (sS 1) (rS 1) (crS 0) (crS 1) dn dp 0 s h
      = last a0 x w out (sndM 0) (rcvM 0) (sndM 1) (rcvM 1) (sS 0) (rS 0) (sS 1) (rS 1) := rfl
theorem steps_succ (dn dp : Dev nD) (n s : ℕ) (h : n + 1 + s < 32) :
    steps (F := F) a0 x w out (sndM 0) (rcvM 0) (sndM 1) (rcvM 1) (sS 0) (rS 0) (sS 1) (rS 1) (crS 0) (crS 1) dn dp (n + 1) s h
      = (do
        step a0 x w (sndM 0) (rcvM 0) (sndM 1) (rcvM 1) (sS 0) (rS 0) (sS 1) (rS 1) (crS 0) (crS 1) dn dp s (by omega)
        steps a0 x w out (sndM 0) (rcvM 0) (sndM 1) (rcvM 1) (sS 0) (rS 0) (sS 1) (rS 1) (crS 0) (crS 1) dn dp n (s + 1) (by omega)) := rfl

theorem wp_steps (c : Dev nD) (Kt : PUnit → sProp 𝕄) : ∀ (n s : ℕ) (hns : n + s = 30) (h : n + (s + 1) < 32),
    iprop(know X Wt K ∗ inp a0 x w X Wt c ∗ (∃ Y : Vec F S256x4096 .f32, owns (c : Thread nD τ) out fullShare Y) ∗ mid n s c ∗ owe c (owFrom c n (s + 1))
        ∗ (iprop(inp a0 x w X Wt c ∗ owns (c : Thread nD τ) out fullShare (outV X Wt c) ∗ left c ∗ owe c 0) -∗ Kt ⟨⟩))
      ⊢ wpc c (steps a0 x w out (sndM 0) (rcvM 0) (sndM 1) (rcvM 1) (sS 0) (rS 0) (sS 1) (rS 1) (crS 0) (crS 1) (fwd 0 c) (fwd 1 c) n (s + 1) h) Kt := by
  intro n
  induction n with
  | zero =>
    intro s hns h
    obtain rfl : s = 30 := by omega
    rw [steps_zero]
    exact wp_last X Wt K a0 x w out c Kt
  | succ n ih =>
    intro s hns h
    rw [steps_succ, wpc_bind]
    iintro ⟨#HI, Hin, Hout, Hm, HO, Hk⟩
    iapply (wp_step X Wt K a0 x w n s (by omega) (by omega) _ c)
    isplitr; · iexact HI
    isplitl [Hin]; · iexact Hin
    isplitl [Hm]; · iexact Hm
    isplitl [HO]; · iexact HO
    iintro ⟨Hin, Hm, HO⟩
    iapply (ih (s + 1) (by omega) _)
    isplitr; · iexact HI
    isplitl [Hin]; · iexact Hin
    isplitl [Hout]; · iexact Hout
    isplitl [Hm]; · iexact Hm
    isplitl [HO]; · iexact HO
    iexact Hk

/-! ## Step 0 -/

theorem first_eq (dn dp : Dev nD) : first (F := F) a0 x w (sndM 0) (rcvM 0) (sndM 1) (rcvM 1) (sS 0) (rS 0) (sS 1) (rS 1) dn dp = (do
  let pf ← prod a0 x w 0 (2 + 0) (by decide)
  let pr ← prod a0 x w 1 (34 + 0) (by decide)
  put (sndM 0) (slot 0) 0 (cols pf 0)
  ship (sndM 0) (rcvM 0) (sS 0) (rS 0) dn (slot 0) 0
  put (sndM 1) (slot 0) 0 (cols pr 0)
  ship (sndM 1) (rcvM 1) (sS 1) (rS 1) dp (slot 0) 0
  put (sndM 0) (slot 0) 1 (cols pf 1)
  ship (sndM 0) (rcvM 0) (sS 0) (rS 0) dn (slot 0) 1
  put (sndM 1) (slot 0) 1 (cols pr 1)
  ship (sndM 1) (rcvM 1) (sS 1) (rS 1) dp (slot 0) 1) := rfl

theorem pair_bind (c : Dev nD) {α β γ : Type} (p : PG F α) (q : PG F β) (k : β → PG F γ) (Kt : γ → sProp 𝕄) :
    wpc c (p >>= fun _ => q >>= k) Kt = wpc c ((p >>= fun _ => q) >>= k) Kt := by
  rw [wpc_bind, wpc_bind, wpc_bind, wpc_bind]

/-- What one half of one direction starts from, and where it stands after step 0. -/
def ready (δ χ : Fin 2) (c : Dev nD) : sProp 𝕄 :=
  iprop(free δ χ 0 c ∗ free δ χ 1 c ∗ lend δ (slot 0) χ 0 c ∗ ahead δ χ c 31 0)

theorem wp_start (δ χ : Fin 2) (c : Dev nD) (O : Tl) (Kt : PUnit → sProp 𝕄) :
    iprop(know X Wt K ∗ ready δ χ c ∗ owe c (O + owS δ χ 0 c) ∗ (iprop(half δ χ 30 0 c ∗ owe c O) -∗ Kt ⟨⟩))
      ⊢ wpc c (do put (sndM δ) (slot 0) χ (cols (mine X Wt δ 0 c) χ); ship (sndM δ) (rcvM δ) (sS δ) (rS δ) (fwd δ c) (slot 0) χ) Kt := by
  unfold ready half
  iintro ⟨#HI, ⟨Hf0, Hf1, Hl, Ha⟩, HO, Hk⟩
  iapply (wp_putShip X Wt K δ χ 30 0 (by decide) c O)
  isplitr; · iexact HI
  isplitl [Hf0]; · iexact Hf0
  isplitl [Hl]; · iexact Hl
  isplitl [Ha]; · iexact Ha
  isplitl [HO]; · iexact HO
  iintro ⟨Hfl, Ha, HO⟩
  iapply Hk
  isplitr [HO]
  · isplitl [Hfl]; · iexact Hfl
    isplitl [Hf1] <;> iassumption
  iexact HO

theorem wp_first (c : Dev nD) (Kt : PUnit → sProp 𝕄) :
    iprop(know X Wt K ∗ inp a0 x w X Wt c ∗ (ready 0 0 c ∗ ready 1 0 c ∗ ready 0 1 c ∗ ready 1 1 c) ∗ owe c (owFrom c 31 0)
        ∗ (iprop(inp a0 x w X Wt c ∗ (half 0 0 30 0 c ∗ half 1 0 30 0 c ∗ half 0 1 30 0 c ∗ half 1 1 30 0 c) ∗ owe c (owFrom c 30 1)) -∗ Kt ⟨⟩))
      ⊢ wpc c (first a0 x w (sndM 0) (rcvM 0) (sndM 1) (rcvM 1) (sS 0) (rS 0) (sS 1) (rS 1) (fwd 0 c) (fwd 1 c)) Kt := by
  rw [first_eq, owFrom_succ, show owG 0 c = 0 from if_neg (by decide), add_zero]
  iintro ⟨#HI, Hin, ⟨H00, H10, H01, H11⟩, HO, Hk⟩
  rw [wpc_bind]
  iapply (wp_prod a0 x w X Wt 0 0 (2 + 0) _ c (tabW_f c 0 (by decide)))
  isplitl [Hin]; · iexact Hin
  iintro Hin
  rw [wpc_bind]
  iapply (wp_prod a0 x w X Wt 1 0 (34 + 0) _ c (tabW_r c 0))
  isplitl [Hin]; · iexact Hin
  iintro Hin
  rw [pair_bind, wpc_bind]
  iapply (wp_start X Wt K 0 0 c)
  isplitr; · iexact HI
  isplitl [H00]; · iexact H00
  isplitl [HO]; · iexact HO
  iintro ⟨H00, HO⟩
  rw [pair_bind, wpc_bind]
  iapply (wp_start X Wt K 1 0 c)
  isplitr; · iexact HI
  isplitl [H10]; · iexact H10
  isplitl [HO]; · iexact HO
  iintro ⟨H10, HO⟩
  rw [pair_bind, wpc_bind]
  iapply (wp_start X Wt K 0 1 c)
  isplitr; · iexact HI
  isplitl [H01]; · iexact H01
  isplitl [HO]; · iexact HO
  iintro ⟨H01, HO⟩
  iapply (wp_start X Wt K 1 1 c)
  isplitr; · iexact HI
  isplitl [H11]; · iexact H11
  isplitl [HO]; · iexact HO
  iintro ⟨H11, HO⟩
  iapply Hk
  isplitl [Hin]; · iexact Hin
  isplitr [HO]
  · isplitl [H00]; · iexact H00
    isplitl [H10]; · iexact H10
    isplitl [H01]; · iexact H01
    iexact H11
  iexact HO

/-! ## The barrier -/

theorem devOf_dw (d : Dev nD) (h : k0_dev1 (dw d) < nD) : devOf (dw d) h = d := Fin.ext (dw_dev d)
theorem devOf_dw' (d : Dev nD) (h : k0_chk2 (dw d)) : devOf (dw d) (k0_dev2_lt (dw d) h) = d := Fin.ext (dw_dev d)

theorem two_pays (c : Dev nD) : bigSep (dut .bar 0) (fun d => pay X Wt c .bar 0 d) = iprop(greet 0 c ∗ greet 1 c) := by
  show bigSep (Finset.range 2) _ = _
  rw [show Finset.range 2 = insert 0 {1} from by decide, bigSep_insert (by decide), bigSep_singleton]
  rfl

/-- What a device brings to the barrier: for either neighbour that neighbour's greeting and the right to pay it. -/
def bring (δ : Fin 2) (c : Dev nD) : sProp 𝕄 :=
  iprop(dutyTok ER (cell .bar (back δ c)) 0 δ.val ∗ greet δ (back δ c) ∗ reached ER (cell .bar (back δ c)) 0)

theorem wp_greet (δ : Fin 2) (c : Dev nD) (O : Tl) (Kt : PUnit → sProp 𝕄) :
    iprop(know X Wt K ∗ owe c (O + owB δ c) ∗ bring δ c ∗ (owe c O -∗ Kt ⟨⟩))
      ⊢ wpc c (semSignalWord (back δ c) barS 1#32) Kt := by
  unfold bring
  iintro ⟨#HI, HO, ⟨Ht, Hg, Hr⟩, Hk⟩
  iapply (wp_signalDuty X Wt K barS .bar rfl c (back δ c) 0 0 δ.val O (by fin_cases δ <;> decide) rfl)
  isplitr; · iexact HI
  isplitl [HO]; · iexact HO
  isplitl [Ht]; · iexact Ht
  isplitl [Hg]
  · iapply (Entails.of_eq (show greet δ (back δ c) = pay X Wt (back δ c) .bar 0 δ.val from by
      show _ = greet (dir δ.val) (back δ c); congr 1; fin_cases δ <;> rfl)); iexact Hg
  isplitl [Hr]; · iexact Hr
  iexact Hk

theorem wp_hello (c : Dev nD) (Kt : (Σ' (v0 : Elt F .i32) (_ : k0_chk2 v0) (v1 : Elt F .i32), PLift (k0_chk1 v1)) → sProp 𝕄) :
    iprop(know X Wt K ∗ inp a0 x w X Wt c ∗ owe c (O₀ c) ∗ at_ .bar c 0 ∗ cred (tallyAt (cell .bar c) 0 2) ∗ bring 0 c ∗ bring 1 c
        ∗ (iprop(inp a0 x w X Wt c ∗ owe c (owFrom c 31 0) ∗ at_ .bar c 1 ∗ greet 0 c ∗ greet 1 c)
            -∗ Kt ⟨dw (nx c), dw_chk2 (nx c), dw (pv c), ⟨dw_chk1 (pv c)⟩⟩))
      ⊢ wpc c (hello a0) Kt := by
  unfold hello inp O₀
  have h1 : Above 1 (owFrom c 31 0) := above_owFrom c 1 31 0 (by decide) (by decide)
  iintro ⟨#HI, ⟨Ha, Hx, Hw⟩, HO, Hb, Hc, B0, B1, Hk⟩
  rw [wpc_bind]
  iapply (wp_word a0 c 0 _)
  isplitl [Ha]; · iexact Ha
  iintro Ha
  rw [tabW_0, wpc_bind]
  iapply (wp_assumed c _ (dw_chk2 (nx c)))
  rw [wpc_bind]
  iapply (wp_word a0 c 1 _)
  isplitl [Ha]; · iexact Ha
  iintro Ha
  rw [tabW_1, wpc_bind]
  iapply (wp_assumed c _ (dw_chk1 (pv c)))
  dsimp only
  rw [devOf_dw, show pv c = back 0 c from rfl, wpc_bind]
  iapply (wp_greet X Wt K 0 c)
  isplitr; · iexact HI
  isplitl [HO]; · iexact HO
  isplitl [B0]; · iexact B0
  iintro HO
  rw [devOf_dw' (nx c) (dw_chk2 (nx c)), show nx c = back 1 c from rfl, wpc_bind]
  iapply (wp_greet X Wt K 1 c)
  isplitr; · iexact HI
  isplitl [HO]; · iexact HO
  isplitl [B1]; · iexact B1
  iintro HO
  rw [wpc_bind]
  iapply (wp_waitRound X Wt K (w := .semWait barS 2) .bar c 0 0 1 _
    (fun Q => wpE_semWait_eq 𝒱₀ (c : Thread nD τ) none Set.univ Q) rfl h1 (by decide) (by rw [lv_bar]))
  isplitr; · iexact HI
  isplitl [Hc]; · iexact Hc
  isplitl [HO]; · iexact HO
  isplitl [Hb]; · iexact Hb
  iintro ⟨HO, Hb, Hp⟩
  ihave Hp := (Entails.of_eq (two_pays X Wt c)) $$ Hp
  iapply (Entails.of_eq (wp_ret _ _ _ _ Kt).symm)
  imodintro
  iapply Hk
  isplitl [Ha Hx Hw]
  · isplitl [Ha]; · iexact Ha
    isplitl [Hx] <;> iassumption
  isplitl [HO]; · iexact HO
  isplitl [Hb] <;> iassumption

/-! ## The whole body -/

/-- What a direction starts from besides the barrier. -/
def own (δ : Fin 2) (c : Dev nD) : sProp 𝕄 :=
  iprop((free δ 0 0 c ∗ free δ 0 1 c ∗ ahead δ 0 c 31 0) ∗ (free δ 1 0 c ∗ free δ 1 1 c ∗ ahead δ 1 c 31 0)
    ∗ had δ c 0 ∗ gets δ c 29 0 ∗ putIn δ c 0 ∗ toks δ c 30 0 ∗ bring δ c)

/-- Everything a device starts from but the staged arrays. -/
def start (c : Dev nD) : sProp 𝕄 :=
  iprop((at_ .bar c 0 ∗ cred (tallyAt (cell .bar c) 0 2)) ∗ own 0 c ∗ own 1 c)

theorem greet_split (δ δ' : Fin 2) (h : opp δ = δ') (c : Dev nD) :
    greet (F := F) δ c ⊢ iprop(lend δ (slot 0) 0 0 c ∗ lend δ (slot 0) 1 0 c ∗ (lend δ (slot 1) 0 0 c ∗ lend δ (slot 1) 1 0 c)
      ∗ reached ER (cell (.cred δ') (back δ' c)) 0) := by
  subst h
  unfold greet
  have e : fwd δ c = back (opp δ) c := by
    fin_cases δ
    · exact fwd_zero c
    · exact fwd_one c
  iintro ⟨⟨H1, H2, H3, H4⟩, H5⟩
  ihave H5 := (Entails.of_eq (congrArg ((fun d => reached ER (cell (.cred (opp δ)) d) 0) : Dev nD → sProp 𝕄) e)) $$ H5
  isplitl [H1]; · iexact H1
  isplitl [H2]; · iexact H2
  isplitl [H3 H4]
  · isplitl [H3]; · iexact H3
    iexact H4
  iexact H5

theorem wp_body (c : Dev nD) (Kt : PUnit → sProp 𝕄) :
    iprop(know X Wt K ∗ inp a0 x w X Wt c ∗ (∃ Y : Vec F S256x4096 .f32, owns (c : Thread nD τ) out fullShare Y) ∗ owe c (O₀ c) ∗ start c
        ∗ (iprop(inp a0 x w X Wt c ∗ owns (c : Thread nD τ) out fullShare (outV X Wt c) ∗ (at_ .bar c 1 ∗ left c) ∗ owe c 0) -∗ Kt ⟨⟩))
      ⊢ wpc c (body a0 x w out (sndM 0) (rcvM 0) (sndM 1) (rcvM 1) (sS 0) (rS 0) (sS 1) (rS 1) (crS 0) (crS 1)) Kt := by
  unfold body start own
  iintro ⟨#HI, Hin, Hout, HO, ⟨⟨Hb, Hc⟩, ⟨⟨F00, G00, A00⟩, ⟨F01, G01, A01⟩, D0, E0, P0, T0, B0⟩, ⟨F10, G10, A10⟩, ⟨F11, G11, A11⟩, D1, E1, P1, T1, B1⟩, Hk⟩
  rw [wpc_bind]
  iapply (wp_hello X Wt K a0 x w c)
  isplitr; · iexact HI
  isplitl [Hin]; · iexact Hin
  isplitl [HO]; · iexact HO
  isplitl [Hb]; · iexact Hb
  isplitl [Hc]; · iexact Hc
  isplitl [B0]; · iexact B0
  isplitl [B1]; · iexact B1
  iintro ⟨Hin, HO, Hb, G0, G1⟩
  ihave G0 := (greet_split 0 1 rfl c) $$ G0
  ihave G1 := (greet_split 1 0 rfl c) $$ G1
  icases G0 with ⟨L00, L01, M0, R1⟩
  icases G1 with ⟨L10, L11, M1, R0⟩
  dsimp only
  rw [devOf_dw, devOf_dw' (nx c) (dw_chk2 (nx c)), show nx c = fwd 0 c from rfl, show pv c = fwd 1 c from rfl, wpc_bind]
  iapply (wp_first X Wt K a0 x w c)
  isplitr; · iexact HI
  isplitl [Hin]; · iexact Hin
  isplitl [F00 G00 A00 L00 F10 G10 A10 L10 F01 G01 A01 L01 F11 G11 A11 L11]
  · unfold ready
    isplitl [F00 G00 A00 L00]
    · isplitl [F00]; · iexact F00
      isplitl [G00]; · iexact G00
      isplitl [L00] <;> iassumption
    isplitl [F10 G10 A10 L10]
    · isplitl [F10]; · iexact F10
      isplitl [G10]; · iexact G10
      isplitl [L10] <;> iassumption
    isplitl [F01 G01 A01 L01]
    · isplitl [F01]; · iexact F01
      isplitl [G01]; · iexact G01
      isplitl [L01] <;> iassumption
    isplitl [F11]; · iexact F11
    isplitl [G11]; · iexact G11
    isplitl [L11] <;> iassumption
  isplitl [HO]; · iexact HO
  iintro ⟨Hin, Hh, HO⟩
  iapply (wp_steps X Wt K a0 x w out c _ 30 0 (by decide))
  isplitr; · iexact HI
  isplitl [Hin]; · iexact Hin
  isplitl [Hout]; · iexact Hout
  isplitr [HO Hb Hk]
  · unfold mid giver
    isplitl [Hh]; · iexact Hh
    isplitl [M0 M1 D0 D1 E0 E1]
    · isplitl [M0 D0 E0]
      · iapply (Entails.of_eq (fund_zero 0 c 29).symm)
        isplitl [M0]; · iexact M0
        isplitl [D0] <;> iassumption
      · iapply (Entails.of_eq (fund_zero 1 c 29).symm)
        isplitl [M1]; · iexact M1
        isplitl [D1] <;> iassumption
    isplitl [P0 P1 T0 T1 R0 R1]
    · isplitl [P0 T0 R0]
      · isplitl [P0]
        · iexists 0
          isplitr; · ipureintro; exact fun _ => rfl
          iexact P0
        isplitl [R0] <;> iassumption
      · isplitl [P1]
        · iexists 0
          isplitr; · ipureintro; exact fun _ => rfl
          iexact P1
        isplitl [R1] <;> iassumption
    iapply (Entails.of_eq (show kept (F := F) 0 c = iprop(emp) from if_pos (by decide)).symm)
    iempintro
  isplitl [HO]; · iexact HO
  iintro ⟨Hin, Hout, Hl, HO⟩
  iapply Hk
  isplitl [Hin]; · iexact Hin
  isplitl [Hout]; · iexact Hout
  isplitr [HO]
  · isplitl [Hb] <;> iassumption
  iexact HO

end Cert.RingK
-- ==== Proof.Close.lean ====
/-
The scratch buffers whole and slot by slot, and the end of the semaphores: each is at the round after its last, so its
counter is given back at zero.
-/
module

public import proofs.«01_k».proof.Proof.Body
public import Idealize.ShloMosaic.Lib.Ring

@[expose] public section

noncomputable section

namespace Cert.RingK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## A scratch buffer and its slots -/

section Slots
variable (b : Memref sig .tc .vmem S2x256x2048 .f32) (c : Dev nD)

/-- The elements of the slot and half `p`. -/
def partSet (p : Fin 2 × Fin 2) : Finset b.view.ty.Idx := (rect3 p.1 p.2).set.map b.view.emb

theorem partSet_eq (p : Fin 2 × Fin 2) : (part b p.1 p.2).view.set = partSet b p :=
  ((part_set b p.1 p.2).symm).trans (View.set_slice b.view (rect3 p.1 p.2))

theorem mem_rect3 (p : Fin 2 × Fin 2) (i : S2x256x2048.Idx) :
    i ∈ (rect3 p.1 p.2).set ↔ (i 0).val = p.1.val ∧ (i 2).val / 1024 = p.2.val := by
  unfold rect3
  rw [Rect.mem_set_unit]
  have h1 : (i 1).val < 256 := (i 1).isLt
  have h0 : (i 0).val < 2 := (i 0).isLt
  have h2 : (i 2).val < 2048 := (i 2).isLt
  constructor
  · intro h
    have a0 : p.1.val ≤ (i 0).val ∧ (i 0).val < p.1.val + 1 := h 0
    have a2 : 1024 * p.2.val ≤ (i 2).val ∧ (i 2).val < 1024 * p.2.val + 1024 := h 2
    omega
  · rintro ⟨e0, e2⟩ a
    fin_cases a
    · show p.1.val ≤ (i 0).val ∧ (i 0).val < p.1.val + 1; omega
    · show 0 ≤ (i 1).val ∧ (i 1).val < 0 + 256; omega
    · show 1024 * p.2.val ≤ (i 2).val ∧ (i 2).val < 1024 * p.2.val + 1024; omega

theorem partSet_disjoint (p p' : Fin 2 × Fin 2) (h : p ≠ p') : Disjoint (partSet b p) (partSet b p') := by
  rw [Finset.disjoint_left]
  intro i hi hi'
  obtain ⟨j, hj, rfl⟩ := Finset.mem_map.mp hi
  obtain ⟨j', hj', e⟩ := Finset.mem_map.mp hi'
  obtain rfl := b.view.emb.injective e
  have h1 := (mem_rect3 p _).mp hj
  have h2 := (mem_rect3 p' _).mp hj'
  exact h (Prod.ext (Fin.ext (h1.1.symm.trans h2.1)) (Fin.ext (h1.2.symm.trans h2.2)))

theorem partSet_cover : Finset.univ.biUnion (partSet b) = b.view.set := by
  ext i
  constructor
  · intro hi
    obtain ⟨p, -, hp⟩ := Finset.mem_biUnion.mp hi
    obtain ⟨j, -, rfl⟩ := Finset.mem_map.mp hp
    exact Finset.mem_map.mpr ⟨j, Finset.mem_univ _, rfl⟩
  · intro hi
    obtain ⟨j, -, rfl⟩ := Finset.mem_map.mp hi
    have h2 : (j 2).val < 2048 := (j 2).isLt
    refine Finset.mem_biUnion.mpr ⟨(⟨(j 0).val, (j 0).isLt⟩, ⟨(j 2).val / 1024, by omega⟩), Finset.mem_univ _, ?_⟩
    exact Finset.mem_map.mpr ⟨j, (mem_rect3 _ _).mpr ⟨rfl, rfl⟩, rfl⟩

/-- The buffer at some contents. -/
def whole (b : Memref sig .tc .vmem S2x256x2048 .f32) (c : Dev nD) : sProp 𝕄 :=
  iprop(∃ f : Buf (Elt F) (b.view.loc (c : Thread nD τ)), b.view.loc (c : Thread nD τ) ↦[b.view.set]{fullShare} f)
/-- A slot and half of it at some contents. -/
def partAny (b : Memref sig .tc .vmem S2x256x2048 .f32) (σ χ : Fin 2) (c : Dev nD) : sProp 𝕄 :=
  iprop(∃ Y : Vec F S256x1024 .f32, owns (c : Thread nD τ) (part b σ χ) fullShare Y)

/-- A slot's ownership spelt at the buffer's elements. -/
def elemsAny (b : Memref sig .tc .vmem S2x256x2048 .f32) (c : Dev nD) (p : Fin 2 × Fin 2) : sProp 𝕄 :=
  iprop(∃ f : Buf (Elt F) (b.view.loc (c : Thread nD τ)), b.view.loc (c : Thread nD τ) ↦[partSet b p]{fullShare} f)

theorem partAny_elems (p : Fin 2 × Fin 2) : partAny (F := F) b p.1 p.2 c ⊢ elemsAny b c p := by
  unfold partAny elemsAny owns
  rw [partSet_eq]
  iintro ⟨%Y, %f, -, H⟩
  iexists f; iexact H
theorem elems_partAny (p : Fin 2 × Fin 2) : elemsAny (F := F) b c p ⊢ partAny b p.1 p.2 c := by
  unfold partAny elemsAny owns
  rw [partSet_eq]
  iintro ⟨%f, H⟩
  iexists (part b p.1 p.2).view.read (Elt F) f
  iexists f
  isplitr; · ipureintro; rfl
  iexact H

theorem elems_intro (p : Fin 2 × Fin 2) (f : Buf (Elt F) (b.view.loc (c : Thread nD τ))) :
    (b.view.loc (c : Thread nD τ) ↦[partSet b p]{fullShare} f : sProp 𝕄) ⊢ elemsAny b c p := by
  unfold elemsAny
  iintro H
  iexists f; iexact H

theorem four (Φ : Fin 2 × Fin 2 → sProp 𝕄) :
    bigSep Finset.univ Φ = iprop((Φ (0, 0) ∗ Φ (0, 1)) ∗ (Φ (1, 0) ∗ Φ (1, 1))) := by
  rw [bigSep_univ_prod, BI.bigSep_fin_two, BI.bigSep_fin_two, BI.bigSep_fin_two]
  rfl

theorem split_whole : whole (F := F) b c
    ⊢ iprop((partAny b 0 0 c ∗ partAny b 0 1 c) ∗ (partAny b 1 0 c ∗ partAny b 1 1 c)) := by
  refine BIBase.Entails.trans ?_ (Entails.of_eq (four (fun p => partAny (F := F) b p.1 p.2 c)))
  refine BIBase.Entails.trans (Q := bigSep Finset.univ (elemsAny (F := F) b c)) ?_ (bigSep_mono fun p _ => elems_partAny b c p)
  unfold whole
  iintro ⟨%f, H⟩
  ihave H := (Entails.of_eq (Ring.pointsTo_sub_blocks (partSet b) (partSet_disjoint b) b.view.set (partSet_cover b) f)) $$ H
  iapply (show (bigSep Finset.univ fun p => (b.view.loc (c : Thread nD τ) ↦[partSet b p]{fullShare} f : sProp 𝕄))
      ⊢ bigSep Finset.univ (elemsAny (F := F) b c) from bigSep_mono fun p _ => elems_intro b c p f) $$ H

theorem join_whole (f₀ : Buf (Elt F) (b.view.loc (c : Thread nD τ))) :
    iprop((partAny b 0 0 c ∗ partAny b 0 1 c) ∗ (partAny b 1 0 c ∗ partAny b 1 1 c)) ⊢ whole (F := F) b c := by
  refine BIBase.Entails.trans (Entails.of_eq (four (fun p => partAny (F := F) b p.1 p.2 c)).symm) ?_
  refine BIBase.Entails.trans (show _ ⊢ bigSep Finset.univ (elemsAny (F := F) b c) from bigSep_mono fun p _ => partAny_elems b c p) ?_
  unfold elemsAny whole
  exact Ring.pointsTo_sub_blocks_join_exists (ℓ := b.view.loc (c : Thread nD τ)) (q := fullShare) (partSet b) (partSet_disjoint b) b.view.set (partSet_cover b) f₀

end Slots

/-! ## Semaphores at their end -/

variable (X : Dev nD → Vec F S8192x256 .f32) (Wt : Dev nD → Vec F S256x4096 .f32) (K : Names)

/-- A semaphore past its last round gives back its counter, at zero. -/
theorem close_cell (k : Kd) (c : Dev nD) (R : ℕ) (hR : ∀ r, R ≤ r → dut k r = ∅) :
    iprop(know X Wt K ∗ at_ k c R) ⊢ (|={Set.univ}=> semVal (cell k c) 0 : sProp 𝕄) := by
  unfold know at_
  iintro ⟨⟨⟨#HI, -⟩, -⟩, Ha, -⟩
  ihave #Hk := (inv_of X Wt K.1 k c) $$ HI
  iapply (Rounds.cell_close ER (rd X Wt) (g := cell k c) (Set.mem_univ (K.1 (cell k c))) id (R := R) (fun r hr => by rw [duties_eq]; exact hR r hr))
  isplitr; · iexact Hk
  iexact Ha

/-- A credit semaphore whose 29 units were all taken. -/
theorem close_cred (δ : Fin 2) (c : Dev nD) :
    iprop(know X Wt K ∗ had δ c 29) ⊢ (|={Set.univ}=> semVal (cell (.cred δ) c) 0 : sProp 𝕄) := by
  unfold had
  iintro ⟨#HK, -, %T, %hT, Ha, -⟩
  obtain rfl : T = Finset.range 29 := Finset.eq_of_subset_of_card_le hT.1 (by rw [Finset.card_range]; exact hT.2)
  imod (show iprop(know X Wt K ∗ atPos ER (cell (.cred δ) c) 0 (Finset.range 29) 29)
      ⊢ (|={Set.univ}=> (atPos ER (cell (.cred δ) c) (0 + 1) ∅ 0 ∗ reached ER (cell (.cred δ) c) (0 + 1)) : sProp 𝕄) from by
    unfold know
    iintro ⟨⟨⟨#HI, -⟩, -⟩, Ha⟩
    ihave #Hk := (inv_of X Wt K.1 (.cred δ) c) $$ HI
    iapply (Rounds.fupd_skip ER (rd X Wt) (g := cell (.cred δ) c) (κ := K.1 (cell (.cred δ) c)) (R := 0) (T := Finset.range 29)
      (by rw [duties_eq]; exact Finset.Subset.refl _) (by rw [expect_eq]) (Set.mem_univ _))
    isplitr; · iexact Hk
    iexact Ha) $$ [Ha] with ⟨Ha, Hr⟩
  · isplitr; · iexact HK
    iexact Ha
  iapply (close_cell X Wt K (.cred δ) c 1 (fun r hr => if_neg (by omega)))
  isplitr; · iexact HK
  unfold at_
  isplitl [Ha]; · iexact Ha
  iexact Hr

end Cert.RingK
-- ==== Proof.Hold.lean ====
/-
What a device holds as it enters the kernel and what it holds as it leaves: the scoped semaphores, opened and closed, and
the four scratch buffers, cut into slots and put together again.
-/
module

public import proofs.«01_k».proof.Proof.Close

@[expose] public section

noncomputable section

namespace Cert.RingK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The scoped semaphores -/

/-- The kernel's own semaphores: the credits', the sends' and the receives' (direction, half, slot). -/
abbrev SK : Type := Fin 2 ⊕ ((Fin 2 × Fin 2 × Fin 2) ⊕ (Fin 2 × Fin 2 × Fin 2))
def kd : SK → Kd
  | .inl δ => .cred δ
  | .inr (.inl p) => .send p.1 p.2.2 p.2.1
  | .inr (.inr p) => .recv p.1 p.2.2 p.2.1
abbrev osem (k : SK) : SemLoc sig := semOf (kd k)

theorem kd_inj : Function.Injective kd := by
  rintro (δ | ⟨δ, χ, σ⟩ | ⟨δ, χ, σ⟩) (δ' | ⟨δ', χ', σ'⟩ | ⟨δ', χ', σ'⟩) h <;> cases h <;> rfl
theorem kd_ne : ∀ k : SK, kd k ≠ .bar := by
  rintro (δ | p | p) <;> exact fun h => by cases h
theorem osem_own : Pipeline.OwnSemFacts spec0 osem := by decide +kernel

/-- A family over one direction's semaphores of a half. -/
def ofHalf (Ψ : Kd → sProp 𝕄) (δ χ : Fin 2) : sProp 𝕄 :=
  iprop((Ψ (.send δ 0 χ) ∗ Ψ (.send δ 1 χ)) ∗ (Ψ (.recv δ 0 χ) ∗ Ψ (.recv δ 1 χ)))

theorem quads (Φ : Fin 2 × Fin 2 × Fin 2 → sProp 𝕄) :
    bigSep Finset.univ Φ = iprop(((Φ (0, 0, 0) ∗ Φ (0, 0, 1)) ∗ (Φ (0, 1, 0) ∗ Φ (0, 1, 1)))
      ∗ ((Φ (1, 0, 0) ∗ Φ (1, 0, 1)) ∗ (Φ (1, 1, 0) ∗ Φ (1, 1, 1)))) := by
  rw [bigSep_univ_prod, BI.bigSep_fin_two, four (fun b => Φ (0, b)), four (fun b => Φ (1, b))]
  rfl

theorem sems_eq (Ψ : Kd → sProp 𝕄) :
    bigSep Finset.univ (fun k : SK => Ψ (kd k)) = iprop((Ψ (.cred 0) ∗ Ψ (.cred 1))
      ∗ (((Ψ (.send 0 0 0) ∗ Ψ (.send 0 1 0)) ∗ (Ψ (.send 0 0 1) ∗ Ψ (.send 0 1 1)))
        ∗ ((Ψ (.send 1 0 0) ∗ Ψ (.send 1 1 0)) ∗ (Ψ (.send 1 0 1) ∗ Ψ (.send 1 1 1))))
      ∗ (((Ψ (.recv 0 0 0) ∗ Ψ (.recv 0 1 0)) ∗ (Ψ (.recv 0 0 1) ∗ Ψ (.recv 0 1 1)))
        ∗ ((Ψ (.recv 1 0 0) ∗ Ψ (.recv 1 1 0)) ∗ (Ψ (.recv 1 0 1) ∗ Ψ (.recv 1 1 1))))) := by
  rw [bigSep_univ_sum, bigSep_univ_sum, BI.bigSep_fin_two, quads (fun p => Ψ (kd (.inr (.inl p)))), quads (fun p => Ψ (kd (.inr (.inr p))))]
  rfl

theorem sems_split (Ψ : Kd → sProp 𝕄) :
    bigSep Finset.univ (fun k : SK => Ψ (kd k)) ⊢ iprop((Ψ (.cred 0) ∗ ofHalf Ψ 0 0 ∗ ofHalf Ψ 0 1) ∗ (Ψ (.cred 1) ∗ ofHalf Ψ 1 0 ∗ ofHalf Ψ 1 1)) := by
  rw [sems_eq]
  unfold ofHalf
  iintro ⟨⟨C0, C1⟩, ⟨⟨S00, S01⟩, S10, S11⟩, ⟨R00, R01⟩, R10, R11⟩
  isplitl [C0 S00 S01 R00 R01]
  · isplitl [C0]; · iexact C0
    isplitl [S00 R00]
    · isplitl [S00]; · iexact S00
      iexact R00
    · isplitl [S01]; · iexact S01
      iexact R01
  · isplitl [C1]; · iexact C1
    isplitl [S10 R10]
    · isplitl [S10]; · iexact S10
      iexact R10
    · isplitl [S11]; · iexact S11
      iexact R11

theorem sems_join (Ψ : Kd → sProp 𝕄) :
    iprop((Ψ (.cred 0) ∗ ofHalf Ψ 0 0 ∗ ofHalf Ψ 0 1) ∗ (Ψ (.cred 1) ∗ ofHalf Ψ 1 0 ∗ ofHalf Ψ 1 1)) ⊢ bigSep Finset.univ (fun k : SK => Ψ (kd k)) := by
  rw [sems_eq]
  unfold ofHalf
  iintro ⟨⟨C0, ⟨S00, R00⟩, S01, R01⟩, C1, ⟨S10, R10⟩, S11, R11⟩
  isplitl [C0 C1]
  · isplitl [C0]; · iexact C0
    iexact C1
  isplitl [S00 S01 S10 S11]
  · isplitl [S00 S01]
    · isplitl [S00]; · iexact S00
      iexact S01
    · isplitl [S10]; · iexact S10
      iexact S11
  · isplitl [R00 R01]
    · isplitl [R00]; · iexact R00
      iexact R01
    · isplitl [R10]; · iexact R10
      iexact R11

/-! ## The scratch buffers -/

/-- The four scratch buffers at some contents. -/
def scratch (c : Dev nD) : sProp 𝕄 :=
  iprop(whole (sndM 0) c ∗ whole (rcvM 0) c ∗ whole (sndM 1) c ∗ whole (rcvM 1) c)

theorem scratch_eq (c : Dev nD) :
    (Pipeline.scopedRest (Ix := ℕ) (Name := ℕ) (U := UU) (Lvl := ℕ) (Val := Elt F) spec0 c : sProp 𝕄) = scratch c := by
  rw [scopedRest0_eq]
  unfold scratch whole sndM rcvM
  simp only [Memref.view_whole, View.set_whole]

/-- The slots and halves of a direction's two buffers. -/
def slots (δ : Fin 2) (c : Dev nD) : sProp 𝕄 :=
  iprop(((sndAny δ 0 0 c ∗ sndAny δ 0 1 c) ∗ (sndAny δ 1 0 c ∗ sndAny δ 1 1 c))
    ∗ ((rcvAny δ 0 0 c ∗ rcvAny δ 0 1 c) ∗ (rcvAny δ 1 0 c ∗ rcvAny δ 1 1 c)))

theorem slots_parts (δ : Fin 2) (c : Dev nD) : slots (F := F) δ c
    = iprop(((partAny (sndM δ) 0 0 c ∗ partAny (sndM δ) 0 1 c) ∗ (partAny (sndM δ) 1 0 c ∗ partAny (sndM δ) 1 1 c))
      ∗ ((partAny (rcvM δ) 0 0 c ∗ partAny (rcvM δ) 0 1 c) ∗ (partAny (rcvM δ) 1 0 c ∗ partAny (rcvM δ) 1 1 c))) := rfl

theorem slots_of (δ : Fin 2) (c : Dev nD) : iprop(whole (sndM δ) c ∗ whole (rcvM δ) c) ⊢ slots (F := F) δ c := by
  rw [slots_parts]
  iintro ⟨Hs, Hr⟩
  isplitl [Hs]
  · iapply (split_whole (F := F) (sndM δ) c) $$ Hs
  · iapply (split_whole (F := F) (rcvM δ) c) $$ Hr

theorem some_contents (b : Memref sig .tc .vmem S2x256x2048 .f32) (c : Dev nD) :
    partAny (F := F) b 0 0 c ⊢ iprop(∃ _ : Buf (Elt F) (b.view.loc (c : Thread nD τ)), partAny b 0 0 c) := by
  unfold partAny owns
  iintro ⟨%Y, %f, %h, H⟩
  iexists f
  iexists Y
  iexists f
  isplitr; · ipureintro; exact h
  iexact H

theorem join_parts (b : Memref sig .tc .vmem S2x256x2048 .f32) (c : Dev nD) :
    iprop((partAny b 0 0 c ∗ partAny b 0 1 c) ∗ (partAny b 1 0 c ∗ partAny b 1 1 c)) ⊢ whole (F := F) b c := by
  iintro ⟨⟨H, H1⟩, H2⟩
  ihave H := (some_contents b c) $$ H
  icases H with ⟨%f₀, H⟩
  iapply (join_whole b c f₀)
  isplitl [H H1]
  · isplitl [H]; · iexact H
    iexact H1
  iexact H2

theorem of_slots (δ : Fin 2) (c : Dev nD) : slots (F := F) δ c ⊢ iprop(whole (sndM δ) c ∗ whole (rcvM δ) c) := by
  rw [slots_parts]
  iintro ⟨Hs, Hr⟩
  isplitl [Hs]
  · iapply (join_parts (F := F) (sndM δ) c) $$ Hs
  · iapply (join_parts (F := F) (rcvM δ) c) $$ Hr

/-! ## Entering -/

/-- What the launch dealt device `c` for direction `δ`: its tokens and credits, its two places at the stocks. -/
def dealt (δ : Fin 2) (c : Dev nD) : sProp 𝕄 :=
  iprop((ahead δ 0 c 31 0 ∗ ahead δ 1 c 31 0) ∗ (gets δ c 29 0 ∗ toks δ c 30 0) ∗ (takenOut δ c 0 ∗ putIn δ c 0)
    ∗ dutyTok ER (cell .bar (back δ c)) 0 δ.val ∗ reached ER (cell .bar (back δ c)) 0)

theorem own_of (δ : Fin 2) (c : Dev nD) :
    iprop(reached ER (cell (.cred (opp δ)) c) 0 ∗ dealt δ c ∗ (at_ (.cred δ) c 0 ∗ ofHalf (fun k => at_ k c 0) δ 0 ∗ ofHalf (fun k => at_ k c 0) δ 1)
      ∗ slots δ c) ⊢ own (F := F) δ c := by
  unfold dealt ofHalf slots own free had bring greet lend at_
  rw [fwd_back]
  iintro ⟨#HR, ⟨⟨A0, A1⟩, ⟨G, T⟩, ⟨D, P⟩, B, Br⟩, ⟨⟨C, -⟩, ⟨⟨⟨S00, #s00⟩, ⟨S01, #s01⟩⟩, ⟨R00, #r00⟩, ⟨R01, #r01⟩⟩, ⟨⟨S10, #s10⟩, ⟨S11, #s11⟩⟩, ⟨R10, #r10⟩, ⟨R11, #r11⟩⟩,
    ⟨⟨X00, X01⟩, X10, X11⟩, ⟨Y00, Y01⟩, Y10, Y11⟩
  isplitl [S00 S01 R00 R01 X00 X10 A0]
  · isplitl [S00 R00 X00]
    · isplitl [S00]
      · isplitl [S00]; · iexact S00
        iexact s00
      isplitl [X00]; · iexact X00
      isplitl [R00]; · iexact R00
      iexact r00
    isplitl [S01 R01 X10]
    · isplitl [S01]
      · isplitl [S01]; · iexact S01
        iexact s01
      isplitl [X10]; · iexact X10
      isplitl [R01]; · iexact R01
      iexact r01
    iexact A0
  isplitl [S10 S11 R10 R11 X01 X11 A1]
  · isplitl [S10 R10 X01]
    · isplitl [S10]
      · isplitl [S10]; · iexact S10
        iexact s10
      isplitl [X01]; · iexact X01
      isplitl [R10]; · iexact R10
      iexact r10
    isplitl [S11 R11 X11]
    · isplitl [S11]
      · isplitl [S11]; · iexact S11
        iexact s11
      isplitl [X11]; · iexact X11
      isplitl [R11]; · iexact R11
      iexact r11
    iexact A1
  isplitl [C D]
  · isplitl [D]; · iexact D
    iexists ∅
    isplitr; · ipureintro; exact ⟨Finset.empty_subset _, Nat.le_refl 0⟩
    isplitl [C]; · iexact C
    rw [bigSep_empty]; iempintro
  isplitl [G]; · iexact G
  isplitl [P]; · iexact P
  isplitl [T]; · iexact T
  isplitl [B]; · iexact B
  isplitl [Y00 Y01 Y10 Y11]
  · isplitl [Y00 Y01 Y10 Y11]
    · isplitl [Y00]
      · isplitl [Y00]; · iexact Y00
        iexact r00
      isplitl [Y01]
      · isplitl [Y01]; · iexact Y01
        iexact r10
      isplitl [Y10]
      · isplitl [Y10]; · iexact Y10
        iexact r01
      · isplitl [Y11]; · iexact Y11
        iexact r11
    iexact HR
  iexact Br

/-- What the launch dealt device `c`. -/
def seeds (c : Dev nD) : sProp 𝕄 :=
  iprop((at_ .bar c 0 ∗ cred (tallyAt (cell .bar c) 0 2)) ∗ dealt 0 c ∗ dealt 1 c)

/-- With the semaphores opened and the scratch buffers it is what the body starts from. -/
theorem start_of (c : Dev nD) :
    iprop(seeds c ∗ bigSep Finset.univ (fun k : SK => at_ (kd k) c 0) ∗ scratch c) ⊢ start (F := F) c := by
  unfold seeds start scratch
  iintro ⟨⟨Hb, D0, D1⟩, Hs, W0, V0, W1, V1⟩
  ihave Hs := (sems_split (fun k => at_ (F := F) k c 0)) $$ Hs
  icases Hs with ⟨⟨C0, H00, H01⟩, C1, H10, H11⟩
  ihave C0 := (show at_ (F := F) (.cred 0) c 0 ⊢ iprop(at_ (.cred 0) c 0 ∗ reached ER (cell (.cred 0) c) 0) from by
    unfold at_
    iintro ⟨H, #Hr⟩
    isplitl [H]
    · isplitl [H]; · iexact H
      iexact Hr
    iexact Hr) $$ C0
  ihave C1 := (show at_ (F := F) (.cred 1) c 0 ⊢ iprop(at_ (.cred 1) c 0 ∗ reached ER (cell (.cred 1) c) 0) from by
    unfold at_
    iintro ⟨H, #Hr⟩
    isplitl [H]
    · isplitl [H]; · iexact H
      iexact Hr
    iexact Hr) $$ C1
  icases C0 with ⟨C0, K0⟩
  icases C1 with ⟨C1, K1⟩
  isplitl [Hb]; · iexact Hb
  isplitl [D0 W0 V0 C0 K1 H00 H01]
  · iapply (own_of 0 c)
    isplitl [K1]; · iexact K1
    isplitl [D0]; · iexact D0
    isplitl [C0 H00 H01]
    · isplitl [C0]; · iexact C0
      isplitl [H00]; · iexact H00
      iexact H01
    iapply (slots_of 0 c)
    isplitl [W0]; · iexact W0
    iexact V0
  · iapply (own_of 1 c)
    isplitl [K0]; · iexact K0
    isplitl [D1]; · iexact D1
    isplitl [C1 H10 H11]
    · isplitl [C1]; · iexact C1
      isplitl [H10]; · iexact H10
      iexact H11
    iapply (slots_of 1 c)
    isplitl [W1]; · iexact W1
    iexact V1

/-! ## Leaving -/

variable (X : Dev nD → Vec F S8192x256 .f32) (Wt : Dev nD → Vec F S256x4096 .f32) (K : Names)

/-- The counters at zero. -/
abbrev zero (c : Dev nD) (k : Kd) : sProp 𝕄 := semVal (cell k c) 0

theorem none_after (δ σ χ : Fin 2) (R : ℕ) (h : 31 ≤ 2 * R + σ.val) :
    (∀ r, R ≤ r → dut (.send δ σ χ) r = ∅) ∧ (∀ r, R ≤ r → dut (.recv δ σ χ) r = ∅) :=
  ⟨fun r hr => if_neg (by omega), fun r hr => if_neg (by omega)⟩

/-- One half of one direction at its end. -/
theorem close_half (δ χ : Fin 2) (c : Dev nD) :
    iprop(know X Wt K ∗ rest δ χ c) ⊢ (|={Set.univ}=> (ofHalf (zero c) δ χ ∗ (sndAny δ 0 χ c ∗ sndAny δ 1 χ c) ∗ rcvAny δ 0 χ c) : sProp 𝕄) := by
  unfold rest free
  iintro ⟨#HK, ⟨S1, X1, R1⟩, ⟨S0, X0, R0⟩, Y⟩
  imod (close_cell X Wt K (.send δ 1 χ) c 15 (none_after δ 1 χ 15 (by decide)).1) $$ [S1] with S1
  · isplitr; · iexact HK
    iexact S1
  imod (close_cell X Wt K (.recv δ 1 χ) c 15 (none_after δ 1 χ 15 (by decide)).2) $$ [R1] with R1
  · isplitr; · iexact HK
    iexact R1
  imod (close_cell X Wt K (.send δ 0 χ) c 16 (none_after δ 0 χ 16 (by decide)).1) $$ [S0] with S0
  · isplitr; · iexact HK
    iexact S0
  imod (close_cell X Wt K (.recv δ 0 χ) c 16 (none_after δ 0 χ 16 (by decide)).2) $$ [R0] with R0
  · isplitr; · iexact HK
    iexact R0
  imodintro
  unfold ofHalf
  isplitl [S0 S1 R0 R1]
  · isplitl [S0 S1]
    · isplitl [S0]; · iexact S0
      iexact S1
    · isplitl [R0]; · iexact R0
      iexact R1
  isplitl [X0 X1]
  · isplitl [X0]; · iexact X0
    iexact X1
  iexact Y

/-- One direction at its end. -/
theorem close_dir (δ : Fin 2) (c : Dev nD) :
    iprop(know X Wt K ∗ rest δ 0 c ∗ rest δ 1 c ∗ had δ c 29 ∗ read δ 29 c)
      ⊢ (|={Set.univ}=> ((zero c (.cred δ) ∗ ofHalf (zero c) δ 0 ∗ ofHalf (zero c) δ 1) ∗ whole (sndM δ) c ∗ whole (rcvM δ) c) : sProp 𝕄) := by
  unfold read
  iintro ⟨#HK, H0, H1, Hd, ⟨Y0, -⟩, Y1, -⟩
  imod (close_half X Wt K δ 0 c) $$ [H0] with ⟨Z0, ⟨X00, X10⟩, Y00⟩
  · isplitr; · iexact HK
    iexact H0
  imod (close_half X Wt K δ 1 c) $$ [H1] with ⟨Z1, ⟨X01, X11⟩, Y01⟩
  · isplitr; · iexact HK
    iexact H1
  imod (close_cred X Wt K δ c) $$ [Hd] with Zc
  · isplitr; · iexact HK
    iexact Hd
  imodintro
  isplitl [Z0 Z1 Zc]
  · isplitl [Zc]; · iexact Zc
    isplitl [Z0]; · iexact Z0
    iexact Z1
  iapply (of_slots δ c)
  unfold slots
  isplitl [X00 X01 X10 X11]
  · isplitl [X00 X01]
    · isplitl [X00]; · iexact X00
      iexact X01
    · isplitl [X10]; · iexact X10
      iexact X11
  · isplitl [Y00 Y01]
    · isplitl [Y00]; · iexact Y00
      iexact Y01
    · isplitl [Y0]; · iexact Y0
      iexact Y1

/-- Everything at its end: the counters at zero and the scratch buffers whole. -/
theorem finish (c : Dev nD) :
    iprop(know X Wt K ∗ at_ .bar c 1 ∗ left c)
      ⊢ (|={Set.univ}=> (zero c .bar ∗ bigSep Finset.univ (fun k : SK => zero c (kd k)) ∗ scratch c) : sProp 𝕄) := by
  unfold left
  iintro ⟨#HK, Hb, ⟨r00, r10, r01, r11⟩, ⟨h0, h1⟩, d0, d1⟩
  imod (close_dir X Wt K 0 c) $$ [r00 r01 h0 d0] with ⟨Z0, W0, V0⟩
  · isplitr; · iexact HK
    isplitl [r00]; · iexact r00
    isplitl [r01]; · iexact r01
    isplitl [h0]; · iexact h0
    iexact d0
  imod (close_dir X Wt K 1 c) $$ [r10 r11 h1 d1] with ⟨Z1, W1, V1⟩
  · isplitr; · iexact HK
    isplitl [r10]; · iexact r10
    isplitl [r11]; · iexact r11
    isplitl [h1]; · iexact h1
    iexact d1
  imod (close_cell X Wt K .bar c 1 (fun r hr => if_neg (by omega))) $$ [Hb] with Hb
  · isplitr; · iexact HK
    iexact Hb
  imodintro
  isplitl [Hb]; · iexact Hb
  isplitl [Z0 Z1]
  · iapply (sems_join (zero (F := F) c))
    isplitl [Z0]; · iexact Z0
    iexact Z1
  unfold scratch
  isplitl [W0]; · iexact W0
  isplitl [V0]; · iexact V0
  isplitl [W1]; · iexact W1
  iexact V1

end Cert.RingK
-- ==== Proof.Table.lean ====
/-
The table of ring places the host computes: row `c` of four tables of constants, put behind one another.
-/
module

public import proofs.«01_k».proof.Proof.Ring
public import proofs.«01_k».proof.Proof.Gen.KernelIdeal.Regions
public import Idealize.ShloMosaic.Lib.StableHlo.RunRead

@[expose] public section

noncomputable section

namespace Cert.RingK

open Cert.KernelIdeal Cert.KernelIdeal.Gen
open Idealize.ShloMosaic Idealize.ShloMosaic.TcCoe
open Idealize.SL Idealize.SL.Sem
open Idealize.ShloMosaic.StableHlo

variable {F : FTy → Type} [FloatOps F]

abbrev Words (s : Shape) : Type := s.Idx → BitVec 32

/-- The place read: a negative one counts from the end. -/
def place (v : Words S_) : Words S1 :=
  broadcastInDim S1 ![] bcast_S_S1 (select (cmpi .slt v (constantI S_ 32 0#32)) (addi v (constantI S_ 32 32#32)) v)
/-- Whether it lies in the table. -/
def inside (j : Words S1) : S_.Idx → BitVec 1 :=
  Host.reduce IntOp.andi (andi (cmpi .sge j (broadcastInDim S1 ![] bcast_S_S1 (constantI S_ 32 0#32))) (cmpi .sle j (constantI S1 32 31#32)))
    (constantI S_ 1 1#1) reducesTo_S1_S_d0 h_S_
/-- The word at a place, and the row at a place. -/
def pick (T : Words S32) (v : Words S_) : Words S_ :=
  select (inside (place v)) (Host.gather gather_S32_S1_S__n_0_n_n_0_0_1 T (place v)) (constantI S_ 32 2147483648#32)
def pickRow (T : Words S32x32) (v : Words S_) : Words S32 :=
  select (broadcastInDim S32 ![] bcast_S_S32 (inside (place v))) (Host.gather gather_S32x32_S1_S32_0_0_n_n_0_0_132 T (place v))
    (broadcastInDim S32 ![] bcast_S_S32 (constantI S_ 32 2147483648#32))

/-- The device's number as the host computes it. -/
def self (c : Dev nD) : Words S_ :=
  Host.remui (Host.divui (constantI S_ 32 (Dev.word c)) (constantI S_ 32 1#32)) (constantI S_ 32 32#32)

def T0 : Words S32 := fun i => lit0 (S32.rowMajor i)
def T1 : Words S32 := fun i => lit1 (S32.rowMajor i)
def T2 : Words S32x32 := fun i => lit2 (S32x32.rowMajor i)
def T3 : Words S32x32 := fun i => lit3 (S32x32.rowMajor i)

theorem pick_0 : ∀ (c : Dev nD) (i : S_.Idx), pick T0 (self c) i = dw (nx c) := by decide +kernel
theorem pick_1 : ∀ (c : Dev nD) (i : S_.Idx), pick T1 (self c) i = dw (pv c) := by decide +kernel

theorem pick_2 : ∀ (c : Dev nD) (i : S32.Idx), pickRow T2 (self c) i = dw (blk 0 (i 0).val c) := by decide +kernel
theorem pick_3 : ∀ (c : Dev nD) (i : S32.Idx), pickRow T3 (self c) i = dw (blk 1 (i 0).val c) := by decide +kernel

/-! ## The host's lines, one by one -/

variable (V : Valuation τ sig (Elt F))

theorem after_1 : StableHlo.after hostOps0_1 V main_v5 = pick (V main_c) (V main_v4) := by
  unfold hostOps0_1
  after_results
  rfl
theorem after_2 : StableHlo.after hostOps0_2 V main_v6 = broadcastInDim S1 ![] bcast_S_S1 (V main_v5 : Words S_) := by
  unfold hostOps0_2
  after_results
theorem after_3 : StableHlo.after hostOps0_3 V main_v7 = pick (V main_c_0) (V main_v4) := by
  unfold hostOps0_3
  after_results
  rfl
theorem after_4 : StableHlo.after hostOps0_4 V main_v8 = broadcastInDim S1 ![] bcast_S_S1 (V main_v7 : Words S_) := by
  unfold hostOps0_4
  after_results
theorem after_5 : StableHlo.after hostOps0_5 V main_v9 = pickRow (V main_c_1) (V main_v4) := by
  unfold hostOps0_5
  after_results
  rfl
theorem after_6 : StableHlo.after hostOps0_6 V main_v10 = pickRow (V main_c_2) (V main_v4) := by
  unfold hostOps0_6
  after_results
  rfl

/-- The four rows behind one another. -/
def joined (a b : Words S1) (d e : Words S32) : Words S66 :=
  concatenate S66 0 [⟨S1, a⟩, ⟨S1, b⟩, ⟨S32, d⟩, ⟨S32, e⟩] concatenates_S1_S1_S32_S32_S66_d0

theorem after_7 : StableHlo.after hostOps0_7 V main_v11 = joined (V main_v6) (V main_v8) (V main_v9) (V main_v10) := by
  unfold hostOps0_7
  after_results
  rfl

variable (c : Dev nD)

theorem after_0_v4 : StableHlo.after (hostOps0 c) V main_v4 = self c := by
  unfold hostOps0
  after_results
  rfl
theorem after_0_c : StableHlo.after (hostOps0 c) V main_c = T0 := by
  unfold hostOps0
  after_results
  rfl
theorem after_0_c_0 : StableHlo.after (hostOps0 c) V main_c_0 = T1 := by
  unfold hostOps0
  after_results
  rfl
theorem after_0_c_1 : StableHlo.after (hostOps0 c) V main_c_1 = T2 := by
  unfold hostOps0
  after_results
  rfl
theorem after_0_c_2 : StableHlo.after (hostOps0 c) V main_c_2 = T3 := by
  unfold hostOps0
  after_results
  rfl

/-! ## The table -/

theorem joined_tab : ∀ (c : Dev nD) (i : S66.Idx),
    joined (broadcastInDim S1 ![] bcast_S_S1 (pick T0 (self c))) (broadcastInDim S1 ![] bcast_S_S1 (pick T1 (self c)))
      (pickRow T2 (self c)) (pickRow T3 (self c)) i = tabW c (i 0).val := by decide +kernel

variable (m : (ℓ : Loc nD τ sig) → Buf (Elt F) ℓ)

/-- The table the kernel is given. -/
theorem table_eq : V8 m c main_v11 = tab c := by
  have v4 : V1 m c main_v4 = self c := after_0_v4 _ c
  have v6 : V7 m c main_v6 = broadcastInDim S1 ![] bcast_S_S1 (pick T0 (self c)) := by
    rw [V7_of m c _ (by decide), V6_of m c _ (by decide), V5_of m c _ (by decide), V4_of m c _ (by decide)]
    refine (after_2 (V2 m c)).trans ?_
    rw [show V2 m c main_v5 = pick (V1 m c main_c) (V1 m c main_v4) from after_1 _, v4, show V1 m c main_c = T0 from after_0_c _ c]
  have v8 : V7 m c main_v8 = broadcastInDim S1 ![] bcast_S_S1 (pick T1 (self c)) := by
    rw [V7_of m c _ (by decide), V6_of m c _ (by decide)]
    refine (after_4 (V4 m c)).trans ?_
    rw [show V4 m c main_v7 = pick (V3 m c main_c_0) (V3 m c main_v4) from after_3 _, V3_of m c main_v4 (by decide), V2_of m c main_v4 (by decide), v4,
      V3_of m c main_c_0 (by decide), V2_of m c main_c_0 (by decide), show V1 m c main_c_0 = T1 from after_0_c_0 _ c]
  have v9 : V7 m c main_v9 = pickRow T2 (self c) := by
    rw [V7_of m c _ (by decide)]
    refine (after_5 (V5 m c)).trans ?_
    rw [V5_of m c main_v4 (by decide), V4_of m c main_v4 (by decide), V3_of m c main_v4 (by decide), V2_of m c main_v4 (by decide), v4,
      V5_of m c main_c_1 (by decide), V4_of m c main_c_1 (by decide), V3_of m c main_c_1 (by decide), V2_of m c main_c_1 (by decide), show V1 m c main_c_1 = T2 from after_0_c_1 _ c]
  have v10 : V7 m c main_v10 = pickRow T3 (self c) := by
    refine (after_6 (V6 m c)).trans ?_
    rw [V6_of m c main_v4 (by decide), V5_of m c main_v4 (by decide), V4_of m c main_v4 (by decide), V3_of m c main_v4 (by decide), V2_of m c main_v4 (by decide), v4,
      V6_of m c main_c_2 (by decide), V5_of m c main_c_2 (by decide), V4_of m c main_c_2 (by decide), V3_of m c main_c_2 (by decide), V2_of m c main_c_2 (by decide), show V1 m c main_c_2 = T3 from after_0_c_2 _ c]
  refine (after_7 (V7 m c)).trans ?_
  rw [v6, v8, v9, v10]
  exact funext fun i => joined_tab c i

end Cert.RingK
-- ==== Proof.Region.lean ====
/-
The kernel region: what it holds at entry and exit, the body's obligation, and the region as a segment of the program.
-/
module

public import proofs.«01_k».proof.Proof.Glue
public import proofs.«01_k».proof.Proof.Hold
public import proofs.«01_k».proof.Proof.Table
public import proofs.«01_k».proof.Proof.Gen.KernelIdeal.Points
public import Idealize.ShloMosaic.Lib.Pipeline.RegionTalk
public import Idealize.ShloMosaic.Lib.Pipeline.Value

@[expose] public section

noncomputable section

namespace Cert.RingK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-! ## The windows are whole arrays -/

theorem read_meta (f : Words S66) : ((cfg0.win 0).blk t0_0).view.read (Elt F) f = f := by
  funext j
  refine congrArg f (funext fun a => Fin.ext ?_)
  fin_cases a
  show 0 * 66 + 1 * (j 0).val = (j 0).val
  omega
theorem read_x (f : Vec F S8192x256 .f32) : ((cfg0.win 1).blk t0_0).view.read (Elt F) f = f := by
  funext j
  refine congrArg f (funext fun a => Fin.ext ?_)
  fin_cases a
  · show 0 * 8192 + 1 * (j 0).val = (j 0).val
    omega
  · show 0 * 256 + 1 * (j 1).val = (j 1).val
    omega
theorem read_w (f : Vec F S256x4096 .f32) : ((cfg0.win 2).blk t0_0).view.read (Elt F) f = f := by
  funext j
  refine congrArg f (funext fun a => Fin.ext ?_)
  fin_cases a
  · show 0 * 256 + 1 * (j 0).val = (j 0).val
    omega
  · show 0 * 4096 + 1 * (j 1).val = (j 1).val
    omega
theorem read_out (f : Vec F S256x4096 .f32) : ((cfg0.win 3).blk t0_0).view.read (Elt F) f = f := by
  funext j
  refine congrArg f (funext fun a => Fin.ext ?_)
  fin_cases a
  · show 0 * 256 + 1 * (j 0).val = (j 0).val
    omega
  · show 0 * 4096 + 1 * (j 1).val = (j 1).val
    omega

/-! ## The region's data -/

/-- The blocks of `x` and `w` on the devices. -/
def Xm (c : Dev nD) : Vec F S8192x256 .f32 := m ((c : Thread nD τ).loc main_arg0)
def Wm (c : Dev nD) : Vec F S256x4096 .f32 := m ((c : Thread nD τ).loc main_arg1)

theorem V8_arg0 (c : Dev nD) : V8 m c main_arg0 = Xm m c :=
  (V9_of m (fun _ r c => V8 m c r) c main_arg0 (by decide)).symm.trans (V9_main_arg0 m _ c)
theorem V8_arg1 (c : Dev nD) : V8 m c main_arg1 = Wm m c :=
  (V9_of m (fun _ r c => V8 m c r) c main_arg1 (by decide)).symm.trans (V9_main_arg1 m _ c)

/-- At entry, and at exit. -/
def enter (c : Dev nD) : sProp 𝕄 := iprop((∃ K, know (Xm m) (Wm m) K) ∗ start c ∗ ∃ r, prngReg c r)
def leave (c : Dev nD) : sProp 𝕄 := iprop(zero c .bar ∗ bigSep Finset.univ (fun k : SK => zero c (kd k)) ∗ scratch c ∗ ∃ r, prngReg c r)

def dat0 (c : Dev nD) : Dat τ (Elt F) ℕ ℕ UU ℕ cfg0 c where
  A w := match w with
    | 0 => V8 m c main_v11
    | 1 => V8 m c main_arg0
    | 2 => V8 m c main_arg1
    | 3 => V8 m c main_v12
  after w _ := match w with
    | 0 => tab c
    | 1 => Xm m c
    | 2 => Wm m c
    | 3 => outV (Xm m) (Wm m) c
  Φ t := if t.val = 0 then enter m c else leave c
  q _ := fullShare
  owed t := if t.val = 0 then O₀ c else 0

def pdats : (p : Fin 1) → (c : Dev nD) → Dat τ (Elt F) ℕ ℕ UU ℕ (Pipeline.pin (pcfgs (F := F)) adm p) c
  | 0 => dat0 m

theorem before_0 (c : Dev nD) (d) : (dat0 m c).before 0 t0_0 d = tab c := by
  unfold Pipeline.Dat.before; rw [if_pos (fetch0_0 t0_0)]
  exact (read_meta _).trans (table_eq c m)
theorem before_1 (c : Dev nD) (d) : (dat0 m c).before 1 t0_0 d = Xm m c := by
  unfold Pipeline.Dat.before; rw [if_pos (fetch0_1 t0_0)]
  exact (read_x (F := F) _).trans (V8_arg0 m c)
theorem before_2 (c : Dev nD) (d) : (dat0 m c).before 2 t0_0 d = Wm m c := by
  unfold Pipeline.Dat.before; rw [if_pos (fetch0_2 t0_0)]
  exact (read_w (F := F) _).trans (V8_arg1 m c)

theorem owed_first (c : Dev nD) : (dat0 m c).owed t0_0.castSucc = O₀ c := by
  show (if (t0_0.castSucc : Fin (cfg0.N + 1)).val = 0 then O₀ c else 0) = O₀ c
  exact if_pos rfl
theorem owed_zero (c : Dev nD) : (dat0 m c).owed 0 = O₀ c := by
  show (if (0 : Fin (cfg0.N + 1)).val = 0 then O₀ c else 0) = O₀ c
  exact if_pos rfl
theorem owed_last (c : Dev nD) : (dat0 m c).owed (Fin.last cfg0.N) = 0 := by
  show (if (Fin.last cfg0.N).val = 0 then O₀ c else 0) = 0
  rw [Fin.val_last, if_neg (by rw [show cfg0.N = 1 from N_0]; decide)]
theorem Φ_first (c : Dev nD) : (dat0 m c).Φ t0_0.castSucc = enter m c := by
  show (if (t0_0.castSucc : Fin (cfg0.N + 1)).val = 0 then enter m c else leave c) = enter m c
  exact if_pos rfl
theorem Φ_zero (c : Dev nD) : (dat0 m c).Φ 0 = enter m c := by
  show (if (0 : Fin (cfg0.N + 1)).val = 0 then enter m c else leave c) = enter m c
  exact if_pos rfl
theorem Φ_last (c : Dev nD) : (dat0 m c).Φ (Fin.last cfg0.N) = leave c := by
  show (if (Fin.last cfg0.N).val = 0 then enter m c else leave c) = leave c
  rw [Fin.val_last, if_neg (by rw [show cfg0.N = 1 from N_0]; decide)]

theorem owesAt_of (c : Dev nD) (t : Fin (cfg0.N + 1)) (O : Tl) (h : (dat0 m c).owed t = O) :
    owe (F := F) c O ⊢ (dat0 m c).owesAt 0 t := by
  unfold Dat.owesAt Pipeline.owesWithin Dat.bound owe
  rw [h]
  iintro ⟨%W, HO⟩
  iexists W
  isplitr; · ipureintro; exact fun _ _ => Or.inl trivial
  iexact HO
theorem of_owesAt (c : Dev nD) (t : Fin (cfg0.N + 1)) (O : Tl) (h : (dat0 m c).owed t = O) :
    (dat0 m c).owesAt 0 t ⊢ owe (F := F) c O := by
  unfold Dat.owesAt Pipeline.owesWithin owe
  rw [h]
  iintro ⟨%W, -, HO⟩
  iexists W
  iexact HO

/-! ## The body -/

theorem wpc_fupd (c : Dev nD) (p : PG F PUnit) (Kt : PUnit → sProp 𝕄) :
    wpc c p (fun v => iprop(|={Set.univ}=> Kt v)) ⊢ wpc c p Kt := by
  unfold wpc
  exact wp_fupd frame (wpE (defs₀ (F := F)) 𝒱₀ c none) (E := Set.univ) p Kt

theorem wp_cc0 (c : Dev nD) (a0 : Memref sig .tc .smem S66 .i32) (h0) (x : Memref sig .tc .vmem S8192x256 .f32) (h1)
    (w : Memref sig .tc .vmem S256x4096 .f32) (h2) (out : Memref sig .tc .vmem S256x4096 .f32) (h3) (Kt : PUnit → sProp 𝕄) :
    iprop(enter m c ∗ owe c (O₀ c) ∗ inp a0 x w (Xm m) (Wm m) c ∗ (∃ Y : Vec F S256x4096 .f32, owns (c : Thread nD τ) out fullShare Y)
        ∗ (iprop(leave c ∗ owe c 0 ∗ inp a0 x w (Xm m) (Wm m) c ∗ owns (c : Thread nD τ) out fullShare (outV (Xm m) (Wm m) c)) -∗ Kt ⟨⟩))
      ⊢ wpc c (cc0_body a0 h0 x h1 w h2 out h3 (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scratch8 cc0_scratch9) Kt := by
  rw [body_eq]
  unfold enter
  iintro ⟨⟨⟨%K, #HK⟩, Hst, Hp⟩, HO, Hin, Hout, Hk⟩
  iapply (wpc_fupd c)
  iapply (wp_body (Xm m) (Wm m) K a0 x w out c)
  isplitr; · iexact HK
  isplitl [Hin]; · iexact Hin
  isplitl [Hout]; · iexact Hout
  isplitl [HO]; · iexact HO
  isplitl [Hst]; · iexact Hst
  iintro ⟨Hin, Hout, ⟨Hb, Hl⟩, HO⟩
  imod (finish (Xm m) (Wm m) K c) $$ [Hb Hl] with ⟨Zb, Zs, Hs⟩
  · isplitr; · iexact HK
    isplitl [Hb]; · iexact Hb
    iexact Hl
  imodintro
  iapply Hk
  isplitl [Zb Zs Hs Hp]
  · unfold leave
    isplitl [Zb]; · iexact Zb
    isplitl [Zs]; · iexact Zs
    isplitl [Hs]; · iexact Hs
    iexact Hp
  isplitl [HO]; · iexact HO
  isplitl [Hin]; · iexact Hin
  iexact Hout

set_option maxRecDepth 4000 in
theorem body_obligation (c : Dev nD) : BodyObligation (dat0 m c) (defs₀ (F := F)) 𝒱₀ 0 Set.univ := fun t => by
  obtain rfl := fin_N0 t
  rw [bigSep_W0, bigSep_W0, Φ_first, show (dat0 m c).Φ t0_0.succ = leave c from Φ_last m c]
  iintro ⟨HΦ, HO, ⟨%d0, H0⟩, ⟨%d1, H1⟩, ⟨%d2, H2⟩, ⟨%d3, H3⟩⟩
  ihave HO := (of_owesAt m c _ (O₀ c) (owed_first m c)) $$ HO
  rw [before_0, before_1, before_2]
  iapply (wp_cc0 m c (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) _)
  isplitl [HΦ]; · iexact HΦ
  isplitl [HO]; · iexact HO
  isplitl [H0 H1 H2]
  · unfold inp
    isplitl [H0]; · iexact H0
    isplitl [H1]; · iexact H1
    iexact H2
  isplitl [H3]; · iexists _; iexact H3
  unfold inp
  iintro ⟨HΦ, HO, ⟨H0, H1, H2⟩, H3⟩
  isplitl [HΦ]; · iexact HΦ
  isplitl [HO]; · iapply (owesAt_of m c t0_0.succ 0 (owed_last m c)); iexact HO
  isplitl [H0]; · iexact H0
  isplitl [H1]; · iexact H1
  isplitl [H2]; · iexact H2
  iexact H3

end Cert.RingK
-- ==== Proof.Talk.lean ====
/-
The kernel region as one segment of the program: entered with the devices' ghost state, left with the barrier counter at zero
and the result in its array.
-/
module

public import proofs.«01_k».proof.Proof.Region

@[expose] public section

noncomputable section

namespace Cert.RingK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-! ## The arrays at the end -/

/-- What the region leaves: the result in its array, every other buffer as it was. -/
def results : Outs (F := F) := fun _ r c => Function.update (V8 m c) (Proc.devRef .tc main_v12) (outV (Xm m) (Wm m) c) (Proc.devRef .tc r)
abbrev V_end (c : Dev nD) : Valuation τ sig (Elt F) := V9 m (results m) c

theorem results_out (c : Dev nD) : results m 9 main_v12 c = outV (Xm m) (Wm m) c := by
  unfold results
  exact Function.update_self _ _ _
theorem V_end_out (c : Dev nD) : V_end m c main_v12 = outV (Xm m) (Wm m) c := by
  unfold V_end V9
  rw [Function.update_self]
  exact results_out m c

theorem flushed_out (c : Dev nD) (t : Fin cfg0.N) :
    (dat0 m c).flushed 3 t = ((cfg0.win 3).blk t).view.read (Elt F) (outV (Xm m) (Wm m) c) := by
  obtain rfl := fin_N0 t
  unfold Pipeline.Dat.flushed
  exact (read_out (F := F) _).symm

theorem cover_out (i : S256x4096.Idx) : ∃ t : Fin cfg0.N, (cfg0.win 3).flush t = true ∧ i ∈ ((cfg0.win 3).blk t).view.set := by
  refine ⟨t0_0, flush0_3 t0_0, ?_⟩
  refine Finset.mem_map.mpr ⟨i, Finset.mem_univ _, ?_⟩
  refine funext fun a => Fin.ext ?_
  fin_cases a
  · show 0 * 256 + 1 * (i 0).val = (i 0).val
    omega
  · show 0 * 4096 + 1 * (i 1).val = (i 1).val
    omega

theorem arrAt_out (c : Dev nD) : (dat0 m c).arrAt 3 cfg0.N = outV (Xm m) (Wm m) c :=
  (dat0 m c).arrAt_eq_of_cover 3 (outV (Xm m) (Wm m) c) (fun t _ => flushed_out m c t) cover_out

theorem arrays_first (c : Dev nD) (w : Fin 4) : (dat0 m c).arrAt w 0 = V8 m c (Proc.devRef .tc (Pipeline.arrRef spec0 w)) := by
  fin_cases w <;> rfl
theorem same_meta (c : Dev nD) : V_end m c main_v11 = V8 m c main_v11 := V9_of m (results m) c main_v11 (by decide)
theorem same_x (c : Dev nD) : V_end m c main_arg0 = V8 m c main_arg0 := V9_of m (results m) c main_arg0 (by decide)
theorem same_w (c : Dev nD) : V_end m c main_arg1 = V8 m c main_arg1 := V9_of m (results m) c main_arg1 (by decide)
theorem kept_meta (c : Dev nD) : (dat0 m c).arrAt 0 cfg0.N = V8 m c main_v11 := (dat0 m c).arrAt_in 0 rfl _
theorem kept_x (c : Dev nD) : (dat0 m c).arrAt 1 cfg0.N = V8 m c main_arg0 := (dat0 m c).arrAt_in 1 rfl _
theorem kept_w (c : Dev nD) : (dat0 m c).arrAt 2 cfg0.N = V8 m c main_arg1 := (dat0 m c).arrAt_in 2 rfl _
theorem arrays_last (c : Dev nD) : ∀ w : Fin 4, (dat0 m c).arrAt w cfg0.N = V_end m c (Proc.devRef .tc (Pipeline.arrRef spec0 w))
  | 0 => (kept_meta m c).trans (same_meta m c).symm
  | 1 => (kept_x m c).trans (same_x m c).symm
  | 2 => (kept_w m c).trans (same_w m c).symm
  | 3 => (arrAt_out m c).trans (V_end_out m c).symm

/-! ## Levels -/

theorem lv_other (c : Dev nD) (l : SemLoc sig) (i : ℕ) (h : ∀ k, semOf k ≠ l) : lv ((c : Thread nD τ), l) i = 0 := by
  unfold lv
  rw [show kdOf l = none from dif_neg fun ⟨k, hk⟩ => h k hk]
theorem stage_other : ∀ (w : Fin 4) (s : Fin (spec0 w).nbuf) (k : Kd), semOf k ≠ .dma ((spec0 w).sem s) := by decide +kernel
theorem above_O₀ (c : Dev nD) : Above 0 (O₀ c) :=
  above_add (above_add (above_owFrom c 0 31 0 (by decide) (by decide))
    (above_tally (by decide) (by rw [lv_bar]; decide))) (above_tally (by decide) (by rw [lv_bar]; decide))

theorem cut0 : Pipeline.LevelCutOwed (pcfgs (F := F)) adm (pdats m) 0 L lv 0 (fun _ => 0) where
  hι c w s := by rw [L_tc]; decide
  hιb c w s := Nat.le_of_eq (lv_other c _ 0 (stage_other w s))
  hD c t g i h := by
    have e : (pdats m 0 c).owed t = if t.val = 0 then O₀ c else 0 := rfl
    rw [e] at h
    split at h
    · exact above_O₀ c g i h
    · exact absurd h (Nat.lt_irrefl 0)

/-! ## Entry and exit -/

/-- What the launch kept for device `c`'s region; the same with the cells opened. -/
def pending (c : Dev nD) : sProp 𝕄 :=
  iprop((∃ K : Names, invs (Xm m) (Wm m) K.1 ∗ stocks K.2) ∗ seeds c ∗ bigSep Finset.univ fun k : SK => openTok ER (cell (kd k) c))
def opened (c : Dev nD) : sProp 𝕄 :=
  iprop((∃ K, know (Xm m) (Wm m) K) ∗ seeds c ∗ bigSep Finset.univ fun k : SK => at_ (kd k) c 0)

theorem open_one (K : GSem nD τ sig → ℕ) (c : Dev nD) (k : SK) :
    iprop(invs (Xm m) (Wm m) K ∗ (openTok ER (cell (kd k) c) ∗ semVal ((c : Thread nD τ), osem k) 0))
      ⊢ (|={Set.univ}=> at_ (kd k) c 0 : sProp 𝕄) := by
  unfold at_
  iintro ⟨#HI, Ho, Hv⟩
  iapply (Rounds.cell_open ER (rd (Xm m) (Wm m)) (g := cell (kd k) c) (Set.mem_univ (K (cell (kd k) c))))
  isplitr
  · iapply (inv_of (Xm m) (Wm m) K (kd k) c); iexact HI
  isplitl [Ho]; · iexact Ho
  iexact Hv

theorem open_all (K : GSem nD τ sig → ℕ) (c : Dev nD) :
    iprop(invs (Xm m) (Wm m) K ∗ (bigSep Finset.univ fun k : SK => openTok ER (cell (kd k) c)) ∗ Pipeline.ownSems0 osem c)
      ⊢ (|={Set.univ}=> bigSep Finset.univ fun k : SK => at_ (kd k) c 0 : sProp 𝕄) := by
  refine BIBase.Entails.trans ?_ (bigSep_fupd _ _)
  refine BIBase.Entails.trans ?_ (bigSep_with_persistent (R := invs (Xm m) (Wm m) K)
    (Φ := fun k : SK => iprop(openTok ER (cell (kd k) c) ∗ semVal ((c : Thread nD τ), osem k) 0)) fun k _ => open_one m K c k)
  rw [bigSep_sep']
  exact .rfl

theorem hopen0 (c : Dev nD) : iprop(pending m c ∗ Pipeline.ownSems0 osem c ∗ levAts L lv) ⊢ (|={Set.univ}=> opened m c : sProp 𝕄) := by
  unfold pending opened
  iintro ⟨⟨⟨%K, #HI, #HS⟩, Hs, Ho⟩, Hv, #Hl⟩
  imod (open_all m K.1 c) $$ [Ho Hv] with Ha
  · isplitr; · iexact HI
    isplitl [Ho]; · iexact Ho
    iexact Hv
  imodintro
  isplitr
  · iexists K
    unfold know
    isplitr
    · isplitr; · iexact HI
      iexact HS
    iexact Hl
  isplitl [Hs]; · iexact Hs
  iexact Ha

theorem held_none (c : Dev nD) (V : Valuation τ sig (Elt F)) : (StableHlo.held (c.tc : Thread nD τ) ∅ V : sProp 𝕄) = BI.emp := by
  unfold StableHlo.held
  exact BI.bigSep_empty

theorem hin0 (c : Dev nD) : iprop(Pipeline.scopedRest spec0 c ∗ (∃ r, prngReg c r) ∗ StableHlo.held (c.tc : Thread nD τ) ∅ (V8 m c) ∗ opened m c)
    ⊢ (dat0 m c).Φ 0 := by
  rw [Φ_zero, scratch_eq, held_none]
  unfold enter opened
  iintro ⟨Hw, Hp, -, HK, Hs, Ha⟩
  isplitl [HK]; · iexact HK
  isplitl [Hw Hs Ha]
  · iapply (start_of c)
    isplitl [Hs]; · iexact Hs
    isplitl [Ha]; · iexact Ha
    iexact Hw
  iexact Hp

theorem hout0 (c : Dev nD) : (dat0 m c).Φ (Fin.last cfg0.N)
    ⊢ iprop(Pipeline.scopedRest spec0 c ∗ (∃ r, prngReg c r) ∗ StableHlo.held (c.tc : Thread nD τ) ∅ (V_end m c) ∗ Pipeline.ownSems0 osem c
        ∗ zero c .bar) := by
  rw [Φ_last, scratch_eq, held_none]
  unfold leave Pipeline.ownSems0
  iintro ⟨Hb, Hz, Hw, Hp⟩
  isplitl [Hw]; · iexact Hw
  isplitl [Hp]; · iexact Hp
  isplitr; · iempintro
  isplitl [Hz]; · iexact Hz
  iexact Hb

/-! ## The segment -/

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers beside the windows' arrays. -/
abbrev others : Finset (DevRef τ sig) := Pipeline.ucRefs τ sig \ Pipeline.arrRefs (τ := τ) spec0

theorem others_same (c : Dev nD) (b : DevRef τ sig) (hb : b ∈ others \ ∅) : V_end m c b = V8 m c b := by
  unfold V_end V9
  refine Function.update_of_ne (fun h => ?_) _ _
  subst h
  refine (Finset.mem_sdiff.mp (Finset.mem_sdiff.mp hb).1).2 ?_
  exact Finset.mem_map.mpr ⟨main_v12, Finset.mem_image.mpr ⟨3, Finset.mem_univ _, rfl⟩, rfl⟩

set_option backward.isDefEq.respectTransparency.types false in
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 osem osem_own
    ∅ others (Finset.empty_subset _) kit0 rfl (fun c => (body_obligation m c).loose)
    (fun _ => 0) O₀ (fun c => (owed_zero m c).trans (zero_add _).symm) (owed_last m) (fun _ => rfl) (fun _ w => by fin_cases w <;> rfl)
    (V8 m) (V_end m) (others_same m)
    (pending m) (fun c => zero c .bar) (opened m) (fun c => zero c .bar) (hopen0 m) (hin0 m) (hout0 m)
    (fun c => by iintro H; imodintro; iexact H)
    (fun _ => 0) (cut0 m) (fun _ => iprop(emp))
    (arrays_first m) (arrays_last m)

/-- What rides beside the buffers: at entry, at exit. -/
def ride : Fin 2 → Dev nD → sProp 𝕄
  | 0, c => iprop(pending m c ∗ (∃ r, prngReg c r) ∗ ∃ W, owes (c : Thread nD τ) (O₀ c) W)
  | 1, c => iprop(zero c .bar ∗ ∃ W, owes (c : Thread nD τ) (0 : Tl) W)

theorem arrays_sub : Pipeline.arrRefs (τ := τ) spec0 ⊆ Pipeline.ucRefs τ sig := Pipeline.arrRefs_sub_ucRefs spec0 (by decide)

theorem reg0_pre (c : Dev nD) :
    iprop(StableHlo.held (c : Thread nD τ) (Pipeline.ucRefs τ sig) (V8 m c) ∗ ride m 0 c) ⊢ (reg0 m).pre c := by
  show _ ⊢ iprop(StableHlo.held (c.tc : Thread nD τ) (Pipeline.arrRefs (τ := τ) spec0) (V8 m c) ∗ (∃ r, prngReg c r)
    ∗ (StableHlo.held (c.tc : Thread nD τ) others (V8 m c) ∗ emp) ∗ pending m c ∗ ∃ Wd, owes (c : Thread nD τ) (0 + O₀ c) Wd)
  rw [StableHlo.held_sub_split (c : Thread nD τ) arrays_sub (V8 m c), zero_add]
  unfold ride
  iintro ⟨⟨Ha, Ho⟩, Hk, Hp, HO⟩
  isplitl [Ha]; · iexact Ha
  isplitl [Hp]; · iexact Hp
  isplitl [Ho]
  · isplitl [Ho]; · iexact Ho
    iempintro
  isplitl [Hk]; · iexact Hk
  iexact HO

theorem reg0_post (c : Dev nD) :
    (reg0 m).post c ⊢ iprop(StableHlo.held (c : Thread nD τ) (Pipeline.ucRefs τ sig) (V_end m c) ∗ ride m 1 c) := by
  show iprop(StableHlo.held (c.tc : Thread nD τ) (Pipeline.arrRefs (τ := τ) spec0) (V_end m c) ∗ (∃ r, prngReg c r)
    ∗ (StableHlo.held (c.tc : Thread nD τ) others (V_end m c) ∗ emp) ∗ zero c .bar ∗ ∃ Wd, owes (c : Thread nD τ) (0 : Tl) Wd) ⊢ _
  rw [StableHlo.held_sub_split (c : Thread nD τ) arrays_sub (V_end m c)]
  unfold ride
  iintro ⟨Ha, -, ⟨Ho, -⟩, Hb, HO⟩
  isplitl [Ha Ho]
  · isplitl [Ha]; · iexact Ha
    iexact Ho
  isplitl [Hb]; · iexact Hb
  iexact HO

end Cert.RingK
-- ==== Proof.Deal.lean ====
/-
What the launch deals: the tokens by the device that pays them, the credits by the device that is paid, the two counters of
every stock.
-/
module

public import proofs.«01_k».proof.Proof.Hold
public import Idealize.ShloMosaic.Lib.Pipeline.Regions
public import Idealize.ShloMosaic.Lib.Pipeline.Kit

@[expose] public section

noncomputable section

namespace Cert.RingK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families over an interval, taken one by one -/

theorem chain_of (Φ : ℕ → sProp 𝕄) (C : ℕ → ℕ → sProp 𝕄) (h0 : ∀ s, C 0 s = iprop(emp)) (h1 : ∀ n s, C (n + 1) s = iprop(Φ s ∗ C n (s + 1))) :
    ∀ n s, bigSep (Finset.Ico s (s + n)) Φ = C n s
  | 0, s => by rw [Nat.add_zero, Finset.Ico_self, bigSep_empty, h0]; rfl
  | n + 1, s => by
    rw [show Finset.Ico s (s + (n + 1)) = insert s (Finset.Ico (s + 1) (s + 1 + n)) from by
        ext i; simp only [Finset.mem_Ico, Finset.mem_insert]; omega,
      bigSep_insert (by simp), chain_of Φ C h0 h1 n (s + 1), h1]
    rfl

theorem fin_Ico (Φ : ℕ → sProp 𝕄) (n : ℕ) : bigSep Finset.univ (fun k : Fin n => Φ k.val) = bigSep (Finset.Ico 0 n) Φ := by
  have e : Finset.univ.map (Fin.valEmbedding (n := n)) = Finset.Ico 0 n := by
    ext i
    simp only [Finset.mem_map, Finset.mem_univ, true_and, Fin.valEmbedding_apply, Finset.mem_Ico, Nat.zero_le]
    exact ⟨fun ⟨k, hk⟩ => hk ▸ k.isLt, fun h => ⟨⟨i, h⟩, rfl⟩⟩
  rw [← e, bigSep_map]
  rfl

theorem chain_fin (Φ : ℕ → sProp 𝕄) (C : ℕ → ℕ → sProp 𝕄) (h0 : ∀ s, C 0 s = iprop(emp)) (h1 : ∀ n s, C (n + 1) s = iprop(Φ s ∗ C n (s + 1))) (n : ℕ) :
    bigSep Finset.univ (fun k : Fin n => Φ k.val) = C n 0 := by
  rw [fin_Ico, ← chain_of Φ C h0 h1 n 0, Nat.zero_add]

/-! ## The tokens -/

/-- The duties a device pays in one direction: the greeting, the credits, the sends, the copies. -/
abbrev Tok : Type := Unit ⊕ (Fin 29 ⊕ ((Fin 2 × Fin 31) ⊕ (Fin 2 × Fin 31)))

/-- Where each is paid. -/
def tokOf (c : Dev nD) (δ : Fin 2) : Tok → GSem nD τ sig × ℕ × ℕ
  | .inl _ => (cell .bar (back δ c), 0, δ.val)
  | .inr (.inl k) => (cell (.cred δ) (back δ c), 0, k.val)
  | .inr (.inr (.inl p)) => (cell (.send δ (slot p.2.val) p.1) c, p.2.val / 2, 0)
  | .inr (.inr (.inr p)) => (cell (.recv δ (slot p.2.val) p.1) (fwd δ c), p.2.val / 2, 0)

theorem back_inj (δ : Fin 2) {c c' : Dev nD} (h : back δ c = back δ c') : c = c' := by rw [← fwd_back δ c, h, fwd_back]
theorem fwd_inj (δ : Fin 2) {c c' : Dev nD} (h : fwd δ c = fwd δ c') : c = c' := by rw [← back_fwd δ c, h, back_fwd]
theorem step_inj {s s' : Fin 31} (h : slot s.val = slot s'.val) (h' : s.val / 2 = s'.val / 2) : s = s' := by
  have e : s.val % 2 = s'.val % 2 := congrArg Fin.val h
  exact Fin.ext (by omega)

theorem duty_inj {k k' : Kd} {c c' : Dev nD} {r r' d d' : ℕ} (h : (cell k c, r, d) = (cell k' c', r', d')) : (k = k' ∧ c = c') ∧ r = r' ∧ d = d' :=
  ⟨cell_inj (Prod.mk.inj h).1, Prod.mk.inj (Prod.mk.inj h).2⟩

theorem tokOf_inj : Function.Injective fun p : (Dev nD × Fin 2) × Tok => tokOf p.1.1 p.1.2 p.2 := by
  rintro ⟨⟨c, δ⟩, t⟩ ⟨⟨c', δ'⟩, t'⟩ h
  rcases t with (⟨⟩ | k | ⟨χ, s⟩ | ⟨χ, s⟩) <;> rcases t' with (⟨⟩ | k' | ⟨χ', s'⟩ | ⟨χ', s'⟩) <;>
    obtain ⟨⟨hk, hc⟩, hr, hd⟩ := duty_inj h
  all_goals first | (cases hk; done) | skip
  · obtain rfl := Fin.ext hd
    obtain rfl := back_inj δ hc
    rfl
  · obtain rfl : δ = δ' := by injection hk
    obtain rfl := back_inj δ hc
    obtain rfl := Fin.ext hd
    rfl
  · obtain ⟨rfl, hs, rfl⟩ : δ = δ' ∧ slot s.val = slot s'.val ∧ χ = χ' := by injection hk with h1 h2 h3; exact ⟨h1, h2, h3⟩
    obtain rfl : c = c' := hc
    obtain rfl := step_inj hs hr
    rfl
  · obtain ⟨rfl, hs, rfl⟩ : δ = δ' ∧ slot s.val = slot s'.val ∧ χ = χ' := by injection hk with h1 h2 h3; exact ⟨h1, h2, h3⟩
    obtain rfl := fwd_inj δ hc
    obtain rfl := step_inj hs hr
    rfl

/-- All of them. -/
def tokens : Finset (GSem nD τ sig × ℕ × ℕ) := Finset.univ.map ⟨fun p : (Dev nD × Fin 2) × Tok => tokOf p.1.1 p.1.2 p.2, tokOf_inj⟩

/-- The right to pay the duty `x`. -/
abbrev right (x : GSem nD τ sig × ℕ × ℕ) : sProp 𝕄 := dutyTok ER x.1 x.2.1 x.2.2
/-- A device's rights in one direction. -/
def hand (δ : Fin 2) (c : Dev nD) : sProp 𝕄 := bigSep Finset.univ fun t : Tok => right (tokOf c δ t)

theorem tokens_dealt : bigSep tokens (fun x => (right x : sProp 𝕄)) = bigSep Finset.univ fun c : Dev nD => iprop(hand (F := F) 0 c ∗ hand 1 c) := by
  unfold tokens
  rw [bigSep_map, bigSep_univ_prod, bigSep_univ_prod]
  refine bigSep_congr fun c _ => ?_
  rw [bigSep_fin_two]
  rfl

/-- The rights to send, to copy, to give credit. -/
def sends (δ χ : Fin 2) (c : Dev nD) (s : ℕ) : sProp 𝕄 := dutyTok ER (cell (.send δ (slot s) χ) c) (s / 2) 0
def copies (δ χ : Fin 2) (c : Dev nD) (s : ℕ) : sProp 𝕄 := dutyTok ER (cell (.recv δ (slot s) χ) (fwd δ c)) (s / 2) 0
def credits (δ : Fin 2) (c : Dev nD) (s : ℕ) : sProp 𝕄 := dutyTok ER (cell (.cred δ) (back δ c)) 0 s

theorem hand_split (δ : Fin 2) (c : Dev nD) : hand (F := F) δ c ⊢ iprop(dutyTok ER (cell .bar (back δ c)) 0 δ.val
    ∗ bigSep (Finset.Ico 0 29) (credits δ c)
    ∗ (bigSep (Finset.Ico 0 31) (sends δ 0 c) ∗ bigSep (Finset.Ico 0 31) (sends δ 1 c))
    ∗ (bigSep (Finset.Ico 0 31) (copies δ 0 c) ∗ bigSep (Finset.Ico 0 31) (copies δ 1 c))) := by
  unfold hand
  rw [bigSep_univ_sum, bigSep_univ_sum, bigSep_univ_sum, bigSep_univ_prod, bigSep_univ_prod, bigSep_fin_two, bigSep_fin_two,
    ← fin_Ico (credits δ c), ← fin_Ico (sends δ 0 c), ← fin_Ico (sends δ 1 c), ← fin_Ico (copies δ 0 c), ← fin_Ico (copies δ 1 c),
    show (Finset.univ : Finset Unit) = {()} from rfl, bigSep_singleton]
  exact .rfl

theorem toks_of (δ : Fin 2) (c : Dev nD) : bigSep (Finset.Ico 0 29) (credits (F := F) δ c) ⊢ toks δ c 30 0 := by
  rw [← chain_of (fun s => if s < 29 then credits (F := F) δ c s else iprop(emp)) (toks δ c) (fun _ => rfl) (fun _ _ => rfl) 30 0,
    show Finset.Ico 0 (0 + 30) = insert 29 (Finset.Ico 0 29) from by decide, bigSep_insert (by decide),
    bigSep_congr (s := Finset.Ico 0 29) (Ψ := credits (F := F) δ c) fun s hs => if_pos (Finset.mem_Ico.mp hs).2, if_neg (by decide)]
  exact Laws.emp_sep.2

/-! ## The credits -/

/-- A unit owed by every device to the one a permutation sends it to is a unit credit of every device. -/
theorem cred_turn (k : Kd) (e : Dev nD ≃ Dev nD) (i n : ℕ) (c : Dev nD) :
    (Pipeline.launchCred (fun d => tallyAt (cell k (e d)) i n) c : sProp 𝕄) ⊢ cred (tallyAt (cell k c) i n) := by
  refine (Pipeline.launchCred_elim _ c (semOf k)).trans (Entails.of_eq (congrArg cred ?_))
  rw [Pipeline.tallyOn_launchCredit_owing]
  show _ = tallyOn _ (Finsupp.single i n)
  refine congrArg _ ?_
  rw [Finset.sum_apply, Finset.sum_eq_single (e.symm c)]
  · rw [e.apply_symm_apply]
    show (Pi.single _ _ : Tl) _ = _
    rw [Pi.single_eq_same]
  · intro d _ hd
    refine tallyAt_ne_cell (fun h => hd ?_) i n
    rw [(cell_inj h).2, e.symm_apply_apply]
  · exact fun h => absurd (Finset.mem_univ _) h

/-- The copies that will come in. -/
def toll (δ χ : Fin 2) (c : Dev nD) : ℕ → ℕ → sProp 𝕄
  | 0, _ => iprop(emp)
  | n + 1, s => iprop(cred (tallyAt (cell (.recv δ (slot s) χ) c) s N) ∗ toll δ χ c n (s + 1))
def tolls (c : Dev nD) (n s : ℕ) : sProp 𝕄 := iprop((toll 0 0 c n s ∗ toll 0 1 c n s) ∗ toll 1 0 c n s ∗ toll 1 1 c n s)

theorem wage_S (δ χ : Fin 2) (s : ℕ) (c : Dev nD) :
    (Pipeline.launchCred (fun d => owS δ χ s d) c : sProp 𝕄) ⊢ cred (tallyAt (cell (.recv δ (slot s) χ) c) s N) := cred_turn _ (turn δ) s N c
theorem wage_C (δ : Fin 2) (s : ℕ) (c : Dev nD) :
    (Pipeline.launchCred (fun d => owC δ s d) c : sProp 𝕄) ⊢ cred (tallyAt (cell (.cred δ) c) s 1) := cred_turn _ (turn δ).symm s 1 c
theorem wage_B (δ : Fin 2) (c : Dev nD) :
    (Pipeline.launchCred (fun d => owB δ d) c : sProp 𝕄) ⊢ cred (tallyAt (cell .bar c) 0 1) := cred_turn _ (turn δ).symm 0 1 c

theorem wage_step (c : Dev nD) (n s : ℕ) :
    (Pipeline.launchCred (fun d => owFrom d (n + 1) s) c : sProp 𝕄)
      ⊢ iprop((Pipeline.launchCred (fun d => owFrom d n (s + 1)) c ∗ Pipeline.launchCred (fun d => owG s d) c)
        ∗ (cred (tallyAt (cell (.recv 0 (slot s) 0) c) s N) ∗ cred (tallyAt (cell (.recv 0 (slot s) 1) c) s N))
        ∗ (cred (tallyAt (cell (.recv 1 (slot s) 0) c) s N) ∗ cred (tallyAt (cell (.recv 1 (slot s) 1) c) s N))) := by
  show (Pipeline.launchCred (fun d => ((((owFrom d n (s + 1) + owG s d) + owS 1 1 s d) + owS 0 1 s d) + owS 1 0 s d) + owS 0 0 s d) c : sProp 𝕄) ⊢ _
  rw [Pipeline.launchCred_add, Pipeline.launchCred_add, Pipeline.launchCred_add, Pipeline.launchCred_add, Pipeline.launchCred_add]
  iintro ⟨⟨⟨⟨H, H11⟩, H01⟩, H10⟩, H00⟩
  isplitl [H]; · iexact H
  isplitl [H00 H01]
  · isplitl [H00]
    · iapply (wage_S 0 0 s c); iexact H00
    · iapply (wage_S 0 1 s c); iexact H01
  · isplitl [H10]
    · iapply (wage_S 1 0 s c); iexact H10
    · iapply (wage_S 1 1 s c); iexact H11

theorem tolls_step (c : Dev nD) (n s : ℕ) :
    iprop(tolls (F := F) c n (s + 1) ∗ (cred (tallyAt (cell (.recv 0 (slot s) 0) c) s N) ∗ cred (tallyAt (cell (.recv 0 (slot s) 1) c) s N))
        ∗ (cred (tallyAt (cell (.recv 1 (slot s) 0) c) s N) ∗ cred (tallyAt (cell (.recv 1 (slot s) 1) c) s N)))
      ⊢ tolls c (n + 1) s := by
  unfold tolls
  show _ ⊢ iprop(((cred (tallyAt (cell (.recv 0 (slot s) 0) c) s N) ∗ toll 0 0 c n (s + 1)) ∗ (cred (tallyAt (cell (.recv 0 (slot s) 1) c) s N) ∗ toll 0 1 c n (s + 1)))
    ∗ (cred (tallyAt (cell (.recv 1 (slot s) 0) c) s N) ∗ toll 1 0 c n (s + 1)) ∗ (cred (tallyAt (cell (.recv 1 (slot s) 1) c) s N) ∗ toll 1 1 c n (s + 1)))
  iintro ⟨⟨⟨T00, T01⟩, T10, T11⟩, ⟨H00, H01⟩, H10, H11⟩
  isplitl [T00 T01 H00 H01]
  · isplitl [T00 H00]
    · isplitl [H00]; · iexact H00
      iexact T00
    · isplitl [H01]; · iexact H01
      iexact T01
  · isplitl [T10 H10]
    · isplitl [H10]; · iexact H10
      iexact T10
    · isplitl [H11]; · iexact H11
      iexact T11

theorem wages_from (c : Dev nD) : ∀ n s, n + s = 30 →
    (Pipeline.launchCred (fun d => owFrom d n (s + 1)) c : sProp 𝕄)
      ⊢ iprop(tolls c n (s + 1) ∗ gets 0 c (n - 1) s ∗ gets 1 c (n - 1) s)
  | 0, s, _ => by
    show _ ⊢ iprop(((emp ∗ emp) ∗ emp ∗ emp) ∗ emp ∗ emp)
    iintro -
    isplitr
    · isplitr
      · isplitr; · iempintro
        iempintro
      · isplitr; · iempintro
        iempintro
    isplitr; · iempintro
    iempintro
  | 1, s, _ => by
    refine (wage_step c 0 (s + 1)).trans ?_
    show _ ⊢ iprop(tolls c 1 (s + 1) ∗ emp ∗ emp)
    iintro ⟨-, H⟩
    isplitl [H]
    · iapply (tolls_step c 0 (s + 1))
      isplitr
      · iapply (show iprop(emp) ⊢ tolls (F := F) c 0 (s + 1 + 1) from by
          show _ ⊢ iprop((emp ∗ emp) ∗ emp ∗ emp)
          iintro -
          isplitr
          · isplitr; · iempintro
            iempintro
          · isplitr; · iempintro
            iempintro)
        iempintro
      iexact H
    isplitr; · iempintro
    iempintro
  | n + 2, s, hs => by
    refine (wage_step c (n + 1) (s + 1)).trans ?_
    rw [show (fun d : Dev nD => owG (s + 1) d) = fun d => owC 1 (s + 1) d + owC 0 (s + 1) d from funext fun d => if_pos ⟨by omega, by omega⟩,
      Pipeline.launchCred_add]
    show _ ⊢ iprop(tolls c (n + 2) (s + 1) ∗ (cred (tallyAt (cell (.cred 0) c) (s + 1) 1) ∗ gets 0 c n (s + 1))
      ∗ (cred (tallyAt (cell (.cred 1) c) (s + 1) 1) ∗ gets 1 c n (s + 1)))
    iintro ⟨⟨H, G1, G0⟩, Hs⟩
    ihave H := (wages_from c (n + 1) (s + 1) (by omega)) $$ H
    icases H with ⟨T, R0, R1⟩
    isplitl [T Hs]
    · iapply (tolls_step c (n + 1) (s + 1))
      isplitl [T]; · iexact T
      iexact Hs
    isplitl [G0 R0]
    · isplitl [G0]
      · iapply (wage_C 0 (s + 1) c); iexact G0
      iexact R0
    · isplitl [G1]
      · iapply (wage_C 1 (s + 1) c); iexact G1
      iexact R1

/-- All a device will be paid. -/
theorem wages (c : Dev nD) : (Pipeline.launchCred O₀ c : sProp 𝕄)
    ⊢ iprop(tolls c 31 0 ∗ (gets 0 c 29 0 ∗ gets 1 c 29 0) ∗ cred (tallyAt (cell .bar c) 0 2)) := by
  show (Pipeline.launchCred (fun d => (owFrom d 31 0 + owB 1 d) + owB 0 d) c : sProp 𝕄) ⊢ _
  rw [Pipeline.launchCred_add, Pipeline.launchCred_add]
  iintro ⟨⟨H, B1⟩, B0⟩
  ihave H := (wage_step c 30 0) $$ H
  icases H with ⟨⟨H, -⟩, Hs⟩
  ihave H := (wages_from c 30 0 rfl) $$ H
  icases H with ⟨T, G⟩
  isplitl [T Hs]
  · iapply (tolls_step c 30 0)
    isplitl [T]; · iexact T
    iexact Hs
  isplitl [G]; · iexact G
  iapply (show iprop(cred (tallyAt (cell .bar c) 0 1) ∗ cred (tallyAt (cell .bar c) 0 1)) ⊢ (cred (tallyAt (cell .bar c) 0 2) : sProp 𝕄) from by
    rw [← tallyAt_add _ _ 1 1]
    exact (cred_add _ _).2)
  isplitl [B0]
  · iapply (wage_B 0 c); iexact B0
  · iapply (wage_B 1 c); iexact B1

/-! ## Together -/

theorem ahead_of (δ χ : Fin 2) (c : Dev nD) :
    iprop(bigSep (Finset.Ico 0 31) (sends (F := F) δ χ c) ∗ bigSep (Finset.Ico 0 31) (copies δ χ c) ∗ toll δ χ c 31 0) ⊢ ahead δ χ c 31 0 := by
  rw [← chain_of (fun s => cred (tallyAt (cell (.recv δ (slot s) χ) c) s N)) (toll δ χ c) (fun _ => rfl) (fun _ _ => rfl) 31 0,
    ← chain_of (fun s => iprop(sends (F := F) δ χ c s ∗ copies δ χ c s ∗ cred (tallyAt (cell (.recv δ (slot s) χ) c) s N))) (ahead δ χ c)
      (fun _ => rfl) (fun _ _ => rfl) 31 0, Nat.zero_add, bigSep_sep', bigSep_sep']

/-- That every barrier semaphore stands ready. -/
def bars : sProp 𝕄 := bigSep Finset.univ fun c : Dev nD => reached ER (cell .bar c) 0
instance : BI.Persistent (bars (F := F)) := by unfold bars; infer_instance
theorem bar_of (c : Dev nD) : bars (F := F) ⊢ reached ER (cell .bar c) 0 := bigSep_elim (Finset.mem_univ c)

theorem dealt_of (δ : Fin 2) (c : Dev nD) :
    iprop(bars ∗ hand (F := F) δ c ∗ (toll δ 0 c 31 0 ∗ toll δ 1 c 31 0) ∗ gets δ c 29 0 ∗ (takenOut δ c 0 ∗ putIn δ c 0)) ⊢ dealt δ c := by
  unfold dealt
  iintro ⟨#HB, Hh, ⟨T0, T1⟩, G, P⟩
  ihave Hh := (hand_split δ c) $$ Hh
  icases Hh with ⟨Ht, Hg, ⟨S0, S1⟩, C0, C1⟩
  isplitl [T0 T1 S0 S1 C0 C1]
  · isplitl [T0 S0 C0]
    · iapply (ahead_of δ 0 c)
      isplitl [S0]; · iexact S0
      isplitl [C0]; · iexact C0
      iexact T0
    · iapply (ahead_of δ 1 c)
      isplitl [S1]; · iexact S1
      isplitl [C1]; · iexact C1
      iexact T1
  isplitl [G Hg]
  · isplitl [G]; · iexact G
    iapply (toks_of δ c); iexact Hg
  isplitl [P]; · iexact P
  isplitl [Ht]; · iexact Ht
  iapply (bar_of (back δ c)); iexact HB

/-- A device's share of the launch. -/
def share (c : Dev nD) : sProp 𝕄 :=
  iprop(atPos ER (cell .bar c) 0 ∅ 0 ∗ (hand 0 c ∗ hand 1 c) ∗ ((takenOut 0 c 0 ∗ takenOut 1 c 0) ∗ (putIn 0 c 0 ∗ putIn 1 c 0)) ∗ Pipeline.launchCred O₀ c)

theorem seeds_of (c : Dev nD) : iprop(bars ∗ share (F := F) c) ⊢ seeds c := by
  unfold share seeds at_
  iintro ⟨#HB, Hb, ⟨H0, H1⟩, ⟨⟨D0, D1⟩, P0, P1⟩, W⟩
  ihave W := (wages c) $$ W
  unfold tolls
  icases W with ⟨⟨⟨T00, T01⟩, T10, T11⟩, ⟨G0, G1⟩, Cb⟩
  isplitl [Hb Cb]
  · isplitl [Hb]
    · isplitl [Hb]; · iexact Hb
      iapply (bar_of c); iexact HB
    iexact Cb
  isplitl [H0 D0 P0 T00 T01 G0]
  · iapply (dealt_of 0 c)
    isplitr; · iexact HB
    isplitl [H0]; · iexact H0
    isplitl [T00 T01]
    · isplitl [T00]; · iexact T00
      iexact T01
    isplitl [G0]; · iexact G0
    isplitl [D0]; · iexact D0
    iexact P0
  · iapply (dealt_of 1 c)
    isplitr; · iexact HB
    isplitl [H1]; · iexact H1
    isplitl [T10 T11]
    · isplitl [T10]; · iexact T10
      iexact T11
    isplitl [G1]; · iexact G1
    isplitl [D1]; · iexact D1
    iexact P1

/-! ## The stocks -/

theorem by_key (Φ : Fin 2 × Dev nD × Bool → sProp 𝕄) :
    bigSep Finset.univ Φ = bigSep Finset.univ fun p : Fin 2 × Dev nD => iprop(Φ (p.1, p.2, true) ∗ Φ (p.1, p.2, false)) := by
  rw [bigSep_univ_prod, bigSep_univ_prod]
  refine bigSep_congr fun δ _ => ?_
  rw [bigSep_univ_prod]
  refine bigSep_congr fun c _ => ?_
  rw [show (Finset.univ : Finset Bool) = {true, false} from by decide, bigSep_insert (by decide), bigSep_singleton]
  rfl
theorem by_dev (Φ : Fin 2 × Dev nD → sProp 𝕄) :
    bigSep Finset.univ Φ = bigSep Finset.univ fun c : Dev nD => iprop(Φ (0, c) ∗ Φ (1, c)) := by
  rw [bigSep_univ_prod, bigSep_fin_two, bigSep_sep']
  rfl

theorem stock_init (p : Fin 2 × Dev nD) :
    iprop(initState EC (p.1, p.2, true) ∗ initState EC (p.1, p.2, false)) ⊢ stock (F := F) p.1 p.2 := by
  unfold stock initState
  iintro ⟨⟨H, -⟩, H', -⟩
  iexists 0
  iexists 0
  isplitl [H]; · iexact H
  isplitl [H']; · iexact H'
  isplitr; · ipureintro; exact Nat.le_refl 0
  rw [Finset.Ico_self, bigSep_empty]
  iempintro

theorem keys_dealt : bigSep Finset.univ (fun x : Fin 2 × Dev nD × Bool => (atPos EC x 0 ∅ 0 : sProp 𝕄))
    ⊢ bigSep Finset.univ fun c : Dev nD => iprop((takenOut (F := F) 0 c 0 ∗ takenOut 1 c 0) ∗ (putIn 0 c 0 ∗ putIn 1 c 0)) := by
  rw [by_key, bigSep_sep', bigSep_sep', by_dev, by_dev, bigSep_sep', bigSep_sep', bigSep_sep', bigSep_sep',
    bigSep_univ_equiv (turn 0).symm (fun c : Dev nD => (atPos EC ((0 : Fin 2), c, true) 0 ∅ 0 : sProp 𝕄)),
    bigSep_univ_equiv (turn 1).symm (fun c : Dev nD => (atPos EC ((1 : Fin 2), c, true) 0 ∅ 0 : sProp 𝕄))]
  iintro ⟨H, H'⟩
  isplitl [H']; · iexact H'
  iexact H

theorem stocks_alloc : (BI.own (EC (initOf Finset.univ ∅)) : sProp 𝕄)
    ⊢ |={Set.univ}=> iprop((∃ K, stocks K) ∗ bigSep Finset.univ fun c : Dev nD => iprop((takenOut (F := F) 0 c 0 ∗ takenOut 1 c 0) ∗ (putIn 0 c 0 ∗ putIn 1 c 0))) := by
  iintro H
  imod (show (BI.own (EC (initOf Finset.univ ∅)) : sProp 𝕄) ⊢ |={Set.univ}=> _ from (fund_init EC Finset.univ ∅).trans bupd_fupd) $$ H with ⟨Hi, -, Ha, -⟩
  ihave Hi := (Entails.of_eq (by_key (F := F) fun x => initState EC x)) $$ Hi
  imod (show bigSep Finset.univ (fun p : Fin 2 × Dev nD => iprop(initState EC (p.1, p.2, true) ∗ initState EC (p.1, p.2, false)))
      ⊢ (|={Set.univ}=> ∃ K, stocks (F := F) K : sProp 𝕄) from
    (bigSep_mono fun p _ => stock_init p).trans ((invs_alloc (fun p : Fin 2 × Dev nD => stock (F := F) p.1 p.2)).trans (fupd_mono (exists_mono fun K => and_elim_r)))) $$ Hi with HS
  imodintro
  isplitl [HS]; · iexact HS
  iapply (keys_dealt (F := F)); iexact Ha

end Cert.RingK
-- ==== Proof.Run.lean ====
/-
The whole program on every device: the launch deals the ghost state, the host part makes the table, the region runs, and at the
end every argument is unchanged, every result is in place and every semaphore reads zero.
-/
module

public import proofs.«01_k».proof.Proof.Talk
public import proofs.«01_k».proof.Proof.Deal

@[expose] public section

noncomputable section

namespace Cert.RingK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The cells -/

def barAt : Dev nD ↪ GSem nD τ sig := ⟨fun c => cell .bar c, fun _ _ h => (cell_inj h).2⟩
def ownAt : Dev nD × SK ↪ GSem nD τ sig :=
  ⟨fun p => cell (kd p.2) p.1, fun _ _ h => Prod.ext (cell_inj h).2 (kd_inj (cell_inj h).1)⟩
/-- The barrier semaphores; the semaphores the region owns. -/
def barCells : Finset (GSem nD τ sig) := Finset.univ.map barAt
def ownCells : Finset (GSem nD τ sig) := Finset.univ.map ownAt

theorem kd_onto : ∀ k : Kd, k = .bar ∨ ∃ j, kd j = k
  | .bar => .inl rfl
  | .cred δ => .inr ⟨.inl δ, rfl⟩
  | .send δ σ χ => .inr ⟨.inr (.inl (δ, χ, σ)), rfl⟩
  | .recv δ σ χ => .inr ⟨.inr (.inr (δ, χ, σ)), rfl⟩

theorem cells_apart : Disjoint barCells ownCells := by
  refine Finset.disjoint_left.mpr fun g hb ho => ?_
  obtain ⟨c, -, rfl⟩ := Finset.mem_map.mp hb
  obtain ⟨p, -, h⟩ := Finset.mem_map.mp ho
  exact kd_ne p.2 (cell_inj h).1

theorem cell_mem (k : Kd) (c : Dev nD) : cell k c ∈ barCells ∪ ownCells := by
  obtain rfl | ⟨j, rfl⟩ := kd_onto k
  · exact Finset.mem_union_left _ (Finset.mem_map_of_mem barAt (Finset.mem_univ c))
  · exact Finset.mem_union_right _ (Finset.mem_map_of_mem ownAt (Finset.mem_univ (c, j)))

theorem invs_of (κ : GSem nD τ sig → ℕ) :
    bigSep (barCells ∪ ownCells) (fun g => cellInv ER (rd (Xm m) (Wm m)) (κ g) g) ⊢ invs (Xm m) (Wm m) κ := by
  unfold invs
  exact BI.bigSep_intro_persistent fun p _ => bigSep_elim (cell_mem p.1 p.2)

theorem over_bars (Φ : GSem nD τ sig → sProp 𝕄) : bigSep barCells Φ = bigSep Finset.univ fun c : Dev nD => Φ (cell .bar c) := by
  unfold barCells
  exact bigSep_map (s := Finset.univ) barAt (Φ := Φ)
theorem over_own (Φ : GSem nD τ sig → sProp 𝕄) :
    bigSep ownCells Φ = bigSep Finset.univ fun c : Dev nD => bigSep Finset.univ fun k : SK => Φ (cell (kd k) c) := by
  unfold ownCells
  rw [bigSep_map, bigSep_univ_prod]
  rfl

/-! ## The launch -/

/-- The ghost state at the start: of the staging cells, of the protocol's cells, of the stocks. -/
def ring₀ : URounds (GSem nD τ sig) ℕ × URounds (Fin 2 × Dev nD × Bool) ℕ := (launchOf barCells ownCells tokens, initOf Finset.univ ∅)
def u₀ : UU := (initOf (Pipeline.cells cfgs cellOf_inj) (Pipeline.launchToks cfgs cellOf_inj), ring₀)

/-- Device 0 carries what is not yet divided. -/
def carry (c : Dev nD) : sProp 𝕄 := if c = 0 then BI.own (embR ring₀) else iprop(emp)
theorem carried : bigSep Finset.univ (carry (F := F)) = BI.own (embR ring₀) := by
  rw [bigSep_univ_at _ (0 : Dev nD), bigSep_congr (s := Finset.univ.erase (0 : Dev nD)) (Φ := carry) (Ψ := fun _ => (BI.emp : sProp 𝕄))
      fun c hc => if_neg (Finset.ne_of_mem_erase hc),
    BI.bigSep_emp_const, show carry (F := F) 0 = BI.own (embR ring₀) from if_pos rfl]
  exact equiv_iff.mp BI.sep_emp

theorem unscopedSems0_eq (c : Dev nD) : (unscopedSems0 c : sProp 𝕄) = semVal (cell .bar c) 0 := by
  unfold unscopedSems0
  rw [show (Finset.univ.filter fun sm : SemLoc sig => ¬ sm.isScoped .tc) = {SemLoc.reg barS} from by decide, BI.bigSep_singleton]
  rfl

/-- What device `c` holds beside its arrays when the cells are funded. -/
def asideOf (c : Dev nD) : sProp 𝕄 :=
  iprop((share c ∗ bigSep Finset.univ fun k : SK => openTok ER (cell (kd k) c)) ∗ (∃ r, prngReg c r) ∗ ∃ W, owes (c : Thread nD τ) (O₀ c) W)

theorem pair_up {Φ Ψ : Dev nD → sProp 𝕄} : iprop(bigSep Finset.univ Φ ∗ bigSep Finset.univ Ψ) ⊢ bigSep Finset.univ fun c => iprop(Φ c ∗ Ψ c) :=
  Entails.of_eq (bigSep_sep' Finset.univ Φ Ψ).symm

theorem ride_of (c : Dev nD) : iprop((bars ∗ ∃ K : Names, invs (Xm m) (Wm m) K.1 ∗ stocks K.2) ∗ asideOf c) ⊢ ride m 0 c := by
  unfold asideOf
  show _ ⊢ iprop(pending m c ∗ (∃ r, prngReg c r) ∗ ∃ W, owes (c : Thread nD τ) (O₀ c) W)
  unfold pending
  iintro ⟨⟨#HB, #HK⟩, ⟨Hs, Ho⟩, HR⟩
  isplitl [Hs Ho]
  · isplitr; · iexact HK
    isplitl [Hs]
    · iapply (seeds_of c)
      isplitr; · iexact HB
      iexact Hs
    iexact Ho
  iexact HR

theorem some_reg (ρ : Dev nD → PrngReg) :
    (bigSep Finset.univ fun c : Dev nD => (prngReg c (ρ c) : sProp 𝕄)) ⊢ bigSep Finset.univ fun c : Dev nD => iprop(∃ r, prngReg c r) :=
  have h (c : Dev nD) : (prngReg c (ρ c) : sProp 𝕄) ⊢ iprop(∃ r, prngReg c r) := by iintro H; iexists (ρ c); iexact H
  bigSep_mono fun c _ => h c
theorem some_waits :
    (bigSep Finset.univ fun c : Dev nD => (owes (c : Thread nD τ) (O₀ c) ∅ : sProp 𝕄))
      ⊢ bigSep Finset.univ fun c : Dev nD => iprop(∃ W, owes (c : Thread nD τ) (O₀ c) W) :=
  have h (c : Dev nD) : (owes (c : Thread nD τ) (O₀ c) ∅ : sProp 𝕄) ⊢ iprop(∃ W, owes (c : Thread nD τ) (O₀ c) W) := by iintro H; iexists ∅; iexact H
  bigSep_mono fun c _ => h c

theorem fund_all (ρ : Dev nD → PrngReg) :
    iprop((bigSep Finset.univ fun c : Dev nD => iprop(unscopedSems0 c ∗ owes (c : Thread nD τ) (O₀ c) ∅ ∗ Pipeline.launchCred O₀ c ∗ prngReg c (ρ c) ∗ carry c)) ∗ levAts L lv)
      ⊢ (|={Set.univ}=> bigSep Finset.univ (ride m 0) : sProp 𝕄) := by
  rw [bigSep_sep', bigSep_sep', bigSep_sep', bigSep_sep', carried,
    bigSep_congr (s := Finset.univ) fun c _ => unscopedSems0_eq (F := F) c, ← over_bars fun g => (semVal g 0 : sProp 𝕄)]
  iintro ⟨⟨Hv, HO, Hc, Hp, Hu⟩, -⟩
  ihave Hu := (own_pair_emb (embR : Emb _ 𝕄) _ _) $$ Hu
  icases Hu with ⟨Hr, Hk⟩
  imod (Rounds.fund_launch ER (rd (Xm m) (Wm m)) cells_apart (fun _ _ h => h) tokens) $$ [Hv Hr] with ⟨%κ, -, #HI, #HB, Ha, Ho, Ht⟩
  · isplitl [Hv]; · iexact Hv
    iexact Hr
  ihave Hk := (show (BI.own ((Emb.inr.trans embR) ring₀.2) : sProp 𝕄) ⊢ BI.own (EC (initOf Finset.univ ∅)) from .rfl) $$ Hk
  imod (stocks_alloc (F := F)) $$ Hk with ⟨⟨%K, #HS⟩, Hk⟩
  imodintro
  iapply (bigSep_with_persistent (R := iprop(bars ∗ ∃ K : Names, invs (Xm m) (Wm m) K.1 ∗ stocks K.2)) (Φ := asideOf) fun c _ => ride_of m c)
  isplitr
  · isplitr
    · iapply (show bigSep barCells (fun g => (reached ER g 0 : sProp 𝕄)) ⊢ bars from Entails.of_eq (over_bars _)); iexact HB
    iexists (κ, K)
    isplitr
    · iapply (invs_of m κ); iexact HI
    iexact HS
  unfold asideOf share
  iapply pair_up
  isplitl [Ha Ht Hk Hc Ho]
  · iapply pair_up
    isplitl [Ha Ht Hk Hc]
    · iapply pair_up
      isplitl [Ha]
      · iapply (Entails.of_eq (over_bars fun g => (atPos ER g 0 ∅ 0 : sProp 𝕄))); iexact Ha
      iapply pair_up
      isplitl [Ht]
      · iapply (Entails.of_eq (tokens_dealt (F := F))); iexact Ht
      iapply pair_up
      isplitl [Hk]; · iexact Hk
      iexact Hc
    iapply (Entails.of_eq (over_own fun g => (openTok ER g : sProp 𝕄))); iexact Ho
  iapply pair_up
  isplitl [Hp]
  · iapply (some_reg (F := F) ρ); iexact Hp
  · iapply (some_waits (F := F)); iexact HO

/-! ## The run -/

theorem unscoped_eq : ∀ sm : SemLoc sig, sm.isScoped .tc = false → sm = .reg barS := by decide

/-- What a device's memory and its barrier counter read at the end. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v12) = outV (Xm m) (Wm m) c) ∧ s.sem (cell .bar c) = 0

theorem read_end (c : Dev nD) (s' : Phys nD τ sig (Elt F)) :
    iprop((StableHlo.held (c : Thread nD τ) (Pipeline.ucRefs τ sig) (V_end m c) ∗ zero c .bar) ∗ SI s')
      ⊢ (|={Set.univ}=> iprop(⌜Ends m c s'.mem⌝ ∗ SI s') : sProp 𝕄) := by
  unfold StableHlo.held zero
  iintro ⟨⟨Hh, Hb⟩, HSI⟩
  icombine HSI Hb gives %hb
  ihave Hr := (pointsTo_read_all (Pipeline.ucRefs τ sig) (fun b => ((c : Thread nD τ).1, b)) (V_end m c) s') $$ [Hh HSI]
  · isplitl [Hh]; · iexact Hh
    iexact HSI
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V9_main_arg0 m (results m) c),
      (h (Proc.devRef .tc main_arg1) (Finset.mem_filter.mpr ⟨StableHlo.devRef_mem_tcRefs main_arg1, by decide⟩)).trans (V9_main_arg1 m (results m) c),
      (h (Proc.devRef .tc main_v12) (Finset.mem_filter.mpr ⟨StableHlo.devRef_mem_tcRefs main_v12, by decide⟩)).trans (V_end_out m c)⟩, by simpa using hb⟩
  iexact HSI

theorem run_last (c : Dev nD) : (reg0 m).post c ⊢ iprop((StableHlo.held (c : Thread nD τ) (Pipeline.ucRefs τ sig) (V_end m c) ∗ zero c .bar)
    ∗ ∃ W, owes (c : Thread nD τ) (0 : Tl) W) := by
  refine (reg0_post m c).trans ?_
  show iprop(StableHlo.held (c : Thread nD τ) (Pipeline.ucRefs τ sig) (V_end m c) ∗ (zero c .bar ∗ ∃ W, owes (c : Thread nD τ) (0 : Tl) W)) ⊢ _
  iintro ⟨Hh, Hb, HO⟩
  isplitr [HO]
  · isplitl [Hh]; · iexact Hh
    iexact Hb
  iexact HO

theorem run_first (ρ : Dev nD → PrngReg) :
    iprop((bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ carry c)) ∗ levAts L lv)
      ⊢ (|={Set.univ}=> bigSep Finset.univ fun c : Dev nD => iprop(StableHlo.held (c : Thread nD τ) (Pipeline.ucRefs τ sig) (V0 m c) ∗ ride m 0 c) : sProp 𝕄) := by
  rw [bigSep_sep' Finset.univ (fun c : Dev nD => (unscopedBufs c (fun b => m ((c.tc : Thread nD τ).loc b)) : sProp 𝕄)),
    bigSep_congr (s := Finset.univ) (Φ := fun c : Dev nD => (unscopedBufs c (fun b => m ((c.tc : Thread nD τ).loc b)) : sProp 𝕄))
      fun c _ => Pipeline.unscopedBufs_held (Ix := ℕ) (Name := ℕ) (U := UU) (Lvl := ℕ) c (V0 m c)]
  iintro ⟨⟨Hh, Hr⟩, Hl⟩
  imod (fund_all m ρ) $$ [Hr Hl] with HR
  · isplitl [Hr]; · iexact Hr
    iexact Hl
  imodintro
  iapply (Entails.of_eq (bigSep_sep' Finset.univ (fun c : Dev nD => (StableHlo.held (c : Thread nD τ) (Pipeline.ucRefs τ sig) (V0 m c) : sProp 𝕄)) (ride m 0)).symm)
  isplitl [Hh]; · iexact Hh
  iexact HR

set_option backward.isDefEq.respectTransparency.types false in
/-- Every execution ends, with the arguments as they were, the results in place and every semaphore at zero. -/
theorem run (ρ : Dev nD → PrngReg) : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_v12) = outV (Xm m) (Wm m) c) ∧ r.2.sem = fun _ => 0) :=
  Pipeline.θ_run_regions_kit_dev_sems (pcfgs (F := F)) adm (pdats m) 0 cellOf_inj EP defs₀ 𝒱₀ L lv m ρ main
    (segs m 𝒱₀ L lv (ride m) 0 (pdats m) (reg0 m))
    (fun c Q => by
      rewrite [main_chain c, Pipeline.Seg.run_eq_chain,
        show (segs m 𝒱₀ L lv (ride m) 0 (pdats m) (reg0 m) c).map Pipeline.Seg.prog = [StableHlo.seq (hostOps0 c), StableHlo.seq hostOps0_1,
          StableHlo.seq hostOps0_2, StableHlo.seq hostOps0_3, StableHlo.seq hostOps0_4, StableHlo.seq hostOps0_5, StableHlo.seq hostOps0_6,
          StableHlo.seq hostOps0_7, Prog.lift (.customCall (Pipeline.entry 0) ())] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := carry) (u₀ := u₀)
    (hu₀ := by
      unfold u₀
      rw [carried]
      iintro Hu
      ihave H := (ownU_pair _ _) $$ Hu
      icases H with ⟨HP, HX⟩
      imodintro
      isplitl [HP]; · iexact HP
      iexact HX)
    (T₀ := fun c : Dev nD => iprop(StableHlo.held (c : Thread nD τ) (Pipeline.ucRefs τ sig) (V0 m c) ∗ ride m 0 c))
    (Tₙ := fun c : Dev nD => iprop(StableHlo.held (c : Thread nD τ) (Pipeline.ucRefs τ sig) (V_end m c) ∗ zero c .bar))
    (hch := fun c => ⟨.rfl, .rfl, .rfl, .rfl, .rfl, .rfl, .rfl, .rfl, reg0_pre m c, run_last m c⟩)
    (hinit := run_first m ρ) (QY := Ends m) (hfin := read_end m)
    (hQ := fun s h hs => ⟨fun c => (h c).1, sem_eq_zero hs fun c sm hsm => by
      obtain rfl := unscoped_eq sm hsm
      exact (h c).2⟩)

end Cert.RingK
-- ==== Proof.Bits.Glue.lean ====
/-
The printed body of the kernel is the body of `Pieces`, in which one step is written once.
-/
module

public import proofs.«01_k».proof.Proof.Bits.Pieces

@[expose] public section

noncomputable section

namespace Cert.RingB

open Cert.Kernel Cert.Kernel.Gen
open Idealize.ShloMosaic Idealize.SL.Sem

variable {F : FTy → Type} [FloatOps F]

set_option maxRecDepth 1000000 in
set_option maxHeartbeats 0 in
theorem body_eq (a0 : Memref sig .tc .smem S66 .i32) (h0) (x : Memref sig .tc .vmem S8192x256 .f32) (h1)
  (w : Memref sig .tc .vmem S256x4096 .f32) (h2) (out : Memref sig .tc .vmem S256x4096 .f32) (h3)
  (sf : Memref sig .tc .vmem S2x256x2048 .f32) (h4) (rf : Memref sig .tc .vmem S2x256x2048 .f32) (h5)
  (sr : Memref sig .tc .vmem S2x256x2048 .f32) (h6) (rr : Memref sig .tc .vmem S2x256x2048 .f32) (h7)
  (ssf rsf ssr rsr : DmaSems sig S2x2) (cf cr : Sems sig S_) :
  cc0_body (F := F) a0 h0 x h1 w h2 out h3 sf h4 rf h5 sr h6 rr h7 ssf rsf ssr rsr cf cr
    = body a0 x w out sf rf sr rr ssf rsf ssr rsr cf cr := rfl

end Cert.RingB
-- ==== Proof.Sum.lean ====
/-
What the ring computes, over the extended reals: the sum over all devices of the products of their blocks.
-/
module

public import proofs.«01_k».proof.Proof.End
public import Idealize.ShloMosaic.Lib.Pointwise.Contract
public import Idealize.ShloMosaic.Lib.Pointwise.Reshape
public import Idealize.ShloMosaic.PureOps.Ideal.Laws

@[expose] public section

noncomputable section

namespace Cert.RingK

open Cert.KernelIdeal Cert.KernelIdeal.Gen
open Idealize.ShloMosaic
open scoped BigOperators

/-! ## One device's product at an element -/

theorem off_row : ∀ d : Dev nD, k0_off1 (dw d) 0 = 256 * d.val := by decide
theorem off_col : ∀ d : Dev nD, k0_off1 (dw d) 1 = 0 := by decide

variable (X : Dev nD → Vec Ideal S8192x256 .f32) (Wt : Dev nD → Vec Ideal S256x4096 .f32)

/-- Row `r` of block `d` among all the rows. -/
def rowAt (d : Dev nD) (r : Fin 256) : Fin 8192 := ⟨256 * d.val + r.val, by have h : d.val < 32 := d.isLt; omega⟩

/-- What device `e` adds to row `r` of block `d`, column `n`. -/
def term (d e : Dev nD) (r : Fin 256) (n : Fin 4096) : EReal := ∑ k : Fin 256, X e (ix2 (rowAt d r) k) * Wt e (ix2 k n)

theorem rows_at (x : Vec Ideal S8192x256 .f32) (d : Dev nD) (r k : Fin 256) : rows x d (ix2 r k) = x (ix2 (rowAt d r) k) := by
  unfold rows
  refine congrArg x (funext fun a => Fin.ext ?_)
  match a with
  | ⟨0, _⟩ => show k0_off1 (dw d) 0 + 1 * r.val = 256 * d.val + r.val; rw [off_row, Nat.one_mul]
  | ⟨1, _⟩ => show k0_off1 (dw d) 1 + 1 * k.val = k.val; rw [off_col]; omega
theorem wcols_at (w : Vec Ideal S256x4096 .f32) (δ : Fin 2) (k : Fin 256) (n : Fin 2048) (n' : Fin 4096) (h : n'.val = 2048 * δ.val + n.val) :
    wcols w δ (ix2 k n) = w (ix2 k n') := by
  unfold wcols
  refine congrArg w (funext fun a => Fin.ext ?_)
  match a with
  | ⟨0, _⟩ => show 0 + 1 * k.val = k.val; omega
  | ⟨1, _⟩ => show 2048 * δ.val + 1 * n.val = n'.val; omega

theorem prod_at (δ : Fin 2) (d e : Dev nD) (r : Fin 256) (n : Fin 2048) (n' : Fin 4096) (h : n'.val = 2048 * δ.val + n.val) :
    (prodV δ (X e) (Wt e) d (ix2 r n) : EReal) = term X Wt d e r n' := by
  unfold prodV
  rw [shapeCast_id, shapeCast_id]
  show Ideal.matmul dot_S256x256_S256x2048_S256x2048_1_0_0_1_n_n (rows (X e) d) (wcols (Wt e) δ) (fun _ => Ideal.ofBits .f32 0x00000000#32) (ix2 r n) = _
  rw [Ideal.matmul_apply₁_of dot_S256x256_S256x2048_S256x2048_1_0_0_1_n_n rfl rfl _ _ _ _ (fun k => ix2 r k) (fun k => ix2 k n)
    (fun k => funext fun a => by match a with
      | ⟨0, _⟩ => rfl
      | ⟨1, _⟩ => rfl)
    (fun k => funext fun a => by match a with
      | ⟨0, _⟩ => rfl
      | ⟨1, _⟩ => rfl), Ideal.ofBits_zero_f32, zero_add]
  exact Finset.sum_congr rfl fun k _ => congrArg₂ (fun a b : EReal => a * b) (rows_at (X e) d r k) (wcols_at (Wt e) δ k n n' h)

/-! ## The ring's sum -/

/-- The device `t` places back. -/
def far (δ : Fin 2) : ℕ → Dev nD → Dev nD
  | 0, c => c
  | t + 1, c => far δ t (back δ c)

theorem far_bij (δ : Fin 2) (c : Dev nD) : Function.Bijective fun t : Fin 32 => far δ t.val c := by
  refine Function.Injective.bijective_of_finite ?_
  revert δ c
  decide +kernel

theorem acc_at (δ χ : Fin 2) (r : Fin 256) (q : Fin 1024) (n : Fin 4096) (h : n.val = 2048 * δ.val + 1024 * χ.val + q.val) :
    ∀ (s : ℕ) (c : Dev nD), (acc X Wt δ χ s c (ix2 r q) : EReal) = ∑ t ∈ Finset.range (s + 1), term X Wt (blk δ s c) (far δ t c) r n := by
  have hq : 1024 * χ.val + q.val < 2048 := by have := q.isLt; have := χ.isLt; omega
  have hm (s : ℕ) (c : Dev nD) : (cols (mine X Wt δ s c) χ (ix2 r q) : EReal) = term X Wt (blk δ s c) c r n := by
    have e : cols (mine X Wt δ s c) χ (ix2 r q) = mine X Wt δ s c (ix2 r ⟨1024 * χ.val + q.val, hq⟩) := by
      refine congrArg (mine X Wt δ s c) (funext fun a => Fin.ext ?_)
      match a with
      | ⟨0, _⟩ => show 0 + r.val = r.val; omega
      | ⟨1, _⟩ => exact rfl
    rw [e]
    exact prod_at X Wt δ (blk δ s c) c r _ n (by show n.val = 2048 * δ.val + (1024 * χ.val + q.val); omega)
  intro s
  induction s with
  | zero =>
    intro c
    rw [Finset.sum_range_one]
    exact hm 0 c
  | succ s ih =>
    intro c
    rw [Finset.sum_range_succ']
    show (acc X Wt δ χ s (back δ c) (ix2 r q) : EReal) + cols (mine X Wt δ (s + 1) c) χ (ix2 r q) = _
    rw [ih, hm]
    rfl

/-- Row `r`, column `n` of block `c` of the product of the whole arrays. -/
def total (c : Dev nD) (r : Fin 256) (n : Fin 4096) : EReal := ∑ e : Dev nD, term X Wt c e r n

theorem acc_last (δ χ : Fin 2) (r : Fin 256) (q : Fin 1024) (n : Fin 4096) (h : n.val = 2048 * δ.val + 1024 * χ.val + q.val) (c : Dev nD) :
    (acc X Wt δ χ 31 c (ix2 r q) : EReal) = total X Wt c r n := by
  rw [acc_at X Wt δ χ r q n h, blk_last, Finset.sum_range]
  exact Function.Bijective.sum_comp (far_bij δ c) fun e => term X Wt c e r n

/-- The result of device `c` at an element. -/
theorem out_at (c : Dev nD) (r : Fin 256) (n : Fin 4096) :
    (outV X Wt c (ix2 r n) : EReal) = total X Wt c r n * Ideal.logistic (total X Wt c r n) := by
  have hq : inQuarter (ix2 r n) = ix2 r ⟨n.val % 1024, Nat.mod_lt _ (by decide)⟩ := funext fun a => by
    match a with
    | ⟨0, _⟩ => rfl
    | ⟨1, _⟩ => rfl
  show (acc X Wt (dirOf (ix2 r n)) (halfOf (ix2 r n)) 31 c (inQuarter (ix2 r n)) : EReal)
    * Ideal.logistic (acc X Wt (dirOf (ix2 r n)) (halfOf (ix2 r n)) 31 c (inQuarter (ix2 r n))) = _
  rw [hq, acc_last X Wt _ _ r _ n (by
    show n.val = 2048 * (n.val / 2048) + 1024 * (n.val / 1024 % 2) + n.val % 1024
    omega)]

end Cert.RingK
-- ==== Proof.Whole.lean ====
/-
The reference over the whole arrays, and that each device's result is its block of it.
-/
module

public import proofs.«01_k».proof.Proof.Sum
public import proofs.«01_k».proof.Proof.Gen.ReferenceIdeal
public import Idealize.ShloMosaic.Lib.Layout
public import Idealize.ShloMosaic.Lib.IdealHost

@[expose] public section

noncomputable section

namespace Cert.RingK

open Idealize.ShloMosaic
open scoped BigOperators

variable (A : Vec Ideal ⟨2, ![8192, 8192]⟩ .f32) (B : Vec Ideal ⟨2, ![8192, 4096]⟩ .f32)

/-! ## The product of the whole arrays -/

/-- The product of the whole arrays at an element. -/
def dotAt (r : Fin 8192) (n : Fin 4096) : EReal := ∑ k : Fin 8192, A (ix2 r k) * B (ix2 k n)

/-- The devices' blocks. -/
abbrev xs (c : Dev Cert.KernelIdeal.nD) : Vec Ideal ⟨2, ![8192, 256]⟩ .f32 := Layout.block ⟨2, ![8192, 256]⟩ ⟨2, ![8192, 8192]⟩ 1 32 c A
abbrev ws (c : Dev Cert.KernelIdeal.nD) : Vec Ideal ⟨2, ![256, 4096]⟩ .f32 := Layout.block ⟨2, ![256, 4096]⟩ ⟨2, ![8192, 4096]⟩ 0 32 c B

theorem xs_at (e : Dev Cert.KernelIdeal.nD) (r : Fin 8192) (k : Fin 256) : xs A e (ix2 r k) = A (ix2 r (rowAt e k)) := by
  refine congrArg A (funext fun a => Fin.ext ?_)
  match a with
  | ⟨0, _⟩ => rfl
  | ⟨1, _⟩ => show e.val * 256 + k.val = 256 * e.val + k.val; omega
theorem ws_at (e : Dev Cert.KernelIdeal.nD) (k : Fin 256) (n : Fin 4096) : ws B e (ix2 k n) = B (ix2 (rowAt e k) n) := by
  refine congrArg B (funext fun a => Fin.ext ?_)
  match a with
  | ⟨0, _⟩ => show e.val * 256 + k.val = 256 * e.val + k.val; omega
  | ⟨1, _⟩ => rfl

theorem sum_blocks (f : Fin 8192 → EReal) : ∑ k : Fin 8192, f k = ∑ e : Fin 32, ∑ k : Fin 256, f (rowAt e k) := by
  rw [← Fintype.sum_prod_type' (f := fun (e : Fin 32) (k : Fin 256) => f (rowAt e k)),
    ← Equiv.sum_comp (finProdFinEquiv (m := 32) (n := 256)) (fun k : Fin (32 * 256) => f k)]
  refine Finset.sum_congr rfl fun p _ => congrArg f (Fin.ext ?_)
  show p.2.val + 256 * p.1.val = 256 * p.1.val + p.2.val
  omega

theorem total_dotAt (c : Dev Cert.KernelIdeal.nD) (r : Fin 256) (n : Fin 4096) : total (xs A) (ws B) c r n = dotAt A B (rowAt c r) n := by
  unfold dotAt
  rw [sum_blocks]
  refine Finset.sum_congr rfl fun e _ => Finset.sum_congr rfl fun k _ => ?_
  rw [xs_at, ws_at]

/-! ## The gate -/

theorem exp_nonneg : ∀ y : EReal, 0 ≤ Ideal.exp y
  | ⊥ => le_refl _
  | ⊤ => le_top
  | (y : ℝ) => EReal.coe_nonneg.mpr (Real.exp_pos y).le

theorem gate (y : EReal) : y * Ideal.logistic y = Ideal.div y (1 + Ideal.exp (-y)) := by
  have h : 1 + Ideal.exp (-y) ≠ 0 := (lt_of_lt_of_le zero_lt_one (le_add_of_nonneg_right (exp_nonneg (-y)))).ne'
  unfold Ideal.logistic Ideal.div
  rw [if_neg h, if_neg h, one_mul]

/-! ## The reference -/

open Cert.ReferenceIdeal Cert.ReferenceIdeal.Gen in
/-- The reference's product. -/
def product : FVec Ideal S8192x4096 .f32 :=
  Host.dotGeneral (φ₁ := .f32) (φ₂ := .f32) dot_S8192x8192_S8192x4096_S8192x4096_1_0_0_1_n_n none A B

theorem product_at (r : Fin 8192) (n : Fin 4096) : (product A B (ix2 r n) : EReal) = dotAt A B r n := by
  unfold product Host.dotGeneral
  rw [Ideal.dotGeneral_def]
  rw [Ideal.matmul_apply₁_of Cert.ReferenceIdeal.dot_S8192x8192_S8192x4096_S8192x4096_1_0_0_1_n_n rfl rfl _ _ _ _ (fun k => ix2 r k) (fun k => ix2 k n)
    (fun k => funext fun a => by match a with
      | ⟨0, _⟩ => rfl
      | ⟨1, _⟩ => rfl)
    (fun k => funext fun a => by match a with
      | ⟨0, _⟩ => rfl
      | ⟨1, _⟩ => rfl)]
  exact zero_add _

open Cert.ReferenceIdeal Cert.ReferenceIdeal.Gen in
/-- One, everywhere. -/
def ones : FVec Ideal S8192x4096 .f32 := broadcastInDim S8192x4096 ![] bcast_S_S8192x4096 (constant S_ .f32 0x3F800000#32)
theorem ones_at (i : Cert.ReferenceIdeal.S8192x4096.Idx) : (ones i : EReal) = 1 := Ideal.ofBits_one_f32

/-- The reference's result. -/
def gated : FVec Ideal Cert.ReferenceIdeal.S8192x4096 .f32 :=
  Host.divf (product A B) (addf ones (Host.exp (Host.negf (product A B))))

theorem gate_elem (Y : FVec Ideal Cert.ReferenceIdeal.S8192x4096 .f32) (i : Cert.ReferenceIdeal.S8192x4096.Idx) :
    (Host.divf Y (addf ones (Host.exp (Host.negf Y))) i : EReal) = Ideal.div (Y i) (ones i + Ideal.exp (-(Y i : EReal))) := rfl

theorem gated_at (r : Fin 8192) (n : Fin 4096) :
    (gated A B (ix2 r n) : EReal) = dotAt A B r n * Ideal.logistic (dotAt A B r n) := by
  refine (gate_elem (product A B) (ix2 r n)).trans ?_
  rw [ones_at, product_at, gate]

theorem out_block_at (c : Dev Cert.KernelIdeal.nD) (r : Fin 256) (n : Fin 4096) :
    outV (xs A) (ws B) c (ix2 r n) = ws (gated A B) c (ix2 r n) := by
  refine (out_at (xs A) (ws B) c r n).trans ?_
  rw [total_dotAt, ← gated_at]
  exact (ws_at (gated A B) c r n).symm

/-- Every device's result is its block of the reference's. -/
theorem out_block (c : Dev Cert.KernelIdeal.nD) :
    outV (xs A) (ws B) c = Layout.block ⟨2, ![256, 4096]⟩ ⟨2, ![8192, 4096]⟩ 0 32 c (gated A B) := by
  funext i
  rw [eq_ix2 i]
  exact out_block_at A B c (i 0) (i 1)

end Cert.RingK
-- ==== Proof.Clip.lean ====
/-
The reference that clips the argument of the exponential to [-60, 60]: where the product lies in that interval it is the
reference that does not clip.
-/
module

public import proofs.«01_k».proof.Proof.Whole
public import proofs.«01_k».proof.Proof.Gen.ClippedIdeal
public import proofs.«01_k».proof.Proof.Gen.On_within_clip
public import Idealize.ShloMosaic.Lib.Pointwise

@[expose] public section

noncomputable section

namespace Cert.RingK

open Idealize.ShloMosaic

variable (A : Vec Ideal ⟨2, ![8192, 8192]⟩ .f32) (B : Vec Ideal ⟨2, ![8192, 4096]⟩ .f32)

/-! ## The two bounds -/

theorem sixty : Ideal.ofBits .f32 0x42700000#32 = ((60 : ℝ) : EReal) := by
  simp only [Ideal.ofBits, Ideal.ieee]
  simp [← EReal.coe_mul]
  norm_num
theorem minus_sixty : Ideal.ofBits .f32 0xC2700000#32 = -((60 : ℝ) : EReal) := by
  simp only [Ideal.ofBits, Ideal.ieee]
  simp [← EReal.coe_mul]
  norm_num

/-- Clipping changes nothing of a value whose magnitude is within the bound. -/
theorem clip_within (h y : EReal) (hy : max y (-y) ≤ h) : min h (max (-h) y) = y := by
  have hlo : -h ≤ y := EReal.neg_le.mpr ((le_max_right y (-y)).trans hy)
  rw [max_eq_right hlo, min_eq_right ((le_max_left y (-y)).trans hy)]

/-! ## The clipped reference -/

open Cert.ClippedIdeal Cert.ClippedIdeal.Gen in
/-- A bound, everywhere. -/
def bound (w : BitVec 32) : FVec Ideal S8192x4096 .f32 := broadcastInDim S8192x4096 ![] bcast_S_S8192x4096 (id (constant S_ .f32 w))

/-- The clipped reference's result. -/
def clipped : FVec Ideal Cert.ReferenceIdeal.S8192x4096 .f32 :=
  Host.divf (product A B) (addf ones (Host.exp (Host.negf (minimumf (bound 0x42700000#32) (maximumf (bound 0xC2700000#32) (product A B))))))

theorem clipped_elem (H L Y : FVec Ideal Cert.ReferenceIdeal.S8192x4096 .f32) (i : Cert.ReferenceIdeal.S8192x4096.Idx) :
    (Host.divf Y (addf ones (Host.exp (Host.negf (minimumf H (maximumf L Y))))) i : EReal)
      = Ideal.div (Y i) (ones i + Ideal.exp (-(min (H i : EReal) (max (L i) (Y i))))) := rfl

theorem bound_at (w : BitVec 32) (i : Cert.ReferenceIdeal.S8192x4096.Idx) : (bound w i : EReal) = Ideal.ofBits .f32 w := rfl

/-- What the mask says of an element. -/
theorem mask_elem (H Y : FVec Ideal Cert.ReferenceIdeal.S8192x4096 .f32) (i : Cert.ReferenceIdeal.S8192x4096.Idx) :
    cmpf .ole (Host.absf Y) H i = Ideal.cmp .ole (max (Y i : EReal) (-(Y i))) (H i) := rfl

theorem mask_product : Cert.On_within_clip.fn (F := Ideal) A B = cmpf .ole (Host.absf (product A B)) (bound 0x42700000#32) := rfl

theorem within (i : Cert.ReferenceIdeal.S8192x4096.Idx) (h : Cert.On_within_clip.fn (F := Ideal) A B i = 1#1) :
    max (product A B i : EReal) (-(product A B i)) ≤ ((60 : ℝ) : EReal) := by
  rw [mask_product, mask_elem, bound_at, sixty] at h
  exact (Ideal.cmp_ole_eq_one _ _).mp h

/-- Where the mask is set the clipped reference and the reference agree. -/
theorem clipped_at (i : Cert.ReferenceIdeal.S8192x4096.Idx) (h : Cert.On_within_clip.fn (F := Ideal) A B i = 1#1) :
    clipped A B i = gated A B i := by
  refine (clipped_elem _ _ (product A B) i).trans (Eq.trans ?_ (gate_elem (product A B) i).symm)
  rw [bound_at, bound_at, sixty, minus_sixty, clip_within _ _ (within A B i h)]

end Cert.RingK
-- ==== Proof.lean ====
/-
The certificate: the programs' runs (Proof/Run.lean, its copy at the bit-exact floats Proof/Bits/Run.lean, and the reference's own)
and the arithmetic (Proof/Whole.lean) put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.On_within_clip
public import proofs.«01_k».proof.Proof.Run
public import proofs.«01_k».proof.Proof.Bits.Run
public import proofs.«01_k».proof.Proof.Whole
public import proofs.«01_k».proof.Proof.Clip
public import Idealize.ShloMosaic.Lib.Quiescent
public import Idealize.ShloMosaic.Adequacy
public import Idealize.ShloMosaic.Init

@[expose] public section

noncomputable section

namespace Cert.Proof

open Idealize.ShloMosaic Idealize.SL.Sem

theorem quiet_Kernel : Cert.quiescent_Kernel := fun m g _ =>
  (θ_run _ _ _).mono (fun _ h => ⟨fun c => ⟨(h.1 c).1, (h.1 c).2.1⟩, h.2⟩) (Cert.RingB.run m g)

theorem quiet_KernelIdeal : Cert.quiescent_KernelIdeal := fun m g _ =>
  (θ_run _ _ _).mono (fun _ h => ⟨fun c => ⟨(h.1 c).1, (h.1 c).2.1⟩, h.2⟩) (Cert.RingK.run m g)

theorem quiet_ReferenceIdeal : Cert.quiescent_ReferenceIdeal := fun m g _ =>
  (θ_run _ _ _).mono (fun r h => ⟨fun c => (h c).2, sem_eq_zero_of_no_sems rfl r.2⟩) (Cert.ReferenceIdeal.Value.run m g)

theorem quiet_ClippedIdeal : Cert.quiescent_ClippedIdeal := fun m g _ =>
  (θ_run _ _ _).mono (fun r h => ⟨fun c => (h c).2, sem_eq_zero_of_no_sems rfl r.2⟩) (Cert.ClippedIdeal.Value.run m g)

open Cert.KernelIdeal in
/-- Every device's result is its block of the gated product of the whole arrays. -/
theorem value (m : (ℓ : Loc nD τ sig) → Buf (Elt Ideal) ℓ) (g : Dev nD → PrngReg)
    (A : Vec Ideal ⟨2, ![8192, 8192]⟩ .f32) (B : Vec Ideal ⟨2, ![8192, 4096]⟩ .f32)
    (hA : Cert.RingK.Xm m = Cert.RingK.xs A) (hB : Cert.RingK.Wm m = Cert.RingK.ws B) :
    θ_run (defs (F := Ideal)) (onTc (τ := τ) (main (F := Ideal))) ⟨m, fun _ => 0, g⟩ (fun r => ∀ c : Dev nD,
      r.2.mem ((c.tc : Thread nD τ).loc main_v12) = Layout.block ⟨2, ![256, 4096]⟩ ⟨2, ![8192, 4096]⟩ 0 32 c (Cert.RingK.gated A B)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run _ _ _).mono (fun r h c => ⟨(h.1 c).2.2.trans ?_, (h.1 c).1, (h.1 c).2.1⟩) (Cert.RingK.run m g)
  rw [hA, hB]
  exact Cert.RingK.out_block A B c

/-- Kernel and reference compute the same array. -/
theorem same_value : Cert.algebraic_KernelIdeal_ReferenceIdeal := fun m g _ g' _ hargs =>
  ⟨Cert.RingK.gated _ _, value m g _ _ (funext fun d => (hargs d).1) (funext fun d => (hargs d).2),
    (θ_run _ _ _).mono (fun _ h => h 0) (Cert.ReferenceIdeal.Value.run _ g')⟩

/-- Where the product is within the clip, kernel and clipped reference compute the same elements. -/
theorem same_value_clipped : Cert.algebraic_KernelIdeal_ClippedIdeal_on_within_clip := fun m g _ g' _ hargs =>
  ⟨Cert.RingK.gated _ _,
    (θ_run _ _ _).mono (fun _ h c => ⟨fun i _ => congrFun (h c).1 i, (h c).2⟩)
      (value m g _ _ (funext fun d => (hargs d).1) (funext fun d => (hargs d).2)),
    (θ_run _ _ _).mono (fun _ h => ⟨fun i hi => (congrFun (h 0).1 i).trans (Cert.RingK.clipped_at _ _ i hi), (h 0).2⟩)
      (Cert.ClippedIdeal.Value.run _ g')⟩

theorem claim : Cert.Claim := ⟨Cert.Kernel.Gen.facts, Cert.KernelIdeal.Gen.facts, Cert.ReferenceIdeal.Gen.facts,
  Cert.ClippedIdeal.Gen.facts, Cert.On_within_clip.Gen.facts,
  quiet_Kernel, quiet_KernelIdeal, quiet_ReferenceIdeal, quiet_ClippedIdeal, trivial, same_value, same_value_clipped⟩

end Cert.Proof

end
